-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_scales_are_normal [hPre_block_scales_are_normal : Cert.Pre_block_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_block_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_scales_are_normal [hPre_block_scales_are_normal : Cert.Pre_block_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_block_scales_are_normal [hKernelIdeal : Cert.KernelIdeal.Facts] [hPre_block_scales_are_normal : Cert.Pre_block_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_block_scales_are_normal [hReferenceIdeal : Cert.ReferenceIdeal.Facts] [hPre_block_scales_are_normal : Cert.Pre_block_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_block_scales_are_normal [hKernelIdeal : Cert.KernelIdeal.Facts] [hReferenceIdeal : Cert.ReferenceIdeal.Facts] [hPre_block_scales_are_normal : Cert.Pre_block_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_block_scales_are_normal : Cert.Pre_block_scales_are_normal.Facts),
    quiescent_Kernel (hKernel := hKernel)
    ∧ quiescent_KernelIdeal (hKernelIdeal := hKernelIdeal)
    ∧ quiescent_KernelIdeal_pre_block_scales_are_normal (hKernelIdeal := hKernelIdeal) (hPre_block_scales_are_normal := hPre_block_scales_are_normal)
    ∧ quiescent_ReferenceIdeal (hReferenceIdeal := hReferenceIdeal)
    ∧ quiescent_ReferenceIdeal_pre_block_scales_are_normal (hReferenceIdeal := hReferenceIdeal) (hPre_block_scales_are_normal := hPre_block_scales_are_normal)
    ∧ preserves_Kernel_KernelIdeal
    ∧ algebraic_KernelIdeal_ReferenceIdeal_pre_block_scales_are_normal (hKernelIdeal := hKernelIdeal) (hReferenceIdeal := hReferenceIdeal) (hPre_block_scales_are_normal := hPre_block_scales_are_normal)
-- ==== Pre_block_scales_are_normal.lean ====
abbrev S12x512x5120 : Shape := ⟨3, ![12, 512, 5120]⟩
abbrev S12x512 : Shape := ⟨2, ![12, 512]⟩
abbrev S32000x2560 : Shape := ⟨2, ![32000, 2560]⟩
abbrev S32000x160 : Shape := ⟨2, ![32000, 160]⟩
abbrev S_ : Shape := ⟨0, ![]⟩

class Facts : Prop where
  bcast_S_S32000x160 : S_.BroadcastsInDim S32000x160 (![] : Fin 0 → Fin S32000x160.rank)

variable [Facts]

def fn {F : FTy → Type} [FloatOps F] (main_arg0 : FVec F S12x512x5120 .fp8e4m3) (main_arg1 : FVec F S12x512 .f32) (main_arg2 : IVec S32000x2560 8) (main_arg3 : IVec S32000x160 8) : IVec S32000x160 1 :=
  let main_c : IVec S_ 8 := constantI S_ 8 1#8
  let main_v0 : IVec S32000x160 8 := broadcastInDim S32000x160 ![] bcast_S_S32000x160 main_c
  let main_v1 : IVec S32000x160 1 := cmpi .uge main_arg3 main_v0
  let main_c_0 : IVec S_ 8 := constantI S_ 8 254#8
  let main_v2 : IVec S32000x160 8 := broadcastInDim S32000x160 ![] bcast_S_S32000x160 main_c_0
  let main_v3 : IVec S32000x160 1 := cmpi .ule main_arg3 main_v2
  let main_v4 : IVec S32000x160 1 := andi main_v1 main_v3
  main_v4
-- ==== Kernel.lean ====
abbrev S12x512x5120 : Shape := ⟨3, ![12, 512, 5120]⟩
abbrev S12x512 : Shape := ⟨2, ![12, 512]⟩
abbrev S32000x2560 : Shape := ⟨2, ![32000, 2560]⟩
abbrev S32000x160 : Shape := ⟨2, ![32000, 160]⟩
abbrev S6144x5120 : Shape := ⟨2, ![6144, 5120]⟩
abbrev S16x1x384 : Shape := ⟨3, ![16, 1, 384]⟩
abbrev S_ : Shape := ⟨0, ![]⟩
abbrev S32000x256 : Shape := ⟨2, ![32000, 256]⟩
abbrev S32000x5120 : Shape := ⟨2, ![32000, 5120]⟩
abbrev S640x2560 : Shape := ⟨2, ![640, 2560]⟩
abbrev S640x256 : Shape := ⟨2, ![640, 256]⟩
abbrev S640x5120 : Shape := ⟨2, ![640, 5120]⟩
abbrev S640x128 : Shape := ⟨2, ![640, 128]⟩
abbrev S160x128 : Shape := ⟨2, ![160, 128]⟩
abbrev S160x128x1 : Shape := ⟨3, ![160, 128, 1]⟩
abbrev S320x128 : Shape := ⟨2, ![320, 128]⟩
abbrev S6144x32000 : Shape := ⟨2, ![6144, 32000]⟩
abbrev S384x5120 : Shape := ⟨2, ![384, 5120]⟩
abbrev S1x1x384 : Shape := ⟨3, ![1, 1, 384]⟩
abbrev S256x5120 : Shape := ⟨2, ![256, 5120]⟩
abbrev S384x256 : Shape := ⟨2, ![384, 256]⟩
abbrev S125x384x256 : Shape := ⟨3, ![125, 384, 256]⟩
abbrev S384x128 : Shape := ⟨2, ![384, 128]⟩
abbrev S384 : Shape := ⟨1, ![384]⟩
abbrev S384x1 : Shape := ⟨2, ![384, 1]⟩
abbrev S128x384 : Shape := ⟨2, ![128, 384]⟩
abbrev S1x384 : Shape := ⟨2, ![1, 384]⟩
abbrev S384x128x1 : Shape := ⟨3, ![384, 128, 1]⟩
abbrev S1x384x128 : Shape := ⟨3, ![1, 384, 128]⟩
abbrev S12x512x32000 : Shape := ⟨3, ![12, 512, 32000]⟩

abbrev nBuf : Space → Nat
  | .hbm => 16
  | .vmem => 25
  | .smem => 0
  | _ => 0

abbrev bufTy : (tb : Table) → Fin (tcTables nBuf tb) → BufTy
  | .hbm, ⟨0, _⟩ => ⟨S12x512x5120, .fp8e4m3⟩
  | .hbm, ⟨1, _⟩ => ⟨S12x512, .f32⟩
  | .hbm, ⟨2, _⟩ => ⟨S32000x2560, .i8⟩
  | .hbm, ⟨3, _⟩ => ⟨S32000x160, .i8⟩
  | .hbm, ⟨4, _⟩ => ⟨S6144x5120, .fp8e4m3⟩
  | .hbm, ⟨5, _⟩ => ⟨S16x1x384, .f32⟩
  | .hbm, ⟨6, _⟩ => ⟨S_, .i32⟩
  | .hbm, ⟨7, _⟩ => ⟨S_, .i8⟩
  | .hbm, ⟨8, _⟩ => ⟨S32000x256, .i8⟩
  | .hbm, ⟨9, _⟩ => ⟨S32000x5120, .bf16⟩
  | .hbm, ⟨10, _⟩ => ⟨S6144x32000, .fp8e5m2⟩
  | .hbm, ⟨11, _⟩ => ⟨S16x1x384, .f32⟩
  | .hbm, ⟨12, _⟩ => ⟨S16x1x384, .f32⟩
  | .hbm, ⟨13, _⟩ => ⟨S12x512x32000, .fp8e5m2⟩
  | .hbm, ⟨14, _⟩ => ⟨S12x512, .f32⟩
  | .hbm, ⟨15, _⟩ => ⟨S12x512, .f32⟩
  | .local _ .vmem, ⟨0, _⟩ => ⟨S640x2560, .i8⟩
  | .local _ .vmem, ⟨1, _⟩ => ⟨S640x2560, .i8⟩
  | .local _ .vmem, ⟨2, _⟩ => ⟨S640x256, .i8⟩
  | .local _ .vmem, ⟨3, _⟩ => ⟨S640x256, .i8⟩
  | .local _ .vmem, ⟨4, _⟩ => ⟨S640x5120, .bf16⟩
  | .local _ .vmem, ⟨5, _⟩ => ⟨S640x5120, .bf16⟩
  | .local _ .vmem, ⟨6, _⟩ => ⟨S384x5120, .fp8e4m3⟩
  | .local _ .vmem, ⟨7, _⟩ => ⟨S384x5120, .fp8e4m3⟩
  | .local _ .vmem, ⟨8, _⟩ => ⟨S1x1x384, .f32⟩
  | .local _ .vmem, ⟨9, _⟩ => ⟨S1x1x384, .f32⟩
  | .local _ .vmem, ⟨10, _⟩ => ⟨S256x5120, .bf16⟩
  | .local _ .vmem, ⟨11, _⟩ => ⟨S256x5120, .bf16⟩
  | .local _ .vmem, ⟨12, _⟩ => ⟨S384x256, .fp8e5m2⟩
  | .local _ .vmem, ⟨13, _⟩ => ⟨S384x256, .fp8e5m2⟩
  | .local _ .vmem, ⟨14, _⟩ => ⟨S1x1x384, .f32⟩
  | .local _ .vmem, ⟨15, _⟩ => ⟨S1x1x384, .f32⟩
  | .local _ .vmem, ⟨16, _⟩ => ⟨S1x1x384, .f32⟩
  | .local _ .vmem, ⟨17, _⟩ => ⟨S1x1x384, .f32⟩
  | .local _ .vmem, ⟨18, _⟩ => ⟨S125x384x256, .f32⟩
  | .local _ .vmem, ⟨19, _⟩ => ⟨S384x5120, .bf16⟩
  | .local _ .vmem, ⟨20, _⟩ => ⟨S384x128, .f32⟩
  | .local _ .vmem, ⟨21, _⟩ => ⟨S384x128, .f32⟩
  | .local _ .vmem, ⟨22, _⟩ => ⟨S384x128, .f32⟩
  | .local _ .vmem, ⟨23, _⟩ => ⟨S384x128, .f32⟩
  | .local _ .vmem, ⟨24, _⟩ => ⟨S384x128, .f32⟩
  | _, _ => ⟨S12x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc1_scratch4 : Ref sig .tc := ⟨.vmem, 22, rfl⟩
abbrev cc1_scratch5 : Ref sig .tc := ⟨.vmem, 23, rfl⟩
abbrev cc1_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![17, 125], ![false, false]⟩

def k1_cond4 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_off1 (i : grid1.Coords) : Fin 3 → Nat :=
  let arg1 : BitVec 32 := BitVec.ofNat 32 (i 1).val
  let v35 : Index := Scalar.indexCast arg1
  let c0_18 : Index := 0#32
  let c0_19 : Index := 0#32
  ![v35.toNat, 0, 0]
def k1_off2 (i : grid1.Coords) : Fin 3 → Nat :=
  let arg1 : BitVec 32 := BitVec.ofNat 32 (i 1).val
  let v42 : Index := Scalar.indexCast arg1
  let c0_20 : Index := 0#32
  let c128 : Index := 128#32
  ![v42.toNat, 0, 128]
def k1_cond5 (i : grid1.Coords) : BitVec 1 :=
  let arg0 : BitVec 32 := BitVec.ofNat 32 (i 0).val
  let c0_i32_3 : BitVec 32 := 0#32
  let v6 : BitVec 1 := Scalar.cmpi .sgt arg0 c0_i32_3
  let c16_i32 : BitVec 32 := 16#32
  let v7 : BitVec 1 := Scalar.cmpi .slt arg0 c16_i32
  let v8 : BitVec 1 := Scalar.andi v6 v7
  let v9 : BitVec 32 := Scalar.extui v8
  let c0_i32_4 : BitVec 32 := 0#32
  let v10 : BitVec 1 := Scalar.cmpi .ne v9 c0_i32_4
  v10

def k1_off3 (i : grid1.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k1_off4 (i : grid1.Coords) : Fin 3 → Nat :=
  let arg1 : BitVec 32 := BitVec.ofNat 32 (i 1).val
  let v35 : Index := Scalar.indexCast arg1
  let c0_16 : Index := 0#32
  let c128 : Index := 128#32
  ![v35.toNat, 0, 128]
def k1_cond6 (i : grid1.Coords) : BitVec 1 :=
  let arg0 : BitVec 32 := BitVec.ofNat 32 (i 0).val
  let c16_i32_5 : BitVec 32 := 16#32
  let v11 : BitVec 1 := Scalar.cmpi .eq arg0 c16_i32_5
  let v12 : BitVec 32 := Scalar.extui v11
  let c0_i32_6 : BitVec 32 := 0#32
  let v13 : BitVec 1 := Scalar.cmpi .ne v12 c0_i32_6
  v13

def k1_off5 (i : grid1.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k1_off6 (i : grid1.Coords) : Fin 3 → Nat :=
  let arg1 : BitVec 32 := BitVec.ofNat 32 (i 1).val
  let v35 : Index := Scalar.indexCast arg1
  let c0_16 : Index := 0#32
  let c128 : Index := 128#32
  ![v35.toNat, 0, 128]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def k1_cond7 (i : grid1.Coords) : BitVec 1 :=
  let arg0 : BitVec 32 := BitVec.ofNat 32 (i 0).val
  let c0_i32_7 : BitVec 32 := 0#32
  let v14 : BitVec 1 := Scalar.cmpi .sgt arg0 c0_i32_7
  let arg1 : BitVec 32 := BitVec.ofNat 32 (i 1).val
  let c124_i32 : BitVec 32 := 124#32
  let v15 : BitVec 1 := Scalar.cmpi .eq arg1 c124_i32
  let v16 : BitVec 1 := Scalar.andi v14 v15
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sgt arg0 c15_i32
  let c124_i32 : BitVec 32 := 124#32
  let v1 : BitVec 32 := Scalar.select v0 c124_i32 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage1_0 : Fin 2 → Memref sig .tc .vmem S384x5120 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S384x256 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S12x512x5120 : Shape := ⟨3, ![12, 512, 5120]⟩
abbrev S12x512 : Shape := ⟨2, ![12, 512]⟩
abbrev S32000x2560 : Shape := ⟨2, ![32000, 2560]⟩
abbrev S32000x160 : Shape := ⟨2, ![32000, 160]⟩
abbrev S12x512x32000 : Shape := ⟨3, ![12, 512, 32000]⟩
abbrev S1x32000x2560 : Shape := ⟨3, ![1, 32000, 2560]⟩
abbrev S2x32000x2560 : Shape := ⟨3, ![2, 32000, 2560]⟩
abbrev S2x32000x160x16 : Shape := ⟨4, ![2, 32000, 160, 16]⟩
abbrev S1x32000x160x1 : Shape := ⟨4, ![1, 32000, 160, 1]⟩
abbrev S12x512x2560x2 : Shape := ⟨4, ![12, 512, 2560, 2]⟩
abbrev S12x512x2x2560 : Shape := ⟨4, ![12, 512, 2, 2560]⟩
abbrev S12x512x1 : Shape := ⟨3, ![12, 512, 1]⟩

abbrev nBuf : Space → Nat
  | .hbm => 7
  | .vmem => 7
  | .smem => 0
  | _ => 0

abbrev bufTy : (tb : Table) → Fin (tcTables nBuf tb) → BufTy
  | .hbm, ⟨0, _⟩ => ⟨S12x512x5120, .fp8e4m3⟩
  | .hbm, ⟨1, _⟩ => ⟨S12x512, .f32⟩
  | .hbm, ⟨2, _⟩ => ⟨S32000x2560, .i8⟩
  | .hbm, ⟨3, _⟩ => ⟨S32000x160, .i8⟩
  | .hbm, ⟨4, _⟩ => ⟨S12x512x32000, .fp8e5m2⟩
  | .hbm, ⟨5, _⟩ => ⟨S12x512, .f32⟩
  | .hbm, ⟨6, _⟩ => ⟨S12x512, .f32⟩
  | .local _ .vmem, ⟨0, _⟩ => ⟨S12x512x5120, .fp8e4m3⟩
  | .local _ .vmem, ⟨1, _⟩ => ⟨S12x512, .f32⟩
  | .local _ .vmem, ⟨2, _⟩ => ⟨S32000x2560, .i8⟩
  | .local _ .vmem, ⟨3, _⟩ => ⟨S32000x160, .i8⟩
  | .local _ .vmem, ⟨4, _⟩ => ⟨S12x512x32000, .fp8e5m2⟩
  | .local _ .vmem, ⟨5, _⟩ => ⟨S12x512, .f32⟩
  | .local _ .vmem, ⟨6, _⟩ => ⟨S12x512, .f32⟩
  | _, _ => ⟨S12x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x512x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x512x32000 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RoundedLoadX.lean ====
/- The activations' side of the second pallas_call, `cc1_logits`: what its `load_x` step leaves in the bf16 scratch.
   The step moves lanes: of each pair of neighbouring 128-lane tiles it stores the even lanes of both as one tile and the
   odd lanes of both as the next (`xTile 0`, `xTile 1`), 64 times each value.  `xTiles` lists the forty stores and `XB` is
   what they leave; `loadX_run` says that the printed step leaves exactly that. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lane each lane of a tile reads: `2·lane mod 128 + t`, as the kernel computes it. -/
def gIdx (t : BitVec 32) : IVec S384x128 32 :=
  shapeCast S384x128 (shapeCast S384x128x1
    (select (cmpi .slt (addi k1_pay30 (broadcast S384x128 t)) (broadcast S384x128 0#32))
      (addi (addi k1_pay30 (broadcast S384x128 t)) (broadcast S384x128 128#32))
      (addi k1_pay30 (broadcast S384x128 t)))
    shapeCasts_S384x128_S384x128x1) shapeCasts_S384x128x1_S384x128

/-- One stored tile: lanes `t, t+2, …` of the tiles `a` and `b` side by side, times 64, in bf16. -/
def xTile (t : BitVec 32) (a b : Vec F S384x128 .fp8e4m3) : FVec F S384x128 .bf16 :=
  shapeCast S384x128 (mulf (truncf .bf16 (select k1_pay31
      (dynamicGather 1 (extf .f32 (shapeCast S384x128 a shapeCasts_S384x128_S384x128 : FVec F S384x128 .fp8e4m3) bitsLt_fp8e4m3_f32) (gIdx t))
      (dynamicGather 1 (extf .f32 (shapeCast S384x128 b shapeCasts_S384x128_S384x128 : FVec F S384x128 .fp8e4m3) bitsLt_fp8e4m3_f32) (gIdx t))) bitsLt_bf16_f32)
    (broadcast S384x128 (Scalar.ofBits .bf16 0x4280#16 : F .bf16))) shapeCasts_S384x128_S384x128

/-! The forty tiles of a 5120-wide row block. -/
abbrev xr_0 : Rect S384x5120 := Rect.unit (s := S384x5120) ![0, 0] S384x128.size inb_S384x5120_S384x128_0_0
abbrev xr_1 : Rect S384x5120 := Rect.unit (s := S384x5120) ![0, 128] S384x128.size inb_S384x5120_S384x128_0_128
abbrev xr_2 : Rect S384x5120 := Rect.unit (s := S384x5120) ![0, 256] S384x128.size inb_S384x5120_S384x128_0_256
abbrev xr_3 : Rect S384x5120 := Rect.unit (s := S384x5120) ![0, 384] S384x128.size inb_S384x5120_S384x128_0_384
abbrev xr_4 : Rect S384x5120 := Rect.unit (s := S384x5120) ![0, 512] S384x128.size inb_S384x5120_S384x128_0_512
abbrev xr_5 : Rect S384x5120 := Rect.unit (s := S384x5120) ![0, 640] S384x128.size inb_S384x5120_S384x128_0_640
abbrev xr_6 : Rect S384x5120 := Rect.unit (s := S384x5120) ![0, 768] S384x128.size inb_S384x5120_S384x128_0_768
abbrev xr_7 : Rect S384x5120 := Rect.unit (s := S384x5120) ![0, 896] S384x128.size inb_S384x5120_S384x128_0_896
abbrev xr_8 : Rect S384x5120 := Rect.unit (s := S384x5120) ![0, 1024] S384x128.size inb_S384x5120_S384x128_0_1024
abbrev xr_9 : Rect S384x5120 := Rect.unit (s := S384x5120) ![0, 1152] S384x128.size inb_S384x5120_S384x128_0_1152
abbrev xr_10 : Rect S384x5120 := Rect.unit (s := S384x5120) ![0, 1280] S384x128.size inb_S384x5120_S384x128_0_1280
abbrev xr_11 : Rect S384x5120 := Rect.unit (s := S384x5120) ![0, 1408] S384x128.size inb_S384x5120_S384x128_0_1408
abbrev xr_12 : Rect S384x5120 := Rect.unit (s := S384x5120) ![0, 1536] S384x128.size inb_S384x5120_S384x128_0_1536
abbrev xr_13 : Rect S384x5120 := Rect.unit (s := S384x5120) ![0, 1664] S384x128.size inb_S384x5120_S384x128_0_1664
abbrev xr_14 : Rect S384x5120 := Rect.unit (s := S384x5120) ![0, 1792] S384x128.size inb_S384x5120_S384x128_0_1792
abbrev xr_15 : Rect S384x5120 := Rect.unit (s := S384x5120) ![0, 1920] S384x128.size inb_S384x5120_S384x128_0_1920
abbrev xr_16 : Rect S384x5120 := Rect.unit (s := S384x5120) ![0, 2048] S384x128.size inb_S384x5120_S384x128_0_2048
abbrev xr_17 : Rect S384x5120 := Rect.unit (s := S384x5120) ![0, 2176] S384x128.size inb_S384x5120_S384x128_0_2176
abbrev xr_18 : Rect S384x5120 := Rect.unit (s := S384x5120) ![0, 2304] S384x128.size inb_S384x5120_S384x128_0_2304
abbrev xr_19 : Rect S384x5120 := Rect.unit (s := S384x5120) ![0, 2432] S384x128.size inb_S384x5120_S384x128_0_2432
abbrev xr_20 : Rect S384x5120 := Rect.unit (s := S384x5120) ![0, 2560] S384x128.size inb_S384x5120_S384x128_0_2560
abbrev xr_21 : Rect S384x5120 := Rect.unit (s := S384x5120) ![0, 2688] S384x128.size inb_S384x5120_S384x128_0_2688
abbrev xr_22 : Rect S384x5120 := Rect.unit (s := S384x5120) ![0, 2816] S384x128.size inb_S384x5120_S384x128_0_2816
abbrev xr_23 : Rect S384x5120 := Rect.unit (s := S384x5120) ![0, 2944] S384x128.size inb_S384x5120_S384x128_0_2944
abbrev xr_24 : Rect S384x5120 := Rect.unit (s := S384x5120) ![0, 3072] S384x128.size inb_S384x5120_S384x128_0_3072
abbrev xr_25 : Rect S384x5120 := Rect.unit (s := S384x5120) ![0, 3200] S384x128.size inb_S384x5120_S384x128_0_3200
abbrev xr_26 : Rect S384x5120 := Rect.unit (s := S384x5120) ![0, 3328] S384x128.size inb_S384x5120_S384x128_0_3328
abbrev xr_27 : Rect S384x5120 := Rect.unit (s := S384x5120) ![0, 3456] S384x128.size inb_S384x5120_S384x128_0_3456
abbrev xr_28 : Rect S384x5120 := Rect.unit (s := S384x5120) ![0, 3584] S384x128.size inb_S384x5120_S384x128_0_3584
abbrev xr_29 : Rect S384x5120 := Rect.unit (s := S384x5120) ![0, 3712] S384x128.size inb_S384x5120_S384x128_0_3712
abbrev xr_30 : Rect S384x5120 := Rect.unit (s := S384x5120) ![0, 3840] S384x128.size inb_S384x5120_S384x128_0_3840
abbrev xr_31 : Rect S384x5120 := Rect.unit (s := S384x5120) ![0, 3968] S384x128.size inb_S384x5120_S384x128_0_3968
abbrev xr_32 : Rect S384x5120 := Rect.unit (s := S384x5120) ![0, 4096] S384x128.size inb_S384x5120_S384x128_0_4096
abbrev xr_33 : Rect S384x5120 := Rect.unit (s := S384x5120) ![0, 4224] S384x128.size inb_S384x5120_S384x128_0_4224
abbrev xr_34 : Rect S384x5120 := Rect.unit (s := S384x5120) ![0, 4352] S384x128.size inb_S384x5120_S384x128_0_4352
abbrev xr_35 : Rect S384x5120 := Rect.unit (s := S384x5120) ![0, 4480] S384x128.size inb_S384x5120_S384x128_0_4480
abbrev xr_36 : Rect S384x5120 := Rect.unit (s := S384x5120) ![0, 4608] S384x128.size inb_S384x5120_S384x128_0_4608
abbrev xr_37 : Rect S384x5120 := Rect.unit (s := S384x5120) ![0, 4736] S384x128.size inb_S384x5120_S384x128_0_4736
abbrev xr_38 : Rect S384x5120 := Rect.unit (s := S384x5120) ![0, 4864] S384x128.size inb_S384x5120_S384x128_0_4864
abbrev xr_39 : Rect S384x5120 := Rect.unit (s := S384x5120) ![0, 4992] S384x128.size inb_S384x5120_S384x128_0_4992

/-- The forty stores of the step, the last first. -/
def xTiles (x : Vec F S384x5120 .fp8e4m3) : List (View.Piece (Elt F) S384x5120 .bf16) :=
  [⟨xr_39, xTile 1#32 (View.ld x xr_38) (View.ld x xr_39)⟩,
    ⟨xr_38, xTile 0#32 (View.ld x xr_38) (View.ld x xr_39)⟩,
    ⟨xr_37, xTile 1#32 (View.ld x xr_36) (View.ld x xr_37)⟩,
    ⟨xr_36, xTile 0#32 (View.ld x xr_36) (View.ld x xr_37)⟩,
    ⟨xr_35, xTile 1#32 (View.ld x xr_34) (View.ld x xr_35)⟩,
    ⟨xr_34, xTile 0#32 (View.ld x xr_34) (View.ld x xr_35)⟩,
    ⟨xr_33, xTile 1#32 (View.ld x xr_32) (View.ld x xr_33)⟩,
    ⟨xr_32, xTile 0#32 (View.ld x xr_32) (View.ld x xr_33)⟩,
    ⟨xr_31, xTile 1#32 (View.ld x xr_30) (View.ld x xr_31)⟩,
    ⟨xr_30, xTile 0#32 (View.ld x xr_30) (View.ld x xr_31)⟩,
    ⟨xr_29, xTile 1#32 (View.ld x xr_28) (View.ld x xr_29)⟩,
    ⟨xr_28, xTile 0#32 (View.ld x xr_28) (View.ld x xr_29)⟩,
    ⟨xr_27, xTile 1#32 (View.ld x xr_26) (View.ld x xr_27)⟩,
    ⟨xr_26, xTile 0#32 (View.ld x xr_26) (View.ld x xr_27)⟩,
    ⟨xr_25, xTile 1#32 (View.ld x xr_24) (View.ld x xr_25)⟩,
    ⟨xr_24, xTile 0#32 (View.ld x xr_24) (View.ld x xr_25)⟩,
    ⟨xr_23, xTile 1#32 (View.ld x xr_22) (View.ld x xr_23)⟩,
    ⟨xr_22, xTile 0#32 (View.ld x xr_22) (View.ld x xr_23)⟩,
    ⟨xr_21, xTile 1#32 (View.ld x xr_20) (View.ld x xr_21)⟩,
    ⟨xr_20, xTile 0#32 (View.ld x xr_20) (View.ld x xr_21)⟩,
    ⟨xr_19, xTile 1#32 (View.ld x xr_18) (View.ld x xr_19)⟩,
    ⟨xr_18, xTile 0#32 (View.ld x xr_18) (View.ld x xr_19)⟩,
    ⟨xr_17, xTile 1#32 (View.ld x xr_16) (View.ld x xr_17)⟩,
    ⟨xr_16, xTile 0#32 (View.ld x xr_16) (View.ld x xr_17)⟩,
    ⟨xr_15, xTile 1#32 (View.ld x xr_14) (View.ld x xr_15)⟩,
    ⟨xr_14, xTile 0#32 (View.ld x xr_14) (View.ld x xr_15)⟩,
    ⟨xr_13, xTile 1#32 (View.ld x xr_12) (View.ld x xr_13)⟩,
    ⟨xr_12, xTile 0#32 (View.ld x xr_12) (View.ld x xr_13)⟩,
    ⟨xr_11, xTile 1#32 (View.ld x xr_10) (View.ld x xr_11)⟩,
    ⟨xr_10, xTile 0#32 (View.ld x xr_10) (View.ld x xr_11)⟩,
    ⟨xr_9, xTile 1#32 (View.ld x xr_8) (View.ld x xr_9)⟩,
    ⟨xr_8, xTile 0#32 (View.ld x xr_8) (View.ld x xr_9)⟩,
    ⟨xr_7, xTile 1#32 (View.ld x xr_6) (View.ld x xr_7)⟩,
    ⟨xr_6, xTile 0#32 (View.ld x xr_6) (View.ld x xr_7)⟩,
    ⟨xr_5, xTile 1#32 (View.ld x xr_4) (View.ld x xr_5)⟩,
    ⟨xr_4, xTile 0#32 (View.ld x xr_4) (View.ld x xr_5)⟩,
    ⟨xr_3, xTile 1#32 (View.ld x xr_2) (View.ld x xr_3)⟩,
    ⟨xr_2, xTile 0#32 (View.ld x xr_2) (View.ld x xr_3)⟩,
    ⟨xr_1, xTile 1#32 (View.ld x xr_0) (View.ld x xr_1)⟩,
    ⟨xr_0, xTile 0#32 (View.ld x xr_0) (View.ld x xr_1)⟩]

/-- What the step leaves in the bf16 scratch. -/
def XB (x : Vec F S384x5120 .fp8e4m3) : Vec F S384x5120 .bf16 := View.canon (xTiles x)

/-- The stores cover the scratch. -/
theorem xTiles_cover (x : Vec F S384x5120 .fp8e4m3) (y : S384x5120.Idx) : ∃ pc ∈ xTiles x, y ∈ pc.1.set :=
  View.cover_of_tiledL (xTiles x) S384x128.size (by sl_kernel_rfl) y

set_option maxHeartbeats 1000000 in
/-- The printed `load_x` step leaves `XB` in the scratch and the activations as they were. -/
theorem loadX_run (c : Dev nD) (E : Set ℕ) (i : grid1.Coords) (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (f2 : arg2.view.ty.Contents (Elt F)) (f9 : arg9.view.ty.Contents (Elt F)) :
    (iprop((arg2.view.loc (c : Thread nD τ) ↦[arg2.view.set]{fullShare} f2) ∗ (arg9.view.loc (c : Thread nD τ) ↦[arg9.view.set]{fullShare} f9)) : sProp 𝕄)
      ⊢ wp frame (wpE (defs₀ (F := F)) Variants.none c none) E (k1_part29 (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦[arg2.view.set]{fullShare} f2)
          ∗ (arg9.view.loc (c : Thread nD τ) ↦[arg9.view.set]{fullShare} harg9.unread (XB (arg2.view.read (Elt F) f2))))) := by
  simp only [k1_part29_eq_skeleton]; unfold k1_part29_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton]
  iintro ⟨H2, H9⟩
  sl_exec
  sl_step
  isplitl [H2]
  · iexact H2
  have e : arg9.view.writes (Elt F) f9 (xTiles (arg2.view.read (Elt F) f2)) = harg9.unread (XB (arg2.view.read (Elt F) f2)) :=
    harg9.eq_unread (View.read_writes_eq_canon arg9.view f9 _ (xTiles_cover _))
  rw [← e]
  iexact H9

end Cert.Kernel.Gen
-- ==== Proof.RoundedLogitsStep.lean ====
/- One grid point of the second pallas_call, `cc1_logits`, as a function on its seven scratch buffers: `LSt` holds their
   contents and `LSt.pre`, `LSt.post` are what a point does to them.  A point of row-block step `i` and vocabulary block `j`
   closes the row block before it (`fin`: the log-sum-exp of its running maximum and sum), loads its own activations
   (`load`), rounds one block of the previous row block's logits to its code (`emit`), and computes one block of its own
   logits (`produce`). -/
module

public import proofs.«01_k».proof.Proof.RoundedLoadX
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.Value

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards in closed form: `i` is the row block's step (0..16), `j` the vocabulary block (0..124) -/

theorem k1_cond1_iff (i : grid1.Coords) : k1_cond1 i = 1#1 ↔ (i 1).val = 0 :=
  (by decide +kernel : ∀ a : Fin 125, Scalar.cmpi .ne (Scalar.extui (Scalar.cmpi .eq (BitVec.ofNat 32 a.val) 0#32)) 0#32 = 1#1 ↔ a.val = 0) (i 1)

theorem k1_cond2_iff (i : grid1.Coords) : k1_cond2 i = 1#1 ↔ 0 < (i 0).val :=
  (by decide +kernel : ∀ a : Fin 17, Scalar.cmpi .ne (Scalar.extui (Scalar.cmpi .sgt (BitVec.ofNat 32 a.val) 0#32)) 0#32 = 1#1 ↔ 0 < a.val) (i 0)

theorem k1_cond3_iff (i : grid1.Coords) :
    Scalar.cmpi .ne (Scalar.extui (Scalar.cmpi .slt (BitVec.ofNat 32 (i 0).val) 16#32) : BitVec 32) 0#32 = 1#1 ↔ (i 0).val < 16 :=
  (by decide +kernel : ∀ a : Fin 17, Scalar.cmpi .ne (Scalar.extui (Scalar.cmpi .slt (BitVec.ofNat 32 a.val) 16#32) : BitVec 32) 0#32 = 1#1 ↔ a.val < 16) (i 0)

theorem k1_cond4_iff (i : grid1.Coords) : k1_cond4 i = 1#1 ↔ (i 0).val = 0 :=
  (by decide +kernel : ∀ a : Fin 17, Scalar.cmpi .ne (Scalar.extui (Scalar.cmpi .eq (BitVec.ofNat 32 a.val) 0#32)) 0#32 = 1#1 ↔ a.val = 0) (i 0)

theorem k1_cond5_iff (i : grid1.Coords) : k1_cond5 i = 1#1 ↔ 0 < (i 0).val ∧ (i 0).val < 16 :=
  (by decide +kernel : ∀ a : Fin 17, Scalar.cmpi .ne (Scalar.extui (Scalar.andi (Scalar.cmpi .sgt (BitVec.ofNat 32 a.val) 0#32)
    (Scalar.cmpi .slt (BitVec.ofNat 32 a.val) 16#32))) 0#32 = 1#1 ↔ 0 < a.val ∧ a.val < 16) (i 0)

theorem k1_cond6_iff (i : grid1.Coords) : k1_cond6 i = 1#1 ↔ (i 0).val = 16 :=
  (by decide +kernel : ∀ a : Fin 17, Scalar.cmpi .ne (Scalar.extui (Scalar.cmpi .eq (BitVec.ofNat 32 a.val) 16#32)) 0#32 = 1#1 ↔ a.val = 16) (i 0)

theorem k1_cond7_iff (i : grid1.Coords) : k1_cond7 i = 1#1 ↔ 0 < (i 0).val ∧ (i 1).val = 124 :=
  (by decide +kernel : ∀ (a : Fin 17) (b : Fin 125), Scalar.cmpi .ne (Scalar.extui (Scalar.andi (Scalar.cmpi .sgt (BitVec.ofNat 32 a.val) 0#32)
    (Scalar.cmpi .eq (BitVec.ofNat 32 b.val) 124#32))) 0#32 = 1#1 ↔ 0 < a.val ∧ b.val = 124) (i 0) (i 1)

/-! ## Loads and stores of whole buffers, in the forms the run leaves them -/

theorem v2 : (![0, 0] : Fin 2 → ℕ) = fun _ => 0 := by funext a; fin_cases a <;> rfl
theorem v3 : (![0, 0, 0] : Fin 3 → ℕ) = fun _ => 0 := by funext a; fin_cases a <;> rfl

theorem ra_f (m : Memref sig .tc .vmem S384x128 .f32) (h : m.IsWhole) (x : Vec F S384x128 .f32) (inb) :
    View.readAt (Elt F) m.view (Rect.unit (s := S384x128) ![0, 0] ![384, 128] inb).toLoadRect (h.unread x) = x :=
  (View.readAt_eq_ld _ _ _).trans ((congrArg (fun z => View.ld z _) (h.read_unread x)).trans (View.ld_unit_zero v2 inb x))
theorem ra_f' (m : Memref sig .tc .vmem S384x128 .f32) (h : m.IsWhole) (x : Vec F S384x128 .f32) (inb) :
    View.readAt (Elt F) m.view (Rect.unit (s := S384x128) ![0, 0] S384x128.size inb).toLoadRect (h.unread x) = x :=
  ra_f m h x inb
theorem ra_s (m : Memref sig .tc .vmem S1x1x384 .f32) (h : m.IsWhole) (x : Vec F S1x1x384 .f32) (inb) :
    View.readAt (Elt F) m.view (Rect.unit (s := S1x1x384) ![0, 0, 0] ![1, 1, 384] inb).toLoadRect (h.unread x) = x :=
  (View.readAt_eq_ld _ _ _).trans ((congrArg (fun z => View.ld z _) (h.read_unread x)).trans (View.ld_unit_zero v3 inb x))
theorem ra_s' (m : Memref sig .tc .vmem S1x1x384 .f32) (h : m.IsWhole) (x : Vec F S1x1x384 .f32) (inb) :
    View.readAt (Elt F) m.view (Rect.unit (s := S1x1x384) ![0, 0, 0] S1x1x384.size inb).toLoadRect (h.unread x) = x :=
  ra_s m h x inb
theorem ra_x (m : Memref sig .tc .vmem S384x5120 .bf16) (h : m.IsWhole) (x : Vec F S384x5120 .bf16) (inb) :
    View.readAt (Elt F) m.view (Rect.unit (s := S384x5120) ![0, 0] S384x5120.size inb).toLoadRect (h.unread x) = x :=
  (View.readAt_eq_ld _ _ _).trans ((congrArg (fun z => View.ld z _) (h.read_unread x)).trans (View.ld_unit_zero v2 inb x))
theorem ra_x' (m : Memref sig .tc .vmem S384x5120 .bf16) (h : m.IsWhole) (x : Vec F S384x5120 .bf16) (inb) :
    View.readAt (Elt F) m.view (Rect.unit (s := S384x5120) ![0, 0] ![384, 5120] inb).toLoadRect (h.unread x) = x :=
  ra_x m h x inb
theorem ra_w (m : Memref sig .tc .vmem S256x5120 .bf16) (h : m.IsWhole) (x : Vec F S256x5120 .bf16) (inb) :
    View.readAt (Elt F) m.view (Rect.unit (s := S256x5120) ![0, 0] S256x5120.size inb).toLoadRect (h.unread x) = x :=
  (View.readAt_eq_ld _ _ _).trans ((congrArg (fun z => View.ld z _) (h.read_unread x)).trans (View.ld_unit_zero v2 inb x))
theorem ra_w' (m : Memref sig .tc .vmem S256x5120 .bf16) (h : m.IsWhole) (x : Vec F S256x5120 .bf16) (inb) :
    View.readAt (Elt F) m.view (Rect.unit (s := S256x5120) ![0, 0] ![256, 5120] inb).toLoadRect (h.unread x) = x :=
  ra_w m h x inb

theorem rc_1 (v : View sig .tc .vmem S384x128 .f32) (inb inb') (w : Vec F S384x128 .f32) (L : List (View.Piece (Elt F) S384x128 .f32)) :
    v.readCov ((⟨Rect.unit (s := S384x128) ![0, 0] ![384, 128] inb', w⟩ : View.Piece (Elt F) S384x128 .f32) :: L)
      (Rect.unit (s := S384x128) ![0, 0] ![384, 128] inb).toLoadRect = w := View.readCov_full v inb inb' w L
theorem rc_2 (v : View sig .tc .vmem S384x128 .f32) (inb inb') (w : Vec F S384x128 .f32) (L : List (View.Piece (Elt F) S384x128 .f32)) :
    v.readCov ((⟨Rect.unit (s := S384x128) ![0, 0] ![384, 128] inb', w⟩ : View.Piece (Elt F) S384x128 .f32) :: L)
      (Rect.unit (s := S384x128) ![0, 0] S384x128.size inb).toLoadRect = w := View.readCov_full v inb inb' w L
theorem rc_3 (v : View sig .tc .vmem S384x128 .f32) (inb inb') (w : Vec F S384x128 .f32) (L : List (View.Piece (Elt F) S384x128 .f32)) :
    v.readCov ((⟨Rect.unit (s := S384x128) ![0, 0] S384x128.size inb', w⟩ : View.Piece (Elt F) S384x128 .f32) :: L)
      (Rect.unit (s := S384x128) ![0, 0] ![384, 128] inb).toLoadRect = w := View.readCov_full v inb inb' w L
theorem rc_4 (v : View sig .tc .vmem S384x128 .f32) (inb inb') (w : Vec F S384x128 .f32) (L : List (View.Piece (Elt F) S384x128 .f32)) :
    v.readCov ((⟨Rect.unit (s := S384x128) ![0, 0] S384x128.size inb', w⟩ : View.Piece (Elt F) S384x128 .f32) :: L)
      (Rect.unit (s := S384x128) ![0, 0] S384x128.size inb).toLoadRect = w := View.readCov_full v inb inb' w L

theorem rw_f (v : View sig .tc .vmem S384x128 .f32) (f : v.ty.Contents (Elt F)) (inb) (w : Vec F S384x128 .f32) (L : List (View.Piece (Elt F) S384x128 .f32)) :
    v.read (Elt F) (v.writes (Elt F) f ((⟨Rect.unit (s := S384x128) ![0, 0] ![384, 128] inb, w⟩ : View.Piece (Elt F) S384x128 .f32) :: L)) = w :=
  View.read_writes_full v f inb w L
theorem rw_f' (v : View sig .tc .vmem S384x128 .f32) (f : v.ty.Contents (Elt F)) (inb) (w : Vec F S384x128 .f32) (L : List (View.Piece (Elt F) S384x128 .f32)) :
    v.read (Elt F) (v.writes (Elt F) f ((⟨Rect.unit (s := S384x128) ![0, 0] S384x128.size inb, w⟩ : View.Piece (Elt F) S384x128 .f32) :: L)) = w :=
  View.read_writes_full v f inb w L
theorem rw_s (v : View sig .tc .vmem S1x1x384 .f32) (f : v.ty.Contents (Elt F)) (inb) (w : Vec F S1x1x384 .f32) (L : List (View.Piece (Elt F) S1x1x384 .f32)) :
    v.read (Elt F) (v.writes (Elt F) f ((⟨Rect.unit (s := S1x1x384) ![0, 0, 0] ![1, 1, 384] inb, w⟩ : View.Piece (Elt F) S1x1x384 .f32) :: L)) = w :=
  View.read_writes_full v f inb w L
theorem rw_s' (v : View sig .tc .vmem S1x1x384 .f32) (f : v.ty.Contents (Elt F)) (inb) (w : Vec F S1x1x384 .f32) (L : List (View.Piece (Elt F) S1x1x384 .f32)) :
    v.read (Elt F) (v.writes (Elt F) f ((⟨Rect.unit (s := S1x1x384) ![0, 0, 0] S1x1x384.size inb, w⟩ : View.Piece (Elt F) S1x1x384 .f32) :: L)) = w :=
  View.read_writes_full v f inb w L

/-! ## The logits scratch, one vocabulary block at a time -/

theorem slab_inb (j : Fin 125) (o : Fin 2) : ∀ a, (![j.val, 0, 128 * o.val] : Fin 3 → ℕ) a + S1x384x128.size a ≤ S125x384x256.size a :=
  (by decide +kernel : ∀ (j : Fin 125) (o : Fin 2) a, (![j.val, 0, 128 * o.val] : Fin 3 → ℕ) a + S1x384x128.size a ≤ S125x384x256.size a) j o

/-- Half `o` of block `j` of the logits. -/
def slab (L : Vec F S125x384x256 .f32) (j : Fin 125) (o : Fin 2) : Vec F S1x384x128 .f32 :=
  View.ld L (Rect.unit (s := S125x384x256) ![j.val, 0, 128 * o.val] S1x384x128.size (slab_inb j o))

/-- The logits with block `j` replaced by its two halves `a` and `b`. -/
def updSlab (L : Vec F S125x384x256 .f32) (j : Fin 125) (a b : Vec F S1x384x128 .f32) : Vec F S125x384x256 .f32 :=
  VecWindow.put (VecWindow.put L ![j.val, 0, 128 * (0 : Fin 2).val] S1x384x128.size a) ![j.val, 0, 128 * (1 : Fin 2).val] S1x384x128.size b

theorem off_lo (j : Fin 125) : (![(Scalar.indexCast (BitVec.ofNat 32 j.val) : Index).toNat, 0, 0] : Fin 3 → ℕ) = ![j.val, 0, 128 * (0 : Fin 2).val] :=
  (by decide +kernel : ∀ j : Fin 125, (![(Scalar.indexCast (BitVec.ofNat 32 j.val) : Index).toNat, 0, 0] : Fin 3 → ℕ) = ![j.val, 0, 128 * (0 : Fin 2).val]) j
theorem off_hi (j : Fin 125) : (![(Scalar.indexCast (BitVec.ofNat 32 j.val) : Index).toNat, 0, 128] : Fin 3 → ℕ) = ![j.val, 0, 128 * (1 : Fin 2).val] :=
  (by decide +kernel : ∀ j : Fin 125, (![(Scalar.indexCast (BitVec.ofNat 32 j.val) : Index).toNat, 0, 128] : Fin 3 → ℕ) = ![j.val, 0, 128 * (1 : Fin 2).val]) j

theorem k1_at1 (i : grid1.Coords) : k1_off1 i = ![(i 1).val, 0, 128 * (0 : Fin 2).val] := off_lo (i 1)
theorem k1_at2 (i : grid1.Coords) : k1_off2 i = ![(i 1).val, 0, 128 * (1 : Fin 2).val] := off_hi (i 1)
theorem k1_at3 (i : grid1.Coords) : k1_off3 i = ![(i 1).val, 0, 128 * (0 : Fin 2).val] := off_lo (i 1)
theorem k1_at4 (i : grid1.Coords) : k1_off4 i = ![(i 1).val, 0, 128 * (1 : Fin 2).val] := off_hi (i 1)
theorem k1_at5 (i : grid1.Coords) : k1_off5 i = ![(i 1).val, 0, 128 * (0 : Fin 2).val] := off_lo (i 1)
theorem k1_at6 (i : grid1.Coords) : k1_off6 i = ![(i 1).val, 0, 128 * (1 : Fin 2).val] := off_hi (i 1)

/-- A load of half a block of the logits. -/
theorem ra_slab (m : Memref sig .tc .vmem S125x384x256 .f32) (h : m.IsWhole) (L : Vec F S125x384x256 .f32) (j : Fin 125) (o : Fin 2)
    (off : Fin 3 → ℕ) (inb) (e : off = ![j.val, 0, 128 * o.val]) :
    View.readAt (Elt F) m.view (Rect.unit (s := S125x384x256) off S1x384x128.size inb).toLoadRect (h.unread L) = slab L j o := by
  subst e
  exact (View.readAt_eq_ld _ _ _).trans (congrArg (fun z => View.ld z _) (h.read_unread L))

theorem ra_slab3 (m : Memref sig .tc .vmem S125x384x256 .f32) (h : m.IsWhole) (L : Vec F S125x384x256 .f32) (i : grid1.Coords) (inb) :
    View.readAt (Elt F) m.view (Rect.unit (s := S125x384x256) (k1_off3 i) S1x384x128.size inb).toLoadRect (h.unread L) = slab L (i 1) 0 :=
  ra_slab m h L (i 1) 0 _ inb (k1_at3 i)
theorem ra_slab3' (m : Memref sig .tc .vmem S125x384x256 .f32) (h : m.IsWhole) (L : Vec F S125x384x256 .f32) (i : grid1.Coords) (inb) :
    View.readAt (Elt F) m.view (Rect.unit (s := S125x384x256) (k1_off3 i) ![1, 384, 128] inb).toLoadRect (h.unread L) = slab L (i 1) 0 :=
  ra_slab m h L (i 1) 0 _ inb (k1_at3 i)
theorem ra_slab4 (m : Memref sig .tc .vmem S125x384x256 .f32) (h : m.IsWhole) (L : Vec F S125x384x256 .f32) (i : grid1.Coords) (inb) :
    View.readAt (Elt F) m.view (Rect.unit (s := S125x384x256) (k1_off4 i) S1x384x128.size inb).toLoadRect (h.unread L) = slab L (i 1) 1 :=
  ra_slab m h L (i 1) 1 _ inb (k1_at4 i)
theorem ra_slab4' (m : Memref sig .tc .vmem S125x384x256 .f32) (h : m.IsWhole) (L : Vec F S125x384x256 .f32) (i : grid1.Coords) (inb) :
    View.readAt (Elt F) m.view (Rect.unit (s := S125x384x256) (k1_off4 i) ![1, 384, 128] inb).toLoadRect (h.unread L) = slab L (i 1) 1 :=
  ra_slab m h L (i 1) 1 _ inb (k1_at4 i)
theorem ra_slab5 (m : Memref sig .tc .vmem S125x384x256 .f32) (h : m.IsWhole) (L : Vec F S125x384x256 .f32) (i : grid1.Coords) (inb) :
    View.readAt (Elt F) m.view (Rect.unit (s := S125x384x256) (k1_off5 i) S1x384x128.size inb).toLoadRect (h.unread L) = slab L (i 1) 0 :=
  ra_slab m h L (i 1) 0 _ inb (k1_at5 i)
theorem ra_slab5' (m : Memref sig .tc .vmem S125x384x256 .f32) (h : m.IsWhole) (L : Vec F S125x384x256 .f32) (i : grid1.Coords) (inb) :
    View.readAt (Elt F) m.view (Rect.unit (s := S125x384x256) (k1_off5 i) ![1, 384, 128] inb).toLoadRect (h.unread L) = slab L (i 1) 0 :=
  ra_slab m h L (i 1) 0 _ inb (k1_at5 i)
theorem ra_slab6 (m : Memref sig .tc .vmem S125x384x256 .f32) (h : m.IsWhole) (L : Vec F S125x384x256 .f32) (i : grid1.Coords) (inb) :
    View.readAt (Elt F) m.view (Rect.unit (s := S125x384x256) (k1_off6 i) S1x384x128.size inb).toLoadRect (h.unread L) = slab L (i 1) 1 :=
  ra_slab m h L (i 1) 1 _ inb (k1_at6 i)
theorem ra_slab6' (m : Memref sig .tc .vmem S125x384x256 .f32) (h : m.IsWhole) (L : Vec F S125x384x256 .f32) (i : grid1.Coords) (inb) :
    View.readAt (Elt F) m.view (Rect.unit (s := S125x384x256) (k1_off6 i) ![1, 384, 128] inb).toLoadRect (h.unread L) = slab L (i 1) 1 :=
  ra_slab m h L (i 1) 1 _ inb (k1_at6 i)

/-- Two stores of half a block each, last first. -/
theorem rw_slab (m : Memref sig .tc .vmem S125x384x256 .f32) (h : m.IsWhole) (L : Vec F S125x384x256 .f32) (j : Fin 125)
    (off off' : Fin 3 → ℕ) (inb inb') (e : off = ![j.val, 0, 128 * (0 : Fin 2).val]) (e' : off' = ![j.val, 0, 128 * (1 : Fin 2).val]) (a b : Vec F S1x384x128 .f32) :
    m.view.read (Elt F) (m.view.writes (Elt F) (h.unread L)
      [(⟨Rect.unit (s := S125x384x256) off' S1x384x128.size inb', b⟩ : View.Piece (Elt F) S125x384x256 .f32), ⟨Rect.unit (s := S125x384x256) off S1x384x128.size inb, a⟩]) = updSlab L j a b := by
  unfold updSlab
  refine (View.read_writes_cons_put m.view _ inb' b _ e').trans ?_
  refine congrArg (fun z : Vec F S125x384x256 .f32 => VecWindow.put z ![j.val, 0, 128 * (1 : Fin 2).val] S1x384x128.size b) ?_
  refine (View.read_writes_cons_put m.view _ inb a _ e).trans ?_
  refine congrArg (fun z : Vec F S125x384x256 .f32 => VecWindow.put z ![j.val, 0, 128 * (0 : Fin 2).val] S1x384x128.size a) ?_
  rw [View.writes_nil]; exact h.read_unread L

/-! ## The payloads printed twice are the same functions -/

theorem k1_pay20_eq (xb : Vec F S384x5120 .bf16) (w : Vec F S256x5120 .bf16) (sc : Vec F S384x128 .f32) :
    k1_pay20 xb (k1_pay177 w) (constant S384x256 .f32 0x00000000#32) sc = k1_pay12 xb w sc := rfl
theorem k1_pay21_eq (xb : Vec F S384x5120 .bf16) (w : Vec F S256x5120 .bf16) (sc : Vec F S384x128 .f32) :
    k1_pay21 xb (k1_pay177 w) (constant S384x256 .f32 0x00000000#32) sc = k1_pay13 xb w sc := rfl
theorem k1_pay22_eq (xb : Vec F S384x5120 .bf16) (w : Vec F S256x5120 .bf16) (sc m : Vec F S384x128 .f32) :
    k1_pay22 xb (k1_pay177 w) (constant S384x256 .f32 0x00000000#32) sc m = k1_pay14 xb w sc m := rfl
theorem k1_pay23_eq (xb : Vec F S384x5120 .bf16) (w : Vec F S256x5120 .bf16) (sc m s : Vec F S384x128 .f32) :
    k1_pay23 xb (k1_pay177 w) (constant S384x256 .f32 0x00000000#32) sc m s = k1_pay15 xb w sc m s := rfl
theorem k1_pay173_eq (lse : Vec F S384x128 .f32) (a : Vec F S1x384x128 .f32) : k1_pay173 lse a = k1_pay25 lse a := rfl
theorem k1_pay175_eq (lse : Vec F S384x128 .f32) (a : Vec F S1x384x128 .f32) : k1_pay175 lse a = k1_pay27 lse a := rfl
theorem k1_pay176_eq (lse er : Vec F S384x128 .f32) (a b : Vec F S1x384x128 .f32) : k1_pay176 lse er a b = k1_pay28 lse er a b := rfl

/-! ## The step -/

/-- The contents of the seven scratch buffers: the logits of one row block, its activations and their scale, the running
    maximum and sum, the previous row block's log-sum-exp and its running error. -/
structure LSt (F : FTy → Type) where
  L : Vec F S125x384x256 .f32
  xb : Vec F S384x5120 .bf16
  sc : Vec F S384x128 .f32
  mx : Vec F S384x128 .f32
  sm : Vec F S384x128 .f32
  lse : Vec F S384x128 .f32
  er : Vec F S384x128 .f32

namespace LSt

/-- Close a row block: its log-sum-exp, and the error back to zero. -/
def fin (st : LSt F) : LSt F := { st with lse := k1_pay2 st.mx st.sm st.mx, er := k1_pay4 }
/-- Load a row block: activations, scale, and the running maximum and sum back to their starts. -/
def load (x : Vec F S384x5120 .fp8e4m3) (xs : Vec F S1x1x384 .f32) (st : LSt F) : LSt F :=
  { st with xb := XB x, sc := k1_pay5 xs, mx := k1_pay6, sm := k1_pay7 }
/-- One block of logits. -/
def produce (w : Vec F S256x5120 .bf16) (j : Fin 125) (st : LSt F) : LSt F :=
  { st with L := updSlab st.L j (k1_pay12 st.xb w st.sc) (k1_pay13 st.xb w st.sc), mx := k1_pay14 st.xb w st.sc st.mx, sm := k1_pay15 st.xb w st.sc st.mx st.sm }
/-- The error after one block of codes. -/
def emit (j : Fin 125) (st : LSt F) : LSt F := { st with er := k1_pay28 st.lse st.er (slab st.L j 0) (slab st.L j 1) }

theorem two_tiles (a b : Vec F S384x128 .fp8e5m2) (y : S384x256.Idx) :
    ∃ pc ∈ ([⟨Rect.unit (s := S384x256) ![0, 128] S384x128.size inb_S384x256_S384x128_0_128, b⟩, ⟨Rect.unit (s := S384x256) ![0, 0] S384x128.size inb_S384x256_S384x128_0_0, a⟩] : List (View.Piece (Elt F) S384x256 .fp8e5m2)), y ∈ pc.1.set :=
  View.cover_of_tiledL (s := S384x256) _ S384x128.size (by sl_kernel_rfl) y

/-- One block of codes. -/
def codes (j : Fin 125) (st : LSt F) : Vec F S384x256 .fp8e5m2 :=
  View.canon [⟨Rect.unit (s := S384x256) ![0, 128] S384x128.size inb_S384x256_S384x128_0_128, k1_pay27 st.lse (slab st.L j 1)⟩,
    ⟨Rect.unit (s := S384x256) ![0, 0] S384x128.size inb_S384x256_S384x128_0_0, k1_pay25 st.lse (slab st.L j 0)⟩]

/-- What a point has done before it emits. -/
def pre (x : Vec F S384x5120 .fp8e4m3) (xs : Vec F S1x1x384 .f32) (i : Fin 17) (j : Fin 125) (st : LSt F) : LSt F :=
  if j.val = 0 then (if i.val < 16 then (if 0 < i.val then st.fin else st).load x xs else (if 0 < i.val then st.fin else st)) else st
/-- What a point has done once it has emitted. -/
def mid (x : Vec F S384x5120 .fp8e4m3) (xs : Vec F S1x1x384 .f32) (i : Fin 17) (j : Fin 125) (st : LSt F) : LSt F :=
  if 0 < i.val then (st.pre x xs i j).emit j else st.pre x xs i j
/-- What a point has done at its end. -/
def post (x : Vec F S384x5120 .fp8e4m3) (xs : Vec F S1x1x384 .f32) (w : Vec F S256x5120 .bf16) (i : Fin 17) (j : Fin 125) (st : LSt F) : LSt F :=
  if i.val < 16 then (st.mid x xs i j).produce w j else st.mid x xs i j

end LSt

/-- The scratch memrefs held at the state `st`. -/
def ownsSt (c : Dev nD) (arg8 : Memref sig .tc .vmem S125x384x256 .f32) (arg9 : Memref sig .tc .vmem S384x5120 .bf16)
    (arg10 arg11 arg12 arg13 arg14 : Memref sig .tc .vmem S384x128 .f32) (st : LSt F) : sProp 𝕄 :=
  iprop(owns (c : Thread nD τ) arg8 fullShare st.L ∗ owns (c : Thread nD τ) arg9 fullShare st.xb ∗ owns (c : Thread nD τ) arg10 fullShare st.sc
    ∗ owns (c : Thread nD τ) arg11 fullShare st.mx ∗ owns (c : Thread nD τ) arg12 fullShare st.sm ∗ owns (c : Thread nD τ) arg13 fullShare st.lse
    ∗ owns (c : Thread nD τ) arg14 fullShare st.er)

end Cert.Kernel.Gen
-- ==== Proof.RoundedLogitsBody.lean ====
/- The body of the second pallas_call, `cc1_logits`, does to its scratch buffers what `LSt.post` says, and leaves in its
   three result windows the block of codes, the row block's log-sum-exp and its largest error.  One theorem per case of its
   guards. -/
module

public import proofs.«01_k».proof.Proof.RoundedLogitsStep
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The point: first row-block step, first vocabulary block. -/
theorem logits_z0 (c : Dev nD) (E : Set ℕ) (i : grid1.Coords) (hi : (i 0).val = 0) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (d5) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : ¬ 0 < (i 0).val := by omega
  have hi2 : (i 0).val < 16 := by omega
  have hi3 : ¬ (i 0).val = 16 := by omega
  have hi4 := hi
  have hj1 := hj
  have hj2 : ¬ (i 1).val = 124 := by omega
  have g1 := (k1_cond1_iff i).mpr hj1
  have g2 := (k1_cond2_iff i).not.mpr hi1
  have g3 := (k1_cond3_iff i).mpr hi2
  have g4 := (k1_cond4_iff i).mpr hi4
  have g5 := (k1_cond5_iff i).not.mpr (fun h => hi1 h.1)
  have g6 := (k1_cond6_iff i).not.mpr hi3
  have g7 := (k1_cond7_iff i).not.mpr (fun h => hi1 h.1)
  have e1 : st.pre x xs (i 0) (i 1) = (st.load x xs) := by simp only [LSt.pre, hi1, hi2, hj1, if_true, if_false]
  have e2 : st.mid x xs (i 0) (i 1) = (st.load x xs) := by simp only [LSt.mid, e1, hi1, if_true, if_false]
  have e3 : st.post x xs w (i 0) (i 1) = ((st.load x xs).produce w (i 1)) := by simp only [LSt.post, e2, hi2, if_true, if_false]
  rw [e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [Hk1_part29_0]
  · iexists _; isplitr; swap
    · iexact Hk1_part29_0
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at1 i) (k1_at2 i) _ _
  isplitl [Hk1_part29_1]
  · iexists _; isplitr; swap
    · iexact Hk1_part29_1
    · ipureintro; simp only [harg9.read_unread, harg2.read_unread, LSt.fin, LSt.load, LSt.emit, LSt.produce, LSt.codes]
  isplitl [H10]
  · iexists _; isplitr; swap
    · iexact H10
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; exact harg14.read_unread _

set_option maxHeartbeats 2000000 in
/-- The point: first row-block step, a vocabulary block after the first. -/
theorem logits_zp (c : Dev nD) (E : Set ℕ) (i : grid1.Coords) (hi : (i 0).val = 0) (hj0 : 0 < (i 1).val)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (d5) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : ¬ 0 < (i 0).val := by omega
  have hi2 : (i 0).val < 16 := by omega
  have hi3 : ¬ (i 0).val = 16 := by omega
  have hi4 := hi
  have hj1 : ¬ (i 1).val = 0 := by omega
  have g1 := (k1_cond1_iff i).not.mpr hj1
  have g2 := (k1_cond2_iff i).not.mpr hi1
  have g3 := (k1_cond3_iff i).mpr hi2
  have g4 := (k1_cond4_iff i).mpr hi4
  have g5 := (k1_cond5_iff i).not.mpr (fun h => hi1 h.1)
  have g6 := (k1_cond6_iff i).not.mpr hi3
  have g7 := (k1_cond7_iff i).not.mpr (fun h => hi1 h.1)
  have e1 : st.pre x xs (i 0) (i 1) = st := by simp only [LSt.pre, hi1, hi2, hj1, if_true, if_false]
  have e2 : st.mid x xs (i 0) (i 1) = st := by simp only [LSt.mid, e1, hi1, if_true, if_false]
  have e3 : st.post x xs w (i 0) (i 1) = (st.produce w (i 1)) := by simp only [LSt.post, e2, hi2, if_true, if_false]
  rw [e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at1 i) (k1_at2 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; exact harg14.read_unread _

set_option maxHeartbeats 2000000 in
/-- The point: row-block steps 1 to 15, first vocabulary block. -/
theorem logits_m0 (c : Dev nD) (E : Set ℕ) (i : grid1.Coords) (hi0 : 0 < (i 0).val) (hi : (i 0).val < 16) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (k1_pay3 st.mx st.sm st.mx)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 := hj
  have hj2 : ¬ (i 1).val = 124 := by omega
  have g1 := (k1_cond1_iff i).mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).not.mpr (fun h => hj2 h.2)
  have e1 : st.pre x xs (i 0) (i 1) = (st.fin.load x xs) := by simp only [LSt.pre, hi1, hi2, hj1, if_true, if_false]
  have e2 : st.mid x xs (i 0) (i 1) = ((st.fin.load x xs).emit (i 1)) := by simp only [LSt.mid, e1, hi1, if_true, if_false]
  have e3 : st.post x xs w (i 0) (i 1) = (((st.fin.load x xs).emit (i 1)).produce w (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [Hk1_part29_0]
  · iexists _; isplitr; swap
    · iexact Hk1_part29_0
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [Hk1_part29_1]
  · iexists _; isplitr; swap
    · iexact Hk1_part29_1
    · ipureintro; simp only [harg9.read_unread, harg2.read_unread, LSt.fin, LSt.load, LSt.emit, LSt.produce, LSt.codes]
  isplitl [H10]
  · iexists _; isplitr; swap
    · iexact H10
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: row-block steps 1 to 15, a vocabulary block between the first and the last. -/
theorem logits_mm (c : Dev nD) (E : Set ℕ) (i : grid1.Coords) (hi0 : 0 < (i 0).val) (hi : (i 0).val < 16) (hj0 : 0 < (i 1).val) (hj : (i 1).val < 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 : ¬ (i 1).val = 0 := by omega
  have hj2 : ¬ (i 1).val = 124 := by omega
  have g1 := (k1_cond1_iff i).not.mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).not.mpr (fun h => hj2 h.2)
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = ((st.emit (i 1)).produce w (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: row-block steps 1 to 15, last vocabulary block. -/
theorem logits_ml (c : Dev nD) (E : Set ℕ) (i : grid1.Coords) (hi0 : 0 < (i 0).val) (hi : (i 0).val < 16) (hj : (i 1).val = 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (k1_pay29 (st.mid x xs (i 0) (i 1)).er)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 : ¬ (i 1).val = 0 := by omega
  have hj2 := hj
  have g1 := (k1_cond1_iff i).not.mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).mpr ⟨hi1, hj2⟩
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = ((st.emit (i 1)).produce w (i 1)) := by simp only [LSt.post, e2, hi2, if_true, if_false]
  rw [e1, e2, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, first vocabulary block. -/
theorem logits_l0 (c : Dev nD) (E : Set ℕ) (i : grid1.Coords) (hi : (i 0).val = 16) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (k1_pay3 st.mx st.sm st.mx)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 := hj
  have hj2 : ¬ (i 1).val = 124 := by omega
  have g1 := (k1_cond1_iff i).mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).not.mpr (fun h => hj2 h.2)
  have e1 : st.pre x xs (i 0) (i 1) = st.fin := by simp only [LSt.pre, hi1, hi2, hj1, if_true, if_false]
  have e2 : st.mid x xs (i 0) (i 1) = (st.fin.emit (i 1)) := by simp only [LSt.mid, e1, hi1, if_true, if_false]
  have e3 : st.post x xs w (i 0) (i 1) = (st.fin.emit (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, a vocabulary block between the first and the last. -/
theorem logits_lm (c : Dev nD) (E : Set ℕ) (i : grid1.Coords) (hi : (i 0).val = 16) (hj0 : 0 < (i 1).val) (hj : (i 1).val < 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 : ¬ (i 1).val = 0 := by omega
  have hj2 : ¬ (i 1).val = 124 := by omega
  have g1 := (k1_cond1_iff i).not.mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).not.mpr (fun h => hj2 h.2)
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = (st.emit (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, last vocabulary block. -/
theorem logits_ll (c : Dev nD) (E : Set ℕ) (i : grid1.Coords) (hi : (i 0).val = 16) (hj : (i 1).val = 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (k1_pay29 (st.mid x xs (i 0) (i 1)).er)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 : ¬ (i 1).val = 0 := by omega
  have hj2 := hj
  have g1 := (k1_cond1_iff i).not.mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).mpr ⟨hi1, hj2⟩
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = (st.emit (i 1)) := by simp only [LSt.post, e2, hi2, if_true, if_false]
  rw [e1, e2, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

/-- The point, in every case. -/
theorem logits_step (c : Dev nD) (E : Set ℕ) (i : grid1.Coords)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (if 0 < (i 0).val then LSt.codes (i 1) (st.pre x xs (i 0) (i 1)) else d5)
      ∗ owns (c : Thread nD τ) arg6 fullShare (if 0 < (i 0).val ∧ (i 1).val = 0 then k1_pay3 st.mx st.sm st.mx else d6)
      ∗ owns (c : Thread nD τ) arg7 fullShare (if 0 < (i 0).val ∧ (i 1).val = 124 then k1_pay29 (st.mid x xs (i 0) (i 1)).er else d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have b0 : (i 0).val < 17 := (i 0).isLt
  have b1 : (i 1).val < 125 := (i 1).isLt
  rcases Nat.eq_zero_or_pos (i 0).val with h0 | h0
  · rw [if_neg (by omega), if_neg (by omega), if_neg (by omega)]
    rcases Nat.eq_zero_or_pos (i 1).val with h1 | h1
    · exact logits_z0 c E i h0 h1 arg2 harg2 arg3 harg3 arg4 harg4 arg5 harg5 arg6 harg6 arg7 harg7 arg8 harg8 arg9 harg9 arg10 harg10 arg11 harg11 arg12 harg12 arg13 harg13 arg14 harg14 x xs w d5 d6 d7 st K
    · exact logits_zp c E i h0 h1 arg2 harg2 arg3 harg3 arg4 harg4 arg5 harg5 arg6 harg6 arg7 harg7 arg8 harg8 arg9 harg9 arg10 harg10 arg11 harg11 arg12 harg12 arg13 harg13 arg14 harg14 x xs w d5 d6 d7 st K
  · rw [if_pos h0]
    by_cases h2 : (i 0).val < 16
    · rcases Nat.eq_zero_or_pos (i 1).val with h1 | h1
      · rw [if_pos ⟨h0, h1⟩, if_neg (by omega)]; exact logits_m0 c E i h0 h2 h1 arg2 harg2 arg3 harg3 arg4 harg4 arg5 harg5 arg6 harg6 arg7 harg7 arg8 harg8 arg9 harg9 arg10 harg10 arg11 harg11 arg12 harg12 arg13 harg13 arg14 harg14 x xs w d5 d6 d7 st K
      · by_cases h3 : (i 1).val < 124
        · rw [if_neg (by omega), if_neg (by omega)]; exact logits_mm c E i h0 h2 h1 h3 arg2 harg2 arg3 harg3 arg4 harg4 arg5 harg5 arg6 harg6 arg7 harg7 arg8 harg8 arg9 harg9 arg10 harg10 arg11 harg11 arg12 harg12 arg13 harg13 arg14 harg14 x xs w d5 d6 d7 st K
        · rw [if_neg (by omega), if_pos ⟨h0, by omega⟩]; exact logits_ml c E i h0 h2 (by omega) arg2 harg2 arg3 harg3 arg4 harg4 arg5 harg5 arg6 harg6 arg7 harg7 arg8 harg8 arg9 harg9 arg10 harg10 arg11 harg11 arg12 harg12 arg13 harg13 arg14 harg14 x xs w d5 d6 d7 st K
    · have h2' : (i 0).val = 16 := by omega
      rcases Nat.eq_zero_or_pos (i 1).val with h1 | h1
      · rw [if_pos ⟨h0, h1⟩, if_neg (by omega)]; exact logits_l0 c E i h2' h1 arg2 harg2 arg3 harg3 arg4 harg4 arg5 harg5 arg6 harg6 arg7 harg7 arg8 harg8 arg9 harg9 arg10 harg10 arg11 harg11 arg12 harg12 arg13 harg13 arg14 harg14 x xs w d5 d6 d7 st K
      · by_cases h3 : (i 1).val < 124
        · rw [if_neg (by omega), if_neg (by omega)]; exact logits_lm c E i h2' h1 h3 arg2 harg2 arg3 harg3 arg4 harg4 arg5 harg5 arg6 harg6 arg7 harg7 arg8 harg8 arg9 harg9 arg10 harg10 arg11 harg11 arg12 harg12 arg13 harg13 arg14 harg14 x xs w d5 d6 d7 st K
        · rw [if_neg (by omega), if_pos ⟨h0, by omega⟩]; exact logits_ll c E i h2' (by omega) arg2 harg2 arg3 harg3 arg4 harg4 arg5 harg5 arg6 harg6 arg7 harg7 arg8 harg8 arg9 harg9 arg10 harg10 arg11 harg11 arg12 harg12 arg13 harg13 arg14 harg14 x xs w d5 d6 d7 st K

end Cert.Kernel.Gen
-- ==== Proof.RoundedLogitsRegion.lean ====
/- The second pallas_call's region: what its scratch buffers hold before each grid point (`stAt`, the fold of `LSt.post` over
   the points), its proof data, and the pipeline's body obligation.  The buffers start with unknown contents, so the
   invariant claims only what the points so far have determined (`Agree`). -/
module

public import proofs.«01_k».proof.Proof.RoundedLogitsBody
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S384x5120 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x5120 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S384x256 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x384 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x384 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S125x384x256 .f32 := Memref.whole cc1_scratch0
abbrev scM1_1 : Memref sig .tc .vmem S384x5120 .bf16 := Memref.whole cc1_scratch1
abbrev scM1_2 : Memref sig .tc .vmem S384x128 .f32 := Memref.whole cc1_scratch2
abbrev scM1_3 : Memref sig .tc .vmem S384x128 .f32 := Memref.whole cc1_scratch3
abbrev scM1_4 : Memref sig .tc .vmem S384x128 .f32 := Memref.whole cc1_scratch4
abbrev scM1_5 : Memref sig .tc .vmem S384x128 .f32 := Memref.whole cc1_scratch5
abbrev scM1_6 : Memref sig .tc .vmem S384x128 .f32 := Memref.whole cc1_scratch6

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d)) ∗ (∃ r, prngReg c r)) := by
  unfold Pipeline.ΦA; rw [scopedRest1_eq]; simp only [scM1_0, scM1_1, scM1_2, scM1_3, scM1_4, scM1_5, scM1_6, owns_whole]; try rfl

/-! ## The points -/

theorem N1 : cfg1.N = 2125 := rfl
/-- Point `t` is row-block step `t / 125`, vocabulary block `t % 125`. -/
theorem co0 (t : Fin cfg1.N) : (grid1.coords t 0).val = t.val / 125 := by
  have h : t.val < 2125 := t.isLt
  rw [Pipeline.Grid.coords_val (G := grid1) t 0 (S := 125) (B := 17) (by decide) rfl]
  omega
theorem co1 (t : Fin cfg1.N) : (grid1.coords t 1).val = t.val % 125 := by
  rw [Pipeline.Grid.coords_val (G := grid1) t 1 (S := 1) (B := 125) (by decide) rfl, Nat.div_one]

/-! ## What the scratch buffers hold -/

/-- The step at point `t`. -/
def stPre (c : Dev nD) (t : Fin cfg1.N) (st : LSt F) : LSt F := st.pre (iblk1 V c 0 t) (iblk1 V c 1 t) (grid1.coords t 0) (grid1.coords t 1)
def stMid (c : Dev nD) (t : Fin cfg1.N) (st : LSt F) : LSt F := st.mid (iblk1 V c 0 t) (iblk1 V c 1 t) (grid1.coords t 0) (grid1.coords t 1)
def stPost (c : Dev nD) (t : Fin cfg1.N) (st : LSt F) : LSt F :=
  st.post (iblk1 V c 0 t) (iblk1 V c 1 t) (iblk1 V c 2 t) (grid1.coords t 0) (grid1.coords t 1)

/-- The scratch buffers before point `n`, from an arbitrary start. -/
def stAt (c : Dev nD) : ℕ → LSt F
  | 0 => ⟨constant S125x384x256 .f32 0#32, constant S384x5120 .bf16 0#16, k1_pay4, k1_pay4, k1_pay4, k1_pay4, k1_pay4⟩
  | n + 1 => if h : n < cfg1.N then stPost V c ⟨n, h⟩ (stAt c n) else stAt c n

theorem stAt_succ (c : Dev nD) (t : Fin cfg1.N) : stAt V c (t.val + 1) = stPost V c t (stAt V c t.val) := by
  rw [stAt, dif_pos t.isLt]

/-- Two states agree on what the first `n` points determine. -/
def Agree (n : ℕ) (a b : LSt F) : Prop :=
  (1 ≤ n → a.xb = b.xb ∧ a.sc = b.sc ∧ a.mx = b.mx ∧ a.sm = b.sm) ∧ (126 ≤ n → a.lse = b.lse ∧ a.er = b.er)
    ∧ ∀ y : S125x384x256.Idx, (y 0).val < n → a.L y = b.L y

theorem Agree.zero (a b : LSt F) : Agree 0 a b := ⟨fun h => by omega, fun h => by omega, fun y h => by omega⟩

theorem Agree.eq {n : ℕ} {a b : LSt F} (h : Agree n a b) (hn : 126 ≤ n) : a = b := by
  obtain ⟨h1, h2, h3⟩ := h
  obtain ⟨e1, e2, e3, e4⟩ := h1 (by omega)
  obtain ⟨e5, e6⟩ := h2 hn
  have e7 : a.L = b.L := funext fun y => h3 y (lt_of_lt_of_le (y 0).isLt (by show 125 ≤ n; omega))
  cases a; cases b; simp only at e1 e2 e3 e4 e5 e6 e7; subst e1 e2 e3 e4 e5 e6 e7; rfl

theorem Agree.refl (n : ℕ) (a : LSt F) : Agree n a a := ⟨fun _ => ⟨rfl, rfl, rfl, rfl⟩, fun _ => ⟨rfl, rfl⟩, fun _ _ => rfl⟩

theorem Agree.fin_eq {n : ℕ} {a b : LSt F} (h : Agree n a b) (hn : 125 ≤ n) : a.fin = b.fin := by
  obtain ⟨h1, h2, h3⟩ := h
  obtain ⟨e1, e2, e3, e4⟩ := h1 (by omega)
  have e7 : a.L = b.L := funext fun y => h3 y (lt_of_lt_of_le (y 0).isLt hn)
  unfold LSt.fin; rw [e1, e2, e3, e4, e7]

/-- From the second row-block step on, what a point has done before it emits is determined. -/
theorem Agree.pre_eq (c : Dev nD) (t : Fin cfg1.N) {a b : LSt F} (h : Agree t.val a b) (hn : 125 ≤ t.val) : stPre V c t a = stPre V c t b := by
  by_cases h6 : 126 ≤ t.val
  · rw [h.eq h6]
  · unfold stPre LSt.pre
    have h0 : (grid1.coords t 0).val = 1 := by rw [co0]; omega
    have h1 : (grid1.coords t 1).val = 0 := by rw [co1]; omega
    rw [if_pos h1, if_pos h1, h0, if_pos (by omega), if_pos (by omega), if_pos (by omega), if_pos (by omega), h.fin_eq hn]

theorem updSlab_congr {L L' : Vec F S125x384x256 .f32} (j : Fin 125) (a b : Vec F S1x384x128 .f32) {n : ℕ} (hj : j.val = n)
    (h : ∀ y : S125x384x256.Idx, (y 0).val < n → L y = L' y) (y : S125x384x256.Idx) (hy : (y 0).val < n + 1) :
    updSlab L j a b y = updSlab L' j a b y := by
  unfold updSlab VecWindow.put
  split
  · rfl
  · rename_i h1
    split
    · rfl
    · rename_i h2
      refine h y ?_
      by_contra h3
      have e : (y 0).val = j.val := by omega
      have b1 : (y 1).val < 384 := (y 1).isLt
      have b2 : (y 2).val < 256 := (y 2).isLt
      by_cases h4 : (y 2).val < 128
      · refine h2 fun a => ?_
        fin_cases a
        · show j.val ≤ (y 0).val ∧ (y 0).val < j.val + 1; omega
        · show 0 ≤ (y 1).val ∧ (y 1).val < 0 + 384; omega
        · show 128 * 0 ≤ (y 2).val ∧ (y 2).val < 128 * 0 + 128; omega
      · refine h1 fun a => ?_
        fin_cases a
        · show j.val ≤ (y 0).val ∧ (y 0).val < j.val + 1; omega
        · show 0 ≤ (y 1).val ∧ (y 1).val < 0 + 384; omega
        · show 128 * 1 ≤ (y 2).val ∧ (y 2).val < 128 * 1 + 128; omega

/-- A point keeps the agreement and extends it by itself. -/
theorem Agree.step (c : Dev nD) (t : Fin cfg1.N) {a b : LSt F} (h : Agree t.val a b) : Agree (t.val + 1) (stPost V c t a) (stPost V c t b) := by
  have hN : t.val < 2125 := t.isLt
  by_cases hn : 125 ≤ t.val
  · have e := h.pre_eq V c t hn
    unfold stPre at e
    unfold stPost LSt.post LSt.mid
    rw [e]; exact Agree.refl _ _
  · have h0 : (grid1.coords t 0).val = 0 := by rw [co0]; omega
    have h1 : (grid1.coords t 1).val = t.val := by rw [co1]; omega
    have key : ∀ a b : LSt F, a.xb = b.xb → a.sc = b.sc → a.mx = b.mx → a.sm = b.sm → (∀ y : S125x384x256.Idx, (y 0).val < t.val → a.L y = b.L y) →
        Agree (t.val + 1) (a.produce (iblk1 V c 2 t) (grid1.coords t 1)) (b.produce (iblk1 V c 2 t) (grid1.coords t 1)) := by
      intro a b e1 e2 e3 e4 e5
      refine ⟨fun _ => ?_, fun h => by omega, fun y hy => ?_⟩
      · unfold LSt.produce; simp only [e1, e2, e3, e4, and_self]
      · unfold LSt.produce; simp only [e1, e2]
        exact updSlab_congr (grid1.coords t 1) _ _ h1 e5 y hy
    unfold stPost LSt.post LSt.mid LSt.pre
    simp only [h0, h1, show ¬ (0 : ℕ) < 0 from lt_irrefl 0, show (0 : ℕ) < 16 by omega, if_true, if_false]
    by_cases hz : t.val = 0
    · rw [if_pos hz, if_pos hz]
      exact key _ _ rfl rfl rfl rfl (fun y hy => by omega)
    · rw [if_neg hz, if_neg hz]
      obtain ⟨g1, -, g3⟩ := h
      obtain ⟨e1, e2, e3, e4⟩ := g1 (by omega)
      exact key _ _ e1 e2 e3 e4 g3

/-! ## The proof data -/

/-- What the three result windows' staging buffers hold after point `t`. -/
def outCodes (c : Dev nD) (t : Fin cfg1.N) : Vec F S384x256 .fp8e5m2 := LSt.codes (grid1.coords t 1) (stPre V c t (stAt V c t.val))
/-- The log-sum-exp of the row block before: as row-block step `t / 125` found it at its first point. -/
def outLse (c : Dev nD) (t : Fin cfg1.N) : Vec F S1x1x384 .f32 :=
  k1_pay3 (stAt V c (125 * (t.val / 125))).mx (stAt V c (125 * (t.val / 125))).sm (stAt V c (125 * (t.val / 125))).mx
def outErr (c : Dev nD) (t : Fin cfg1.N) : Vec F S1x1x384 .f32 := k1_pay29 (stMid V c t (stAt V c t.val)).er

/-- The invariant before point `n`. -/
def Phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ st : LSt F, ⌜Agree n st (stAt V c n)⌝ ∗ ownsSt c scM1_0 scM1_1 scM1_2 scM1_3 scM1_4 scM1_5 scM1_6 st)) ∗ (∃ r, prngReg c r))

theorem Phi1_zero (c : Dev nD) : (Pipeline.ΦA spec1 c : sProp 𝕄) ⊢ Phi1 V c 0 := by
  rw [PhiA1_eq]; unfold Phi1 ownsSt
  iintro ⟨⟨HR0, HR1, HR2, HR3, HR4, HR5, ⟨%d0, HS0⟩, ⟨%d1, HS1⟩, ⟨%d2, HS2⟩, ⟨%d3, HS3⟩, ⟨%d4, HS4⟩, ⟨%d5, HS5⟩, ⟨%d6, HS6⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  iexists (⟨d0, d1, d2, d3, d4, d5, d6⟩ : LSt F)
  isplitr; · ipureintro; exact Agree.zero _ _
  isplitl [HS0]; · iexact HS0
  isplitl [HS1]; · iexact HS1
  isplitl [HS2]; · iexact HS2
  isplitl [HS3]; · iexact HS3
  isplitl [HS4]; · iexact HS4
  isplitl [HS5]; · iexact HS5
  iexact HS6

theorem Phi1_last (c : Dev nD) (n : ℕ) : Phi1 V c n ⊢ (Pipeline.ΦA spec1 c : sProp 𝕄) := by
  rw [PhiA1_eq]; unfold Phi1 ownsSt
  iintro ⟨⟨HR0, HR1, HR2, HR3, HR4, HR5, ⟨%st, -, HS0, HS1, HS2, HS3, HS4, HS5, HS6⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iexists _; iexact HS6

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outCodes V c t
    | ⟨4, _⟩ => outLse V c t
    | ⟨5, _⟩ => outErr V c t
  Φ n := Phi1 V c n.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outCodes V c t := by dsimp only [dat1]
theorem after1_4 (c : Dev nD) (t : Fin cfg1.N) : (dat1 V c).after 4 t = outLse V c t := by dsimp only [dat1]
theorem after1_5 (c : Dev nD) (t : Fin cfg1.N) : (dat1 V c).after 5 t = outErr V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the result windows are idle and where they are written back -/

theorem idle3 (t : Fin cfg1.N) : cfg1.idle 3 (grid1.coords t) = decide (t.val < 125) :=
  (by decide +kernel : ∀ t : Fin cfg1.N, cfg1.idle 3 (grid1.coords t) = decide (t.val < 125)) t
theorem idle4 (t : Fin cfg1.N) : cfg1.idle 4 (grid1.coords t) = decide (t.val < 125 ∨ t.val % 125 ≠ 0) :=
  (by decide +kernel : ∀ t : Fin cfg1.N, cfg1.idle 4 (grid1.coords t) = decide (t.val < 125 ∨ t.val % 125 ≠ 0)) t
theorem idle5 (t : Fin cfg1.N) : cfg1.idle 5 (grid1.coords t) = decide (t.val < 125 ∨ t.val % 125 ≠ 124) :=
  (by decide +kernel : ∀ t : Fin cfg1.N, cfg1.idle 5 (grid1.coords t) = decide (t.val < 125 ∨ t.val % 125 ≠ 124)) t
theorem flush3 (t : Fin cfg1.N) : (cfg1.win 3).flush t = decide (125 ≤ t.val) := by
  rw [Pipeline.Window.flush_eq_flushF]
  exact (by decide +kernel : ∀ t : Fin cfg1.N, (cfg1.win 3).flushF t = decide (125 ≤ t.val)) t
theorem flush4 (t : Fin cfg1.N) : (cfg1.win 4).flush t = decide (125 ≤ t.val ∧ t.val % 125 = 124) := by
  rw [Pipeline.Window.flush_eq_flushF]
  exact (by decide +kernel : ∀ t : Fin cfg1.N, (cfg1.win 4).flushF t = decide (125 ≤ t.val ∧ t.val % 125 = 124)) t
theorem flush5 (t : Fin cfg1.N) : (cfg1.win 5).flush t = decide (125 ≤ t.val ∧ t.val % 125 = 124) := by
  rw [Pipeline.Window.flush_eq_flushF]
  exact (by decide +kernel : ∀ t : Fin cfg1.N, (cfg1.win 5).flushF t = decide (125 ≤ t.val ∧ t.val % 125 = 124)) t

/-- The log-sum-exp window's buffer is unwritten up to the second row-block step and right after it is written back. -/
theorem fresh4 (n : ℕ) (hn : n ≤ cfg1.N) : cfg1.fresh 4 n = decide (n ≤ 125 ∨ n % 125 = 0) :=
  Pipeline.Cfg.fresh_tab cfg1 4 (fun n => decide (n ≤ 125 ∨ n % 125 = 0)) (by decide) (fun t => by
    rw [flush4, show cfg1.idle 4 (cfg1.grid.coords t) = _ from idle4 t]
    have := t.isLt
    rw [Bool.eq_iff_iff]
    simp only [Bool.or_eq_true, Bool.and_eq_true, decide_eq_true_eq]
    omega) n hn

/-- At an idle point of a row-block step after the first, the log-sum-exp window's buffer still holds the step's. -/
theorem before4 (c : Dev nD) (t : Fin cfg1.N) (h : 125 ≤ t.val) (h' : t.val % 125 ≠ 0) (d) : (dat1 V c).before 4 t d = outLse V c t := by
  have hcarry : ∀ (t : Fin cfg1.N) (_ : t.val ≠ 0), cfg1.idle 4 (cfg1.grid.coords t) = true → cfg1.fresh 4 t.val = false →
      (dat1 V c).after 4 t = (dat1 V c).after 4 ⟨t.val - 1, by omega⟩ := by
    intro t ht hi hf
    rw [fresh4 _ (le_of_lt t.isLt)] at hf
    have hf' := of_decide_eq_false hf
    rw [after1_4, after1_4]
    unfold outLse
    rw [show (t.val - 1) / 125 = t.val / 125 by omega]
  rw [Dat.before_out_traj (dat1 V c) 4 rfl (fun _ _ => rfl) hcarry t.val t rfl d, fresh4 _ (le_of_lt t.isLt), if_neg (by simp only [decide_eq_true_eq]; omega), after1_4]
  unfold outLse
  rw [show (t.val - 1) / 125 = t.val / 125 by omega]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- What the point leaves in a result window's buffer is what the pipeline wants there. -/
theorem leaves3 (c : Dev nD) (t : Fin cfg1.N) (d) (st : LSt F) (h : Agree t.val st (stAt V c t.val)) :
    (owns (c : Thread nD τ) (ms1_3 t) fullShare (if 0 < (grid1.coords t 0).val then LSt.codes (grid1.coords t 1) (stPre V c t st) else (dat1 V c).before 3 t d) : sProp 𝕄)
      ⊢ (dat1 V c).leavesExact 3 t := by
  by_cases h5 : t.val < 125
  · rw [Dat.leavesExact_idle (dat1 V c) 3 t ((idle3 t).trans (decide_eq_true h5)) ((flush3 t).trans (decide_eq_false (by omega))), if_neg (by rw [co0]; omega)]
    iintro H; iexists _; iexact H
  · rw [show (dat1 V c).leavesExact 3 t = owns (c : Thread nD τ) (ms1_3 t) fullShare ((dat1 V c).after 3 t) from by
      unfold Dat.leavesExact; rw [show cfg1.idle 3 (cfg1.grid.coords t) = false from (idle3 t).trans (decide_eq_false h5)], after1_3, if_pos (by rw [co0]; omega)]
    unfold outCodes
    rw [h.pre_eq V c t (by omega)]

theorem leaves4 (c : Dev nD) (t : Fin cfg1.N) (d) (st : LSt F) (h : Agree t.val st (stAt V c t.val)) :
    (owns (c : Thread nD τ) (ms1_4 t) fullShare (if 0 < (grid1.coords t 0).val ∧ (grid1.coords t 1).val = 0 then k1_pay3 st.mx st.sm st.mx else (dat1 V c).before 4 t d) : sProp 𝕄)
      ⊢ (dat1 V c).leavesExact 4 t := by
  rw [co0, co1]
  by_cases h5 : t.val < 125
  · rw [Dat.leavesExact_idle (dat1 V c) 4 t ((idle4 t).trans (decide_eq_true (.inl h5))) ((flush4 t).trans (decide_eq_false (by omega))), if_neg (by omega)]
    iintro H; iexists _; iexact H
  · by_cases h0 : t.val % 125 = 0
    · rw [show (dat1 V c).leavesExact 4 t = owns (c : Thread nD τ) (ms1_4 t) fullShare ((dat1 V c).after 4 t) from by
        unfold Dat.leavesExact; rw [show cfg1.idle 4 (cfg1.grid.coords t) = false from (idle4 t).trans (decide_eq_false (by omega))], after1_4, if_pos (by omega)]
      unfold outLse
      rw [show 125 * (t.val / 125) = t.val by omega]
      obtain ⟨-, -, e1, e2⟩ := h.1 (by omega)
      rw [e1, e2]
    · rw [if_neg (by omega)]
      by_cases h4 : t.val % 125 = 124
      · rw [show (dat1 V c).leavesExact 4 t = owns (c : Thread nD τ) (ms1_4 t) fullShare ((dat1 V c).after 4 t) from by
          unfold Dat.leavesExact
          rw [show cfg1.idle 4 (cfg1.grid.coords t) = true from (idle4 t).trans (decide_eq_true (.inr h0)), show (cfg1.win 4).flush t = true from (flush4 t).trans (decide_eq_true (by omega))], after1_4,
          before4 V c t (by omega) h0]
      · rw [Dat.leavesExact_idle (dat1 V c) 4 t ((idle4 t).trans (decide_eq_true (.inr h0))) ((flush4 t).trans (decide_eq_false (by omega)))]
        iintro H; iexists _; iexact H

theorem leaves5 (c : Dev nD) (t : Fin cfg1.N) (d) (st : LSt F) (h : Agree t.val st (stAt V c t.val)) :
    (owns (c : Thread nD τ) (ms1_5 t) fullShare (if 0 < (grid1.coords t 0).val ∧ (grid1.coords t 1).val = 124 then k1_pay29 (stMid V c t st).er else (dat1 V c).before 5 t d) : sProp 𝕄)
      ⊢ (dat1 V c).leavesExact 5 t := by
  by_cases h5 : t.val < 125 ∨ t.val % 125 ≠ 124
  · rw [Dat.leavesExact_idle (dat1 V c) 5 t ((idle5 t).trans (decide_eq_true h5)) ((flush5 t).trans (decide_eq_false (by omega))), if_neg (by rw [co0, co1]; omega)]
    iintro H; iexists _; iexact H
  · rw [show (dat1 V c).leavesExact 5 t = owns (c : Thread nD τ) (ms1_5 t) fullShare ((dat1 V c).after 5 t) from by
      unfold Dat.leavesExact; rw [show cfg1.idle 5 (cfg1.grid.coords t) = false from (idle5 t).trans (decide_eq_false h5)], after1_5, if_pos (by rw [co0, co1]; omega)]
    have e := h.pre_eq V c t (by omega)
    unfold stPre at e
    unfold outErr stMid LSt.mid
    rw [e]

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.castSucc = Phi1 V c t.val from rfl, show (dat1 V c).Φ t.succ = Phi1 V c (t.val + 1) from rfl,
    show (dat1 V c).owesAt () t.succ = (dat1 V c).owesAt () t.castSucc from rfl]
  rw [show (dat1 V c).leavesExact 0 t = owns (c : Thread nD τ) (ms1_0 t) fullShare ((dat1 V c).after 0 t) from by unfold Dat.leavesExact; rw [show cfg1.idle 0 (cfg1.grid.coords t) = false from rfl], after1_0]
  rw [show (dat1 V c).leavesExact 1 t = owns (c : Thread nD τ) (ms1_1 t) fullShare ((dat1 V c).after 1 t) from by unfold Dat.leavesExact; rw [show cfg1.idle 1 (cfg1.grid.coords t) = false from rfl], after1_1]
  rw [show (dat1 V c).leavesExact 2 t = owns (c : Thread nD τ) (ms1_2 t) fullShare ((dat1 V c).after 2 t) from by unfold Dat.leavesExact; rw [show cfg1.idle 2 (cfg1.grid.coords t) = false from rfl], after1_2]
  unfold Phi1
  iintro ⟨⟨⟨HR0, HR1, HR2, HR3, HR4, HR5, ⟨%st, %hA, HS⟩⟩, Hg⟩, Ho, ⟨%d0, H0⟩, ⟨%d1, H1⟩, ⟨%d2, H2⟩, ⟨%d3, H3⟩, ⟨%d4, H4⟩, ⟨%d5, H5⟩⟩
  iapply (logits_step c Set.univ (grid1.coords t) _ _ _ _ _ _ _ _ _ _ _ _ _ _ _ _ _ _ _ _ _ _ _ _ _ _ (iblk1 V c 0 t) (iblk1 V c 1 t) (iblk1 V c 2 t)
    ((dat1 V c).before 3 t d3) ((dat1 V c).before 4 t d4) ((dat1 V c).before 5 t d5) st _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HR0 HR1 HR2 HR3 HR4 HR5 HS Hg]
  · isplitr [Hg]; swap; · iexact Hg
    isplitl [HR0]; · iexact HR0
    isplitl [HR1]; · iexact HR1
    isplitl [HR2]; · iexact HR2
    isplitl [HR3]; · iexact HR3
    isplitl [HR4]; · iexact HR4
    isplitl [HR5]; · iexact HR5
    iexists (stPost V c t st)
    isplitr
    · ipureintro; rw [stAt_succ]; exact hA.step V c t
    iexact HS
  isplitl [Ho]; · iexact Ho
  isplitl [H0]; · iexact H0
  isplitl [H1]; · iexact H1
  isplitl [H2]; · iexact H2
  isplitl [H3]
  · iapply (leaves3 V c t d3 st hA); iexact H3
  isplitl [H4]
  · iapply (leaves4 V c t d4 st hA); iexact H4
  iapply (leaves5 V c t d5 st hA); iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen
-- ==== Proof.RoundedDecodeBody.lean ====
/- The first pallas_call of the kernel, `cc0_decode`: what one grid point leaves in its output block, as a function of
   the two input blocks, and that the printed body leaves exactly that.  The body reads and writes staged blocks only, so
   its output block `out0_2` is the canon of its forty stores. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S640x2560 := Rect.unit (s := S640x2560) ![0, 0] S640x128.size inb_S640x2560_S640x128_0_0
abbrev r0_1 : Rect S640x256 := Rect.unit (s := S640x256) ![0, 0] S640x128.size inb_S640x256_S640x128_0_0
abbrev r0_2 : Rect S640x5120 := Rect.unit (s := S640x5120) ![0, 0] S640x128.size inb_S640x5120_S640x128_0_0
abbrev r0_3 : Rect S640x5120 := Rect.unit (s := S640x5120) ![0, 128] S640x128.size inb_S640x5120_S640x128_0_128
abbrev r0_4 : Rect S640x2560 := Rect.unit (s := S640x2560) ![0, 128] S640x128.size inb_S640x2560_S640x128_0_128
abbrev r0_5 : Rect S640x5120 := Rect.unit (s := S640x5120) ![0, 256] S640x128.size inb_S640x5120_S640x128_0_256
abbrev r0_6 : Rect S640x5120 := Rect.unit (s := S640x5120) ![0, 384] S640x128.size inb_S640x5120_S640x128_0_384
abbrev r0_7 : Rect S640x2560 := Rect.unit (s := S640x2560) ![0, 256] S640x128.size inb_S640x2560_S640x128_0_256
abbrev r0_8 : Rect S640x5120 := Rect.unit (s := S640x5120) ![0, 512] S640x128.size inb_S640x5120_S640x128_0_512
abbrev r0_9 : Rect S640x5120 := Rect.unit (s := S640x5120) ![0, 640] S640x128.size inb_S640x5120_S640x128_0_640
abbrev r0_10 : Rect S640x2560 := Rect.unit (s := S640x2560) ![0, 384] S640x128.size inb_S640x2560_S640x128_0_384
abbrev r0_11 : Rect S640x5120 := Rect.unit (s := S640x5120) ![0, 768] S640x128.size inb_S640x5120_S640x128_0_768
abbrev r0_12 : Rect S640x5120 := Rect.unit (s := S640x5120) ![0, 896] S640x128.size inb_S640x5120_S640x128_0_896
abbrev r0_13 : Rect S640x2560 := Rect.unit (s := S640x2560) ![0, 512] S640x128.size inb_S640x2560_S640x128_0_512
abbrev r0_14 : Rect S640x5120 := Rect.unit (s := S640x5120) ![0, 1024] S640x128.size inb_S640x5120_S640x128_0_1024
abbrev r0_15 : Rect S640x5120 := Rect.unit (s := S640x5120) ![0, 1152] S640x128.size inb_S640x5120_S640x128_0_1152
abbrev r0_16 : Rect S640x2560 := Rect.unit (s := S640x2560) ![0, 640] S640x128.size inb_S640x2560_S640x128_0_640
abbrev r0_17 : Rect S640x5120 := Rect.unit (s := S640x5120) ![0, 1280] S640x128.size inb_S640x5120_S640x128_0_1280
abbrev r0_18 : Rect S640x5120 := Rect.unit (s := S640x5120) ![0, 1408] S640x128.size inb_S640x5120_S640x128_0_1408
abbrev r0_19 : Rect S640x2560 := Rect.unit (s := S640x2560) ![0, 768] S640x128.size inb_S640x2560_S640x128_0_768
abbrev r0_20 : Rect S640x5120 := Rect.unit (s := S640x5120) ![0, 1536] S640x128.size inb_S640x5120_S640x128_0_1536
abbrev r0_21 : Rect S640x5120 := Rect.unit (s := S640x5120) ![0, 1664] S640x128.size inb_S640x5120_S640x128_0_1664
abbrev r0_22 : Rect S640x2560 := Rect.unit (s := S640x2560) ![0, 896] S640x128.size inb_S640x2560_S640x128_0_896
abbrev r0_23 : Rect S640x5120 := Rect.unit (s := S640x5120) ![0, 1792] S640x128.size inb_S640x5120_S640x128_0_1792
abbrev r0_24 : Rect S640x5120 := Rect.unit (s := S640x5120) ![0, 1920] S640x128.size inb_S640x5120_S640x128_0_1920
abbrev r0_25 : Rect S640x2560 := Rect.unit (s := S640x2560) ![0, 1024] S640x128.size inb_S640x2560_S640x128_0_1024
abbrev r0_26 : Rect S640x5120 := Rect.unit (s := S640x5120) ![0, 2048] S640x128.size inb_S640x5120_S640x128_0_2048
abbrev r0_27 : Rect S640x5120 := Rect.unit (s := S640x5120) ![0, 2176] S640x128.size inb_S640x5120_S640x128_0_2176
abbrev r0_28 : Rect S640x2560 := Rect.unit (s := S640x2560) ![0, 1152] S640x128.size inb_S640x2560_S640x128_0_1152
abbrev r0_29 : Rect S640x5120 := Rect.unit (s := S640x5120) ![0, 2304] S640x128.size inb_S640x5120_S640x128_0_2304
abbrev r0_30 : Rect S640x5120 := Rect.unit (s := S640x5120) ![0, 2432] S640x128.size inb_S640x5120_S640x128_0_2432
abbrev r0_31 : Rect S640x2560 := Rect.unit (s := S640x2560) ![0, 1280] S640x128.size inb_S640x2560_S640x128_0_1280
abbrev r0_32 : Rect S640x5120 := Rect.unit (s := S640x5120) ![0, 2560] S640x128.size inb_S640x5120_S640x128_0_2560
abbrev r0_33 : Rect S640x5120 := Rect.unit (s := S640x5120) ![0, 2688] S640x128.size inb_S640x5120_S640x128_0_2688
abbrev r0_34 : Rect S640x2560 := Rect.unit (s := S640x2560) ![0, 1408] S640x128.size inb_S640x2560_S640x128_0_1408
abbrev r0_35 : Rect S640x5120 := Rect.unit (s := S640x5120) ![0, 2816] S640x128.size inb_S640x5120_S640x128_0_2816
abbrev r0_36 : Rect S640x5120 := Rect.unit (s := S640x5120) ![0, 2944] S640x128.size inb_S640x5120_S640x128_0_2944
abbrev r0_37 : Rect S640x2560 := Rect.unit (s := S640x2560) ![0, 1536] S640x128.size inb_S640x2560_S640x128_0_1536
abbrev r0_38 : Rect S640x5120 := Rect.unit (s := S640x5120) ![0, 3072] S640x128.size inb_S640x5120_S640x128_0_3072
abbrev r0_39 : Rect S640x5120 := Rect.unit (s := S640x5120) ![0, 3200] S640x128.size inb_S640x5120_S640x128_0_3200
abbrev r0_40 : Rect S640x2560 := Rect.unit (s := S640x2560) ![0, 1664] S640x128.size inb_S640x2560_S640x128_0_1664
abbrev r0_41 : Rect S640x5120 := Rect.unit (s := S640x5120) ![0, 3328] S640x128.size inb_S640x5120_S640x128_0_3328
abbrev r0_42 : Rect S640x5120 := Rect.unit (s := S640x5120) ![0, 3456] S640x128.size inb_S640x5120_S640x128_0_3456
abbrev r0_43 : Rect S640x2560 := Rect.unit (s := S640x2560) ![0, 1792] S640x128.size inb_S640x2560_S640x128_0_1792
abbrev r0_44 : Rect S640x5120 := Rect.unit (s := S640x5120) ![0, 3584] S640x128.size inb_S640x5120_S640x128_0_3584
abbrev r0_45 : Rect S640x5120 := Rect.unit (s := S640x5120) ![0, 3712] S640x128.size inb_S640x5120_S640x128_0_3712
abbrev r0_46 : Rect S640x2560 := Rect.unit (s := S640x2560) ![0, 1920] S640x128.size inb_S640x2560_S640x128_0_1920
abbrev r0_47 : Rect S640x5120 := Rect.unit (s := S640x5120) ![0, 3840] S640x128.size inb_S640x5120_S640x128_0_3840
abbrev r0_48 : Rect S640x5120 := Rect.unit (s := S640x5120) ![0, 3968] S640x128.size inb_S640x5120_S640x128_0_3968
abbrev r0_49 : Rect S640x2560 := Rect.unit (s := S640x2560) ![0, 2048] S640x128.size inb_S640x2560_S640x128_0_2048
abbrev r0_50 : Rect S640x256 := Rect.unit (s := S640x256) ![0, 128] S640x128.size inb_S640x256_S640x128_0_128
abbrev r0_51 : Rect S640x5120 := Rect.unit (s := S640x5120) ![0, 4096] S640x128.size inb_S640x5120_S640x128_0_4096
abbrev r0_52 : Rect S640x5120 := Rect.unit (s := S640x5120) ![0, 4224] S640x128.size inb_S640x5120_S640x128_0_4224
abbrev r0_53 : Rect S640x2560 := Rect.unit (s := S640x2560) ![0, 2176] S640x128.size inb_S640x2560_S640x128_0_2176
abbrev r0_54 : Rect S640x5120 := Rect.unit (s := S640x5120) ![0, 4352] S640x128.size inb_S640x5120_S640x128_0_4352
abbrev r0_55 : Rect S640x5120 := Rect.unit (s := S640x5120) ![0, 4480] S640x128.size inb_S640x5120_S640x128_0_4480
abbrev r0_56 : Rect S640x2560 := Rect.unit (s := S640x2560) ![0, 2304] S640x128.size inb_S640x2560_S640x128_0_2304
abbrev r0_57 : Rect S640x5120 := Rect.unit (s := S640x5120) ![0, 4608] S640x128.size inb_S640x5120_S640x128_0_4608
abbrev r0_58 : Rect S640x5120 := Rect.unit (s := S640x5120) ![0, 4736] S640x128.size inb_S640x5120_S640x128_0_4736
abbrev r0_59 : Rect S640x2560 := Rect.unit (s := S640x2560) ![0, 2432] S640x128.size inb_S640x2560_S640x128_0_2432
abbrev r0_60 : Rect S640x5120 := Rect.unit (s := S640x5120) ![0, 4864] S640x128.size inb_S640x5120_S640x128_0_4864
abbrev r0_61 : Rect S640x5120 := Rect.unit (s := S640x5120) ![0, 4992] S640x128.size inb_S640x5120_S640x128_0_4992

/-! ## What the body leaves in each output window's buffer -/

/-! ### Values of the body that the stores' payloads, spelt out, would write more than once

    Each is a vector the body binds (often a part call's result), stated over the input windows' blocks and
    numbered on from the skeleton's payload functions (`k0_pay189` …, after `k0_pay188`), so that
    `out0_W` and the values after it name it instead of spelling it out (`unfold_out out0_W` opens a canon
    with them, `unfold_payloads` opens them with the payloads); the comment after each is the printed function's
    name for the value (a count appended where that name is bound again). -/

def k0_pay189 (x0 : Vec F S640x2560 .i8) (x1 : Vec F S640x256 .i8) : IVec S160x128 32 :=
  k0_pay6 (View.ld x1 r0_1) -- `v21`
def k0_pay190 (x0 : Vec F S640x2560 .i8) (x1 : Vec F S640x256 .i8) : IVec S160x128 32 :=
  k0_pay7 -- `v23`
def k0_pay191 (x0 : Vec F S640x2560 .i8) (x1 : Vec F S640x256 .i8) : IVec S160x128 1 :=
  k0_pay8 -- `v37`
def k0_pay192 (x0 : Vec F S640x2560 .i8) (x1 : Vec F S640x256 .i8) : IVec S160x128 1 :=
  k0_pay9 -- `v41`
def k0_pay193 (x0 : Vec F S640x2560 .i8) (x1 : Vec F S640x256 .i8) : IVec S320x128 32 :=
  k0_pay17 (k0_pay13 (View.ld x1 r0_1)) -- `v128`
def k0_pay194 (x0 : Vec F S640x2560 .i8) (x1 : Vec F S640x256 .i8) : IVec S160x128 32 :=
  iota .tc S160x128 32 [1] iota_S160x128_d1_w32 -- `v160`
def k0_pay195 (x0 : Vec F S640x2560 .i8) (x1 : Vec F S640x256 .i8) : IVec S160x128 32 :=
  k0_pay24 (View.ld x1 r0_1) -- `v161`
def k0_pay196 (x0 : Vec F S640x2560 .i8) (x1 : Vec F S640x256 .i8) : IVec S160x128 32 :=
  k0_pay25 -- `v163`
def k0_pay197 (x0 : Vec F S640x2560 .i8) (x1 : Vec F S640x256 .i8) : IVec S160x128 32 :=
  k0_pay26 -- `v166`
def k0_pay198 (x0 : Vec F S640x2560 .i8) (x1 : Vec F S640x256 .i8) : IVec S160x128 1 :=
  k0_pay27 -- `v168`
def k0_pay199 (x0 : Vec F S640x2560 .i8) (x1 : Vec F S640x256 .i8) : IVec S160x128 32 :=
  k0_pay34 (View.ld x1 r0_1) -- `v231`
def k0_pay200 (x0 : Vec F S640x2560 .i8) (x1 : Vec F S640x256 .i8) : IVec S160x128 32 :=
  k0_pay35 -- `v255`
def k0_pay201 (x0 : Vec F S640x2560 .i8) (x1 : Vec F S640x256 .i8) : IVec S640x128 8 :=
  k0_pay39 (View.ld x1 r0_1) -- `v282`
def k0_pay202 (x0 : Vec F S640x2560 .i8) (x1 : Vec F S640x256 .i8) : IVec S160x128 32 :=
  iota .tc S160x128 32 [1] iota_S160x128_d1_w32 -- `v370`
def k0_pay203 (x0 : Vec F S640x2560 .i8) (x1 : Vec F S640x256 .i8) : IVec S160x128 32 :=
  k0_pay51 (View.ld x1 r0_1) -- `v371`
def k0_pay204 (x0 : Vec F S640x2560 .i8) (x1 : Vec F S640x256 .i8) : IVec S160x128 32 :=
  k0_pay52 -- `v373`
def k0_pay205 (x0 : Vec F S640x2560 .i8) (x1 : Vec F S640x256 .i8) : IVec S160x128 32 :=
  k0_pay53 -- `v380`
def k0_pay206 (x0 : Vec F S640x2560 .i8) (x1 : Vec F S640x256 .i8) : IVec S160x128 32 :=
  k0_pay58 (View.ld x0 r0_19) -- `v423`
def k0_pay207 (x0 : Vec F S640x2560 .i8) (x1 : Vec F S640x256 .i8) : IVec S160x128 32 :=
  k0_pay62 (k0_pay57 (View.ld x1 r0_1)) -- `v441`
def k0_pay208 (x0 : Vec F S640x2560 .i8) (x1 : Vec F S640x256 .i8) : IVec S160x128 32 :=
  k0_pay63 -- `v467`
def k0_pay209 (x0 : Vec F S640x2560 .i8) (x1 : Vec F S640x256 .i8) : IVec S160x128 1 :=
  k0_pay64 -- `v469`
def k0_pay210 (x0 : Vec F S640x2560 .i8) (x1 : Vec F S640x256 .i8) : IVec S160x128 32 :=
  iota .tc S160x128 32 [1] iota_S160x128_d1_w32 -- `v510`
def k0_pay211 (x0 : Vec F S640x2560 .i8) (x1 : Vec F S640x256 .i8) : IVec S160x128 32 :=
  k0_pay71 (View.ld x1 r0_1) -- `v511`
def k0_pay212 (x0 : Vec F S640x2560 .i8) (x1 : Vec F S640x256 .i8) : IVec S160x128 32 :=
  iota .tc S160x128 32 [1] iota_S160x128_d1_w32 -- `v580`
def k0_pay213 (x0 : Vec F S640x2560 .i8) (x1 : Vec F S640x256 .i8) : IVec S160x128 32 :=
  k0_pay78 (View.ld x1 r0_1) -- `v581`
def k0_pay214 (x0 : Vec F S640x2560 .i8) (x1 : Vec F S640x256 .i8) : IVec S160x128 32 :=
  k0_pay79 -- `v583`
def k0_pay215 (x0 : Vec F S640x2560 .i8) (x1 : Vec F S640x256 .i8) : IVec S160x128 1 :=
  k0_pay80 -- `v597`
def k0_pay216 (x0 : Vec F S640x2560 .i8) (x1 : Vec F S640x256 .i8) : IVec S160x128 32 :=
  k0_pay81 -- `v598`
def k0_pay217 (x0 : Vec F S640x2560 .i8) (x1 : Vec F S640x256 .i8) : IVec S160x128 32 :=
  k0_pay91 (k0_pay85 (View.ld x1 r0_1)) -- `v685`
def k0_pay218 (x0 : Vec F S640x2560 .i8) (x1 : Vec F S640x256 .i8) : IVec S160x128 32 :=
  iota .tc S160x128 32 [1] iota_S160x128_d1_w32 -- `v720`
def k0_pay219 (x0 : Vec F S640x2560 .i8) (x1 : Vec F S640x256 .i8) : IVec S160x128 32 :=
  k0_pay98 (View.ld x1 r0_1) -- `v721`
def k0_pay220 (x0 : Vec F S640x2560 .i8) (x1 : Vec F S640x256 .i8) : IVec S160x128 32 :=
  k0_pay99 -- `v723`
def k0_pay221 (x0 : Vec F S640x2560 .i8) (x1 : Vec F S640x256 .i8) : IVec S160x128 1 :=
  k0_pay100 -- `v725`
def k0_pay222 (x0 : Vec F S640x2560 .i8) (x1 : Vec F S640x256 .i8) : IVec S160x128 32 :=
  k0_pay107 (View.ld x1 r0_1) -- `v791`
def k0_pay223 (x0 : Vec F S640x2560 .i8) (x1 : Vec F S640x256 .i8) : IVec S160x128 32 :=
  k0_pay108 -- `v793`
def k0_pay224 (x0 : Vec F S640x2560 .i8) (x1 : Vec F S640x256 .i8) : IVec S160x128 1 :=
  k0_pay109 -- `v812`
def k0_pay225 (x0 : Vec F S640x2560 .i8) (x1 : Vec F S640x256 .i8) : IVec S320x128 32 :=
  k0_pay118 (k0_pay113 (View.ld x1 r0_1)) -- `v900`
def k0_pay226 (x0 : Vec F S640x2560 .i8) (x1 : Vec F S640x256 .i8) : IVec S160x128 32 :=
  iota .tc S160x128 32 [1] iota_S160x128_d1_w32 -- `v930`
def k0_pay227 (x0 : Vec F S640x2560 .i8) (x1 : Vec F S640x256 .i8) : IVec S160x128 32 :=
  k0_pay125 (View.ld x1 r0_1) -- `v931`
def k0_pay228 (x0 : Vec F S640x2560 .i8) (x1 : Vec F S640x256 .i8) : IVec S160x128 32 :=
  k0_pay126 -- `v933`
def k0_pay229 (x0 : Vec F S640x2560 .i8) (x1 : Vec F S640x256 .i8) : IVec S160x128 32 :=
  k0_pay127 -- `v940`
def k0_pay230 (x0 : Vec F S640x2560 .i8) (x1 : Vec F S640x256 .i8) : IVec S160x128 32 :=
  k0_pay135 (k0_pay131 (View.ld x1 r0_1)) -- `v1001`
def k0_pay231 (x0 : Vec F S640x2560 .i8) (x1 : Vec F S640x256 .i8) : IVec S160x128 32 :=
  k0_pay136 -- `v1027`
def k0_pay232 (x0 : Vec F S640x2560 .i8) (x1 : Vec F S640x256 .i8) : IVec S640x128 8 :=
  k0_pay140 (View.ld x1 r0_1) -- `v1052`
def k0_pay233 (x0 : Vec F S640x2560 .i8) (x1 : Vec F S640x256 .i8) : IVec S160x128 32 :=
  iota .tc S160x128 32 [1] iota_S160x128_d1_w32 -- `v1140`
def k0_pay234 (x0 : Vec F S640x2560 .i8) (x1 : Vec F S640x256 .i8) : IVec S160x128 32 :=
  k0_pay153 (View.ld x1 r0_50) -- `v1141`
def k0_pay235 (x0 : Vec F S640x2560 .i8) (x1 : Vec F S640x256 .i8) : IVec S160x128 32 :=
  k0_pay154 -- `v1143`
def k0_pay236 (x0 : Vec F S640x2560 .i8) (x1 : Vec F S640x256 .i8) : IVec S160x128 32 :=
  k0_pay155 -- `v1150`
def k0_pay237 (x0 : Vec F S640x2560 .i8) (x1 : Vec F S640x256 .i8) : IVec S160x128 32 :=
  k0_pay160 (View.ld x0 r0_53) -- `v1193`
def k0_pay238 (x0 : Vec F S640x2560 .i8) (x1 : Vec F S640x256 .i8) : IVec S160x128 32 :=
  k0_pay165 (k0_pay159 (View.ld x1 r0_50)) -- `v1211`
def k0_pay239 (x0 : Vec F S640x2560 .i8) (x1 : Vec F S640x256 .i8) : IVec S160x128 32 :=
  k0_pay166 -- `v1237`
def k0_pay240 (x0 : Vec F S640x2560 .i8) (x1 : Vec F S640x256 .i8) : IVec S160x128 1 :=
  k0_pay167 -- `v1239`
def k0_pay241 (x0 : Vec F S640x2560 .i8) (x1 : Vec F S640x256 .i8) : IVec S160x128 32 :=
  k0_pay168 -- `v1241`
def k0_pay242 (x0 : Vec F S640x2560 .i8) (x1 : Vec F S640x256 .i8) : IVec S160x128 32 :=
  iota .tc S160x128 32 [1] iota_S160x128_d1_w32 -- `v1280`
def k0_pay243 (x0 : Vec F S640x2560 .i8) (x1 : Vec F S640x256 .i8) : IVec S160x128 32 :=
  k0_pay175 (View.ld x1 r0_50) -- `v1281`
def k0_pay244 (x0 : Vec F S640x2560 .i8) (x1 : Vec F S640x256 .i8) : IVec S160x128 32 :=
  k0_pay176 -- `v1282`
def k0_pay245 (x0 : Vec F S640x2560 .i8) (x1 : Vec F S640x256 .i8) : FVec F S640x128 .bf16 :=
  k0_pay187 (F := F) (k0_pay183 (View.ld x1 r0_50)) k0_pay184 k0_pay185 k0_pay186 0#32 -- `v1391`

/-- Window 2's staging buffer after the body, from the input windows' blocks: its 40 stores as pieces, LAST
    FIRST (Lib/Pipeline/FrameBody.lean `View.canon`; the payloads are the skeleton's and the values stated above). -/
def out0_2 (x0 : Vec F S640x2560 .i8) (x1 : Vec F S640x256 .i8) : Vec F S640x5120 .bf16 :=
  View.canon [⟨r0_61, k0_pay2 (k0_pay182 (View.ld x0 r0_59)) (k0_pay245 x0 x1)⟩,
    ⟨r0_60, k0_pay1 (k0_pay245 x0 x1) (k0_pay188 (F := F) (k0_pay181 (View.ld x0 r0_59)))⟩,
    ⟨r0_58, k0_pay179 (F := F) (k0_pay174 (View.ld x0 r0_56)) (k0_pay242 x0 x1) (k0_pay243 x0 x1) 16#32 (k0_pay244 x0 x1)⟩,
    ⟨r0_57, k0_pay178 (F := F) (k0_pay173 (View.ld x0 r0_56)) (k0_pay242 x0 x1) (k0_pay243 x0 x1) 16#32 (k0_pay244 x0 x1)⟩,
    ⟨r0_55, k0_pay171 (F := F) (k0_pay164 (k0_pay237 x0 x1)) (k0_pay238 x0 x1) (k0_pay239 x0 x1) (k0_pay240 x0 x1) (k0_pay241 x0 x1)⟩,
    ⟨r0_54, k0_pay170 (F := F) (k0_pay163 (k0_pay237 x0 x1) (k0_pay161 (View.ld x0 r0_53)) k0_pay162) (k0_pay238 x0 x1) (k0_pay239 x0 x1) (k0_pay240 x0 x1) (k0_pay241 x0 x1)⟩,
    ⟨r0_52, k0_pay158 (F := F) (k0_pay152 (View.ld x0 r0_49)) (k0_pay233 x0 x1) (k0_pay234 x0 x1) 16#32 (k0_pay235 x0 x1) (k0_pay236 x0 x1) (Scalar.extui (Scalar.cmpi .sgt 16#32 0#32)) (Scalar.extui (Scalar.cmpi .slt 16#32 0#32))⟩,
    ⟨r0_51, k0_pay157 (F := F) (k0_pay151 (View.ld x0 r0_49)) (k0_pay233 x0 x1) (k0_pay234 x0 x1) 16#32 (k0_pay235 x0 x1) (k0_pay236 x0 x1) (Scalar.extui (Scalar.cmpi .sgt 16#32 0#32)) (Scalar.extui (Scalar.cmpi .slt 16#32 0#32))⟩,
    ⟨r0_48, k0_pay149 (k0_pay146 (F := F) (k0_pay232 x0 x1)) (k0_pay148 (F := F) (k0_pay143 (View.ld x0 r0_46)) (k0_pay144 (View.ld x0 r0_46)) k0_pay145)⟩,
    ⟨r0_47, k0_pay147 (F := F) (k0_pay232 x0 x1) (k0_pay142 (View.ld x0 r0_46))⟩,
    ⟨r0_45, k0_pay139 (F := F) (k0_pay134 (View.ld x0 r0_43)) (k0_pay230 x0 x1) (k0_pay231 x0 x1)⟩,
    ⟨r0_44, k0_pay138 (F := F) (k0_pay133 (View.ld x0 r0_43)) (k0_pay230 x0 x1) (k0_pay231 x0 x1)⟩,
    ⟨r0_42, k0_pay130 (F := F) (k0_pay124 (View.ld x0 r0_40)) (k0_pay226 x0 x1) (k0_pay227 x0 x1) 16#32 (k0_pay228 x0 x1) (k0_pay229 x0 x1)⟩,
    ⟨r0_41, k0_pay129 (F := F) (k0_pay123 (View.ld x0 r0_40)) (k0_pay226 x0 x1) (k0_pay227 x0 x1) 16#32 (k0_pay228 x0 x1) (k0_pay229 x0 x1)⟩,
    ⟨r0_39, k0_pay121 (F := F) (k0_pay117 (k0_pay114 (View.ld x0 r0_37)) k0_pay116) (k0_pay225 x0 x1)⟩,
    ⟨r0_38, k0_pay120 (F := F) (k0_pay115 (View.ld x0 r0_37)) (k0_pay225 x0 x1)⟩,
    ⟨r0_36, k0_pay112 (F := F) (k0_pay106 (View.ld x0 r0_34)) (k0_pay222 x0 x1) (k0_pay223 x0 x1) (k0_pay224 x0 x1) 1#32⟩,
    ⟨r0_35, k0_pay111 (F := F) (k0_pay105 (View.ld x0 r0_34)) (k0_pay222 x0 x1) (k0_pay223 x0 x1) (k0_pay224 x0 x1) 1#32⟩,
    ⟨r0_33, k0_pay103 (F := F) (k0_pay97 (View.ld x0 r0_31)) (k0_pay218 x0 x1) (k0_pay219 x0 x1) 16#32 (k0_pay220 x0 x1) (k0_pay221 x0 x1)⟩,
    ⟨r0_32, k0_pay102 (F := F) (k0_pay96 (View.ld x0 r0_31)) (k0_pay218 x0 x1) (k0_pay219 x0 x1) 16#32 (k0_pay220 x0 x1) (k0_pay221 x0 x1)⟩,
    ⟨r0_30, k0_pay94 (F := F) (k0_pay90 (k0_pay86 (View.ld x0 r0_28))) (k0_pay217 x0 x1)⟩,
    ⟨r0_29, k0_pay93 (F := F) (k0_pay89 (k0_pay87 (View.ld x0 r0_28)) (k0_pay88 (View.ld x0 r0_28))) (k0_pay217 x0 x1)⟩,
    ⟨r0_27, k0_pay84 (F := F) (k0_pay77 (View.ld x0 r0_25)) (k0_pay212 x0 x1) (k0_pay213 x0 x1) (k0_pay214 x0 x1) (k0_pay215 x0 x1) (k0_pay216 x0 x1)⟩,
    ⟨r0_26, k0_pay83 (F := F) (k0_pay76 (View.ld x0 r0_25)) (k0_pay212 x0 x1) (k0_pay213 x0 x1) (k0_pay214 x0 x1) (k0_pay215 x0 x1) (k0_pay216 x0 x1)⟩,
    ⟨r0_24, k0_pay74 (F := F) (k0_pay70 (View.ld x0 r0_22)) (k0_pay210 x0 x1) (k0_pay211 x0 x1)⟩,
    ⟨r0_23, k0_pay73 (F := F) (k0_pay69 (View.ld x0 r0_22)) (k0_pay210 x0 x1) (k0_pay211 x0 x1)⟩,
    ⟨r0_21, k0_pay67 (F := F) (k0_pay61 (k0_pay206 x0 x1)) (k0_pay207 x0 x1) (k0_pay208 x0 x1) (k0_pay209 x0 x1) 128#32⟩,
    ⟨r0_20, k0_pay66 (F := F) (k0_pay60 (k0_pay206 x0 x1) (k0_pay59 (View.ld x0 r0_19))) (k0_pay207 x0 x1) (k0_pay208 x0 x1) (k0_pay209 x0 x1) 128#32⟩,
    ⟨r0_18, k0_pay56 (F := F) (k0_pay50 (View.ld x0 r0_16)) (k0_pay202 x0 x1) (k0_pay203 x0 x1) 16#32 (k0_pay204 x0 x1) (k0_pay205 x0 x1) (Scalar.extui (Scalar.cmpi .sgt 16#32 0#32)) 0#32⟩,
    ⟨r0_17, k0_pay55 (F := F) (k0_pay49 (View.ld x0 r0_16)) (k0_pay202 x0 x1) (k0_pay203 x0 x1) 16#32 (k0_pay204 x0 x1) (k0_pay205 x0 x1) (Scalar.extui (Scalar.cmpi .sgt 16#32 0#32)) 0#32⟩,
    ⟨r0_15, k0_pay47 (k0_pay44 (k0_pay42 (View.ld x0 r0_13)) (k0_pay43 (View.ld x0 r0_13))) (k0_pay45 (F := F) (k0_pay201 x0 x1))⟩,
    ⟨r0_14, k0_pay46 (F := F) (k0_pay201 x0 x1) (k0_pay41 (View.ld x0 r0_13))⟩,
    ⟨r0_12, k0_pay38 (F := F) (k0_pay33 (View.ld x0 r0_10)) (k0_pay199 x0 x1) (k0_pay200 x0 x1) 24#32⟩,
    ⟨r0_11, k0_pay37 (F := F) (k0_pay32 (View.ld x0 r0_10)) (k0_pay199 x0 x1) (k0_pay200 x0 x1) 24#32⟩,
    ⟨r0_9, k0_pay30 (F := F) (k0_pay23 (View.ld x0 r0_7)) (k0_pay194 x0 x1) (k0_pay195 x0 x1) 16#32 (k0_pay196 x0 x1) (k0_pay197 x0 x1) (k0_pay198 x0 x1)⟩,
    ⟨r0_8, k0_pay29 (F := F) (k0_pay22 (View.ld x0 r0_7)) (k0_pay194 x0 x1) (k0_pay195 x0 x1) 16#32 (k0_pay196 x0 x1) (k0_pay197 x0 x1) (k0_pay198 x0 x1)⟩,
    ⟨r0_6, k0_pay20 (F := F) (k0_pay16 (k0_pay14 (View.ld x0 r0_4))) (k0_pay193 x0 x1) 7#32⟩,
    ⟨r0_5, k0_pay19 (F := F) (k0_pay15 (View.ld x0 r0_4)) (k0_pay193 x0 x1) 7#32⟩,
    ⟨r0_3, k0_pay12 (F := F) (k0_pay5 (View.ld x0 r0_0)) (k0_pay189 x0 x1) (k0_pay190 x0 x1) (k0_pay191 x0 x1) (k0_pay192 x0 x1)⟩,
    ⟨r0_2, k0_pay11 (F := F) (k0_pay4 (View.ld x0 r0_0)) (k0_pay189 x0 x1) (k0_pay190 x0 x1) (k0_pay191 x0 x1) (k0_pay192 x0 x1)⟩]

/-- Its stores tile the buffer (checked by evaluation), so they cover it. -/
theorem cover0_2 (p0 : Vec F S640x128 .bf16) (p1 : Vec F S640x128 .bf16) (p2 : Vec F S640x128 .bf16) (p3 : Vec F S640x128 .bf16) (p4 : Vec F S640x128 .bf16) (p5 : Vec F S640x128 .bf16) (p6 : Vec F S640x128 .bf16) (p7 : Vec F S640x128 .bf16) (p8 : Vec F S640x128 .bf16) (p9 : Vec F S640x128 .bf16) (p10 : Vec F S640x128 .bf16) (p11 : Vec F S640x128 .bf16) (p12 : Vec F S640x128 .bf16) (p13 : Vec F S640x128 .bf16) (p14 : Vec F S640x128 .bf16) (p15 : Vec F S640x128 .bf16) (p16 : Vec F S640x128 .bf16) (p17 : Vec F S640x128 .bf16) (p18 : Vec F S640x128 .bf16) (p19 : Vec F S640x128 .bf16) (p20 : Vec F S640x128 .bf16) (p21 : Vec F S640x128 .bf16) (p22 : Vec F S640x128 .bf16) (p23 : Vec F S640x128 .bf16) (p24 : Vec F S640x128 .bf16) (p25 : Vec F S640x128 .bf16) (p26 : Vec F S640x128 .bf16) (p27 : Vec F S640x128 .bf16) (p28 : Vec F S640x128 .bf16) (p29 : Vec F S640x128 .bf16) (p30 : Vec F S640x128 .bf16) (p31 : Vec F S640x128 .bf16) (p32 : Vec F S640x128 .bf16) (p33 : Vec F S640x128 .bf16) (p34 : Vec F S640x128 .bf16) (p35 : Vec F S640x128 .bf16) (p36 : Vec F S640x128 .bf16) (p37 : Vec F S640x128 .bf16) (p38 : Vec F S640x128 .bf16) (p39 : Vec F S640x128 .bf16) (y : S640x5120.Idx) :
    ∃ pc ∈ ([⟨r0_61, p0⟩, ⟨r0_60, p1⟩, ⟨r0_58, p2⟩, ⟨r0_57, p3⟩, ⟨r0_55, p4⟩, ⟨r0_54, p5⟩, ⟨r0_52, p6⟩, ⟨r0_51, p7⟩, ⟨r0_48, p8⟩, ⟨r0_47, p9⟩, ⟨r0_45, p10⟩, ⟨r0_44, p11⟩, ⟨r0_42, p12⟩, ⟨r0_41, p13⟩, ⟨r0_39, p14⟩, ⟨r0_38, p15⟩, ⟨r0_36, p16⟩, ⟨r0_35, p17⟩, ⟨r0_33, p18⟩, ⟨r0_32, p19⟩, ⟨r0_30, p20⟩, ⟨r0_29, p21⟩, ⟨r0_27, p22⟩, ⟨r0_26, p23⟩, ⟨r0_24, p24⟩, ⟨r0_23, p25⟩, ⟨r0_21, p26⟩, ⟨r0_20, p27⟩, ⟨r0_18, p28⟩, ⟨r0_17, p29⟩, ⟨r0_15, p30⟩, ⟨r0_14, p31⟩, ⟨r0_12, p32⟩, ⟨r0_11, p33⟩, ⟨r0_9, p34⟩, ⟨r0_8, p35⟩, ⟨r0_6, p36⟩, ⟨r0_5, p37⟩, ⟨r0_3, p38⟩, ⟨r0_2, p39⟩] : List (View.Piece (Elt F) S640x5120 .bf16)), y ∈ pc.1.set :=
  View.cover_of_tiled [⟨r0_61, p0⟩, ⟨r0_60, p1⟩, ⟨r0_58, p2⟩, ⟨r0_57, p3⟩, ⟨r0_55, p4⟩, ⟨r0_54, p5⟩, ⟨r0_52, p6⟩, ⟨r0_51, p7⟩, ⟨r0_48, p8⟩, ⟨r0_47, p9⟩, ⟨r0_45, p10⟩, ⟨r0_44, p11⟩, ⟨r0_42, p12⟩, ⟨r0_41, p13⟩, ⟨r0_39, p14⟩, ⟨r0_38, p15⟩, ⟨r0_36, p16⟩, ⟨r0_35, p17⟩, ⟨r0_33, p18⟩, ⟨r0_32, p19⟩, ⟨r0_30, p20⟩, ⟨r0_29, p21⟩, ⟨r0_27, p22⟩, ⟨r0_26, p23⟩, ⟨r0_24, p24⟩, ⟨r0_23, p25⟩, ⟨r0_21, p26⟩, ⟨r0_20, p27⟩, ⟨r0_18, p28⟩, ⟨r0_17, p29⟩, ⟨r0_15, p30⟩, ⟨r0_14, p31⟩, ⟨r0_12, p32⟩, ⟨r0_11, p33⟩, ⟨r0_9, p34⟩, ⟨r0_8, p35⟩, ⟨r0_6, p36⟩, ⟨r0_5, p37⟩, ⟨r0_3, p38⟩, ⟨r0_2, p39⟩] S640x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S640x2560 .i8) (harg1 : arg1.IsWhole) (arg2 : Memref sig .tc .vmem S640x256 .i8) (harg2 : arg2.IsWhole) (arg3 : Memref sig .tc .vmem S640x5120 .bf16) (harg3 : arg3.IsWhole)
    (x0 : Vec F S640x2560 .i8) (x1 : Vec F S640x256 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_decode i arg1 harg1 arg2 harg2 arg3 harg3) K := by
  simp only [cc0_decode_eq_skeleton]; unfold cc0_decode_skel
  simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen
-- ==== Proof.RoundedRun.lean ====
/- The whole program's run, segment by segment: two host stretches, the two pallas_calls, the last host stretch. -/
module

public import proofs.«01_k».proof.Proof.RoundedLogitsRegion
public import proofs.«01_k».proof.Proof.RoundedDecodeBody
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered (Lib/Pipeline/FrameSuffix.lean `withArrays`) (region 1's entry). -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V3 m ρ) c 0 from rfl]
    iintro ⟨Hp, -, Hr⟩
    iapply (Phi1_zero (V3 m ρ) c); unfold Pipeline.ΦA
    isplitl [Hr]; · iexact Hr
    iexact Hp
  hout c := by
    rw [Pipeline.ownSems0_none, show (pdats m ρ 1 c).Φ (Fin.last _) = Phi1 (V3 m ρ) c 2125 from rfl]
    refine (Phi1_last (V3 m ρ) c 2125).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends with every unscoped buffer at the last boundary's contents and every semaphore at zero. -/
theorem run_all : θ_run defs (onTc (τ := τ) (main (F := F))) ⟨m, fun _ => 0, ρ⟩ (fun r => (∀ c : Dev nD, ∀ b ∈ Pipeline.ucRefs τ sig, r.2.mem ((c : Thread nD τ).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.Kernel.Gen
-- ==== Proof.IdealLoadX.lean ====
/- The activations' side of the second pallas_call, `cc1_logits`: what its `load_x` step leaves in the bf16 scratch.
   The step moves lanes: of each pair of neighbouring 128-lane tiles it stores the even lanes of both as one tile and the
   odd lanes of both as the next (`xTile 0`, `xTile 1`), 64 times each value.  `xTiles` lists the forty stores and `XB` is
   what they leave; `loadX_run` says that the printed step leaves exactly that. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lane each lane of a tile reads: `2·lane mod 128 + t`, as the kernel computes it. -/
def gIdx (t : BitVec 32) : IVec S384x128 32 :=
  shapeCast S384x128 (shapeCast S384x128x1
    (select (cmpi .slt (addi k1_pay30 (broadcast S384x128 t)) (broadcast S384x128 0#32))
      (addi (addi k1_pay30 (broadcast S384x128 t)) (broadcast S384x128 128#32))
      (addi k1_pay30 (broadcast S384x128 t)))
    shapeCasts_S384x128_S384x128x1) shapeCasts_S384x128x1_S384x128

/-- One stored tile: lanes `t, t+2, …` of the tiles `a` and `b` side by side, times 64, in bf16. -/
def xTile (t : BitVec 32) (a b : Vec F S384x128 .fp8e4m3) : FVec F S384x128 .bf16 :=
  shapeCast S384x128 (mulf (truncf .bf16 (select k1_pay31
      (dynamicGather 1 (extf .f32 (shapeCast S384x128 a shapeCasts_S384x128_S384x128 : FVec F S384x128 .fp8e4m3) bitsLt_fp8e4m3_f32) (gIdx t))
      (dynamicGather 1 (extf .f32 (shapeCast S384x128 b shapeCasts_S384x128_S384x128 : FVec F S384x128 .fp8e4m3) bitsLt_fp8e4m3_f32) (gIdx t))) bitsLt_bf16_f32)
    (broadcast S384x128 (Scalar.ofBits .bf16 0x4280#16 : F .bf16))) shapeCasts_S384x128_S384x128

/-! The forty tiles of a 5120-wide row block. -/
abbrev xr_0 : Rect S384x5120 := Rect.unit (s := S384x5120) ![0, 0] S384x128.size inb_S384x5120_S384x128_0_0
abbrev xr_1 : Rect S384x5120 := Rect.unit (s := S384x5120) ![0, 128] S384x128.size inb_S384x5120_S384x128_0_128
abbrev xr_2 : Rect S384x5120 := Rect.unit (s := S384x5120) ![0, 256] S384x128.size inb_S384x5120_S384x128_0_256
abbrev xr_3 : Rect S384x5120 := Rect.unit (s := S384x5120) ![0, 384] S384x128.size inb_S384x5120_S384x128_0_384
abbrev xr_4 : Rect S384x5120 := Rect.unit (s := S384x5120) ![0, 512] S384x128.size inb_S384x5120_S384x128_0_512
abbrev xr_5 : Rect S384x5120 := Rect.unit (s := S384x5120) ![0, 640] S384x128.size inb_S384x5120_S384x128_0_640
abbrev xr_6 : Rect S384x5120 := Rect.unit (s := S384x5120) ![0, 768] S384x128.size inb_S384x5120_S384x128_0_768
abbrev xr_7 : Rect S384x5120 := Rect.unit (s := S384x5120) ![0, 896] S384x128.size inb_S384x5120_S384x128_0_896
abbrev xr_8 : Rect S384x5120 := Rect.unit (s := S384x5120) ![0, 1024] S384x128.size inb_S384x5120_S384x128_0_1024
abbrev xr_9 : Rect S384x5120 := Rect.unit (s := S384x5120) ![0, 1152] S384x128.size inb_S384x5120_S384x128_0_1152
abbrev xr_10 : Rect S384x5120 := Rect.unit (s := S384x5120) ![0, 1280] S384x128.size inb_S384x5120_S384x128_0_1280
abbrev xr_11 : Rect S384x5120 := Rect.unit (s := S384x5120) ![0, 1408] S384x128.size inb_S384x5120_S384x128_0_1408
abbrev xr_12 : Rect S384x5120 := Rect.unit (s := S384x5120) ![0, 1536] S384x128.size inb_S384x5120_S384x128_0_1536
abbrev xr_13 : Rect S384x5120 := Rect.unit (s := S384x5120) ![0, 1664] S384x128.size inb_S384x5120_S384x128_0_1664
abbrev xr_14 : Rect S384x5120 := Rect.unit (s := S384x5120) ![0, 1792] S384x128.size inb_S384x5120_S384x128_0_1792
abbrev xr_15 : Rect S384x5120 := Rect.unit (s := S384x5120) ![0, 1920] S384x128.size inb_S384x5120_S384x128_0_1920
abbrev xr_16 : Rect S384x5120 := Rect.unit (s := S384x5120) ![0, 2048] S384x128.size inb_S384x5120_S384x128_0_2048
abbrev xr_17 : Rect S384x5120 := Rect.unit (s := S384x5120) ![0, 2176] S384x128.size inb_S384x5120_S384x128_0_2176
abbrev xr_18 : Rect S384x5120 := Rect.unit (s := S384x5120) ![0, 2304] S384x128.size inb_S384x5120_S384x128_0_2304
abbrev xr_19 : Rect S384x5120 := Rect.unit (s := S384x5120) ![0, 2432] S384x128.size inb_S384x5120_S384x128_0_2432
abbrev xr_20 : Rect S384x5120 := Rect.unit (s := S384x5120) ![0, 2560] S384x128.size inb_S384x5120_S384x128_0_2560
abbrev xr_21 : Rect S384x5120 := Rect.unit (s := S384x5120) ![0, 2688] S384x128.size inb_S384x5120_S384x128_0_2688
abbrev xr_22 : Rect S384x5120 := Rect.unit (s := S384x5120) ![0, 2816] S384x128.size inb_S384x5120_S384x128_0_2816
abbrev xr_23 : Rect S384x5120 := Rect.unit (s := S384x5120) ![0, 2944] S384x128.size inb_S384x5120_S384x128_0_2944
abbrev xr_24 : Rect S384x5120 := Rect.unit (s := S384x5120) ![0, 3072] S384x128.size inb_S384x5120_S384x128_0_3072
abbrev xr_25 : Rect S384x5120 := Rect.unit (s := S384x5120) ![0, 3200] S384x128.size inb_S384x5120_S384x128_0_3200
abbrev xr_26 : Rect S384x5120 := Rect.unit (s := S384x5120) ![0, 3328] S384x128.size inb_S384x5120_S384x128_0_3328
abbrev xr_27 : Rect S384x5120 := Rect.unit (s := S384x5120) ![0, 3456] S384x128.size inb_S384x5120_S384x128_0_3456
abbrev xr_28 : Rect S384x5120 := Rect.unit (s := S384x5120) ![0, 3584] S384x128.size inb_S384x5120_S384x128_0_3584
abbrev xr_29 : Rect S384x5120 := Rect.unit (s := S384x5120) ![0, 3712] S384x128.size inb_S384x5120_S384x128_0_3712
abbrev xr_30 : Rect S384x5120 := Rect.unit (s := S384x5120) ![0, 3840] S384x128.size inb_S384x5120_S384x128_0_3840
abbrev xr_31 : Rect S384x5120 := Rect.unit (s := S384x5120) ![0, 3968] S384x128.size inb_S384x5120_S384x128_0_3968
abbrev xr_32 : Rect S384x5120 := Rect.unit (s := S384x5120) ![0, 4096] S384x128.size inb_S384x5120_S384x128_0_4096
abbrev xr_33 : Rect S384x5120 := Rect.unit (s := S384x5120) ![0, 4224] S384x128.size inb_S384x5120_S384x128_0_4224
abbrev xr_34 : Rect S384x5120 := Rect.unit (s := S384x5120) ![0, 4352] S384x128.size inb_S384x5120_S384x128_0_4352
abbrev xr_35 : Rect S384x5120 := Rect.unit (s := S384x5120) ![0, 4480] S384x128.size inb_S384x5120_S384x128_0_4480
abbrev xr_36 : Rect S384x5120 := Rect.unit (s := S384x5120) ![0, 4608] S384x128.size inb_S384x5120_S384x128_0_4608
abbrev xr_37 : Rect S384x5120 := Rect.unit (s := S384x5120) ![0, 4736] S384x128.size inb_S384x5120_S384x128_0_4736
abbrev xr_38 : Rect S384x5120 := Rect.unit (s := S384x5120) ![0, 4864] S384x128.size inb_S384x5120_S384x128_0_4864
abbrev xr_39 : Rect S384x5120 := Rect.unit (s := S384x5120) ![0, 4992] S384x128.size inb_S384x5120_S384x128_0_4992

/-- The forty stores of the step, the last first. -/
def xTiles (x : Vec F S384x5120 .fp8e4m3) : List (View.Piece (Elt F) S384x5120 .bf16) :=
  [⟨xr_39, xTile 1#32 (View.ld x xr_38) (View.ld x xr_39)⟩,
    ⟨xr_38, xTile 0#32 (View.ld x xr_38) (View.ld x xr_39)⟩,
    ⟨xr_37, xTile 1#32 (View.ld x xr_36) (View.ld x xr_37)⟩,
    ⟨xr_36, xTile 0#32 (View.ld x xr_36) (View.ld x xr_37)⟩,
    ⟨xr_35, xTile 1#32 (View.ld x xr_34) (View.ld x xr_35)⟩,
    ⟨xr_34, xTile 0#32 (View.ld x xr_34) (View.ld x xr_35)⟩,
    ⟨xr_33, xTile 1#32 (View.ld x xr_32) (View.ld x xr_33)⟩,
    ⟨xr_32, xTile 0#32 (View.ld x xr_32) (View.ld x xr_33)⟩,
    ⟨xr_31, xTile 1#32 (View.ld x xr_30) (View.ld x xr_31)⟩,
    ⟨xr_30, xTile 0#32 (View.ld x xr_30) (View.ld x xr_31)⟩,
    ⟨xr_29, xTile 1#32 (View.ld x xr_28) (View.ld x xr_29)⟩,
    ⟨xr_28, xTile 0#32 (View.ld x xr_28) (View.ld x xr_29)⟩,
    ⟨xr_27, xTile 1#32 (View.ld x xr_26) (View.ld x xr_27)⟩,
    ⟨xr_26, xTile 0#32 (View.ld x xr_26) (View.ld x xr_27)⟩,
    ⟨xr_25, xTile 1#32 (View.ld x xr_24) (View.ld x xr_25)⟩,
    ⟨xr_24, xTile 0#32 (View.ld x xr_24) (View.ld x xr_25)⟩,
    ⟨xr_23, xTile 1#32 (View.ld x xr_22) (View.ld x xr_23)⟩,
    ⟨xr_22, xTile 0#32 (View.ld x xr_22) (View.ld x xr_23)⟩,
    ⟨xr_21, xTile 1#32 (View.ld x xr_20) (View.ld x xr_21)⟩,
    ⟨xr_20, xTile 0#32 (View.ld x xr_20) (View.ld x xr_21)⟩,
    ⟨xr_19, xTile 1#32 (View.ld x xr_18) (View.ld x xr_19)⟩,
    ⟨xr_18, xTile 0#32 (View.ld x xr_18) (View.ld x xr_19)⟩,
    ⟨xr_17, xTile 1#32 (View.ld x xr_16) (View.ld x xr_17)⟩,
    ⟨xr_16, xTile 0#32 (View.ld x xr_16) (View.ld x xr_17)⟩,
    ⟨xr_15, xTile 1#32 (View.ld x xr_14) (View.ld x xr_15)⟩,
    ⟨xr_14, xTile 0#32 (View.ld x xr_14) (View.ld x xr_15)⟩,
    ⟨xr_13, xTile 1#32 (View.ld x xr_12) (View.ld x xr_13)⟩,
    ⟨xr_12, xTile 0#32 (View.ld x xr_12) (View.ld x xr_13)⟩,
    ⟨xr_11, xTile 1#32 (View.ld x xr_10) (View.ld x xr_11)⟩,
    ⟨xr_10, xTile 0#32 (View.ld x xr_10) (View.ld x xr_11)⟩,
    ⟨xr_9, xTile 1#32 (View.ld x xr_8) (View.ld x xr_9)⟩,
    ⟨xr_8, xTile 0#32 (View.ld x xr_8) (View.ld x xr_9)⟩,
    ⟨xr_7, xTile 1#32 (View.ld x xr_6) (View.ld x xr_7)⟩,
    ⟨xr_6, xTile 0#32 (View.ld x xr_6) (View.ld x xr_7)⟩,
    ⟨xr_5, xTile 1#32 (View.ld x xr_4) (View.ld x xr_5)⟩,
    ⟨xr_4, xTile 0#32 (View.ld x xr_4) (View.ld x xr_5)⟩,
    ⟨xr_3, xTile 1#32 (View.ld x xr_2) (View.ld x xr_3)⟩,
    ⟨xr_2, xTile 0#32 (View.ld x xr_2) (View.ld x xr_3)⟩,
    ⟨xr_1, xTile 1#32 (View.ld x xr_0) (View.ld x xr_1)⟩,
    ⟨xr_0, xTile 0#32 (View.ld x xr_0) (View.ld x xr_1)⟩]

/-- What the step leaves in the bf16 scratch. -/
def XB (x : Vec F S384x5120 .fp8e4m3) : Vec F S384x5120 .bf16 := View.canon (xTiles x)

/-- The stores cover the scratch. -/
theorem xTiles_cover (x : Vec F S384x5120 .fp8e4m3) (y : S384x5120.Idx) : ∃ pc ∈ xTiles x, y ∈ pc.1.set :=
  View.cover_of_tiledL (xTiles x) S384x128.size (by sl_kernel_rfl) y

set_option maxHeartbeats 1000000 in
/-- The printed `load_x` step leaves `XB` in the scratch and the activations as they were. -/
theorem loadX_run (c : Dev nD) (E : Set ℕ) (i : grid1.Coords) (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (f2 : arg2.view.ty.Contents (Elt F)) (f9 : arg9.view.ty.Contents (Elt F)) :
    (iprop((arg2.view.loc (c : Thread nD τ) ↦[arg2.view.set]{fullShare} f2) ∗ (arg9.view.loc (c : Thread nD τ) ↦[arg9.view.set]{fullShare} f9)) : sProp 𝕄)
      ⊢ wp frame (wpE (defs₀ (F := F)) Variants.none c none) E (k1_part29 (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦[arg2.view.set]{fullShare} f2)
          ∗ (arg9.view.loc (c : Thread nD τ) ↦[arg9.view.set]{fullShare} harg9.unread (XB (arg2.view.read (Elt F) f2))))) := by
  simp only [k1_part29_eq_skeleton]; unfold k1_part29_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton]
  iintro ⟨H2, H9⟩
  sl_exec
  sl_step
  isplitl [H2]
  · iexact H2
  have e : arg9.view.writes (Elt F) f9 (xTiles (arg2.view.read (Elt F) f2)) = harg9.unread (XB (arg2.view.read (Elt F) f2)) :=
    harg9.eq_unread (View.read_writes_eq_canon arg9.view f9 _ (xTiles_cover _))
  rw [← e]
  iexact H9

end Cert.KernelIdeal.Gen
-- ==== Proof.IdealLogitsStep.lean ====
/- One grid point of the second pallas_call, `cc1_logits`, as a function on its seven scratch buffers: `LSt` holds their
   contents and `LSt.pre`, `LSt.post` are what a point does to them.  A point of row-block step `i` and vocabulary block `j`
   closes the row block before it (`fin`: the log-sum-exp of its running maximum and sum), loads its own activations
   (`load`), rounds one block of the previous row block's logits to its code (`emit`), and computes one block of its own
   logits (`produce`). -/
module

public import proofs.«01_k».proof.Proof.IdealLoadX
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The guards in closed form: `i` is the row block's step (0..16), `j` the vocabulary block (0..124) -/

theorem k1_cond1_iff (i : grid1.Coords) : k1_cond1 i = 1#1 ↔ (i 1).val = 0 :=
  (by decide +kernel : ∀ a : Fin 125, Scalar.cmpi .ne (Scalar.extui (Scalar.cmpi .eq (BitVec.ofNat 32 a.val) 0#32)) 0#32 = 1#1 ↔ a.val = 0) (i 1)

theorem k1_cond2_iff (i : grid1.Coords) : k1_cond2 i = 1#1 ↔ 0 < (i 0).val :=
  (by decide +kernel : ∀ a : Fin 17, Scalar.cmpi .ne (Scalar.extui (Scalar.cmpi .sgt (BitVec.ofNat 32 a.val) 0#32)) 0#32 = 1#1 ↔ 0 < a.val) (i 0)

theorem k1_cond3_iff (i : grid1.Coords) :
    Scalar.cmpi .ne (Scalar.extui (Scalar.cmpi .slt (BitVec.ofNat 32 (i 0).val) 16#32) : BitVec 32) 0#32 = 1#1 ↔ (i 0).val < 16 :=
  (by decide +kernel : ∀ a : Fin 17, Scalar.cmpi .ne (Scalar.extui (Scalar.cmpi .slt (BitVec.ofNat 32 a.val) 16#32) : BitVec 32) 0#32 = 1#1 ↔ a.val < 16) (i 0)

theorem k1_cond4_iff (i : grid1.Coords) : k1_cond4 i = 1#1 ↔ (i 0).val = 0 :=
  (by decide +kernel : ∀ a : Fin 17, Scalar.cmpi .ne (Scalar.extui (Scalar.cmpi .eq (BitVec.ofNat 32 a.val) 0#32)) 0#32 = 1#1 ↔ a.val = 0) (i 0)

theorem k1_cond5_iff (i : grid1.Coords) : k1_cond5 i = 1#1 ↔ 0 < (i 0).val ∧ (i 0).val < 16 :=
  (by decide +kernel : ∀ a : Fin 17, Scalar.cmpi .ne (Scalar.extui (Scalar.andi (Scalar.cmpi .sgt (BitVec.ofNat 32 a.val) 0#32)
    (Scalar.cmpi .slt (BitVec.ofNat 32 a.val) 16#32))) 0#32 = 1#1 ↔ 0 < a.val ∧ a.val < 16) (i 0)

theorem k1_cond6_iff (i : grid1.Coords) : k1_cond6 i = 1#1 ↔ (i 0).val = 16 :=
  (by decide +kernel : ∀ a : Fin 17, Scalar.cmpi .ne (Scalar.extui (Scalar.cmpi .eq (BitVec.ofNat 32 a.val) 16#32)) 0#32 = 1#1 ↔ a.val = 16) (i 0)

theorem k1_cond7_iff (i : grid1.Coords) : k1_cond7 i = 1#1 ↔ 0 < (i 0).val ∧ (i 1).val = 124 :=
  (by decide +kernel : ∀ (a : Fin 17) (b : Fin 125), Scalar.cmpi .ne (Scalar.extui (Scalar.andi (Scalar.cmpi .sgt (BitVec.ofNat 32 a.val) 0#32)
    (Scalar.cmpi .eq (BitVec.ofNat 32 b.val) 124#32))) 0#32 = 1#1 ↔ 0 < a.val ∧ b.val = 124) (i 0) (i 1)

/-! ## Loads and stores of whole buffers, in the forms the run leaves them -/

theorem v2 : (![0, 0] : Fin 2 → ℕ) = fun _ => 0 := by funext a; fin_cases a <;> rfl
theorem v3 : (![0, 0, 0] : Fin 3 → ℕ) = fun _ => 0 := by funext a; fin_cases a <;> rfl

theorem ra_f (m : Memref sig .tc .vmem S384x128 .f32) (h : m.IsWhole) (x : Vec F S384x128 .f32) (inb) :
    View.readAt (Elt F) m.view (Rect.unit (s := S384x128) ![0, 0] ![384, 128] inb).toLoadRect (h.unread x) = x :=
  (View.readAt_eq_ld _ _ _).trans ((congrArg (fun z => View.ld z _) (h.read_unread x)).trans (View.ld_unit_zero v2 inb x))
theorem ra_f' (m : Memref sig .tc .vmem S384x128 .f32) (h : m.IsWhole) (x : Vec F S384x128 .f32) (inb) :
    View.readAt (Elt F) m.view (Rect.unit (s := S384x128) ![0, 0] S384x128.size inb).toLoadRect (h.unread x) = x :=
  ra_f m h x inb
theorem ra_s (m : Memref sig .tc .vmem S1x1x384 .f32) (h : m.IsWhole) (x : Vec F S1x1x384 .f32) (inb) :
    View.readAt (Elt F) m.view (Rect.unit (s := S1x1x384) ![0, 0, 0] ![1, 1, 384] inb).toLoadRect (h.unread x) = x :=
  (View.readAt_eq_ld _ _ _).trans ((congrArg (fun z => View.ld z _) (h.read_unread x)).trans (View.ld_unit_zero v3 inb x))
theorem ra_s' (m : Memref sig .tc .vmem S1x1x384 .f32) (h : m.IsWhole) (x : Vec F S1x1x384 .f32) (inb) :
    View.readAt (Elt F) m.view (Rect.unit (s := S1x1x384) ![0, 0, 0] S1x1x384.size inb).toLoadRect (h.unread x) = x :=
  ra_s m h x inb
theorem ra_x (m : Memref sig .tc .vmem S384x5120 .bf16) (h : m.IsWhole) (x : Vec F S384x5120 .bf16) (inb) :
    View.readAt (Elt F) m.view (Rect.unit (s := S384x5120) ![0, 0] S384x5120.size inb).toLoadRect (h.unread x) = x :=
  (View.readAt_eq_ld _ _ _).trans ((congrArg (fun z => View.ld z _) (h.read_unread x)).trans (View.ld_unit_zero v2 inb x))
theorem ra_x' (m : Memref sig .tc .vmem S384x5120 .bf16) (h : m.IsWhole) (x : Vec F S384x5120 .bf16) (inb) :
    View.readAt (Elt F) m.view (Rect.unit (s := S384x5120) ![0, 0] ![384, 5120] inb).toLoadRect (h.unread x) = x :=
  ra_x m h x inb
theorem ra_w (m : Memref sig .tc .vmem S256x5120 .bf16) (h : m.IsWhole) (x : Vec F S256x5120 .bf16) (inb) :
    View.readAt (Elt F) m.view (Rect.unit (s := S256x5120) ![0, 0] S256x5120.size inb).toLoadRect (h.unread x) = x :=
  (View.readAt_eq_ld _ _ _).trans ((congrArg (fun z => View.ld z _) (h.read_unread x)).trans (View.ld_unit_zero v2 inb x))
theorem ra_w' (m : Memref sig .tc .vmem S256x5120 .bf16) (h : m.IsWhole) (x : Vec F S256x5120 .bf16) (inb) :
    View.readAt (Elt F) m.view (Rect.unit (s := S256x5120) ![0, 0] ![256, 5120] inb).toLoadRect (h.unread x) = x :=
  ra_w m h x inb

theorem rc_1 (v : View sig .tc .vmem S384x128 .f32) (inb inb') (w : Vec F S384x128 .f32) (L : List (View.Piece (Elt F) S384x128 .f32)) :
    v.readCov ((⟨Rect.unit (s := S384x128) ![0, 0] ![384, 128] inb', w⟩ : View.Piece (Elt F) S384x128 .f32) :: L)
      (Rect.unit (s := S384x128) ![0, 0] ![384, 128] inb).toLoadRect = w := View.readCov_full v inb inb' w L
theorem rc_2 (v : View sig .tc .vmem S384x128 .f32) (inb inb') (w : Vec F S384x128 .f32) (L : List (View.Piece (Elt F) S384x128 .f32)) :
    v.readCov ((⟨Rect.unit (s := S384x128) ![0, 0] ![384, 128] inb', w⟩ : View.Piece (Elt F) S384x128 .f32) :: L)
      (Rect.unit (s := S384x128) ![0, 0] S384x128.size inb).toLoadRect = w := View.readCov_full v inb inb' w L
theorem rc_3 (v : View sig .tc .vmem S384x128 .f32) (inb inb') (w : Vec F S384x128 .f32) (L : List (View.Piece (Elt F) S384x128 .f32)) :
    v.readCov ((⟨Rect.unit (s := S384x128) ![0, 0] S384x128.size inb', w⟩ : View.Piece (Elt F) S384x128 .f32) :: L)
      (Rect.unit (s := S384x128) ![0, 0] ![384, 128] inb).toLoadRect = w := View.readCov_full v inb inb' w L
theorem rc_4 (v : View sig .tc .vmem S384x128 .f32) (inb inb') (w : Vec F S384x128 .f32) (L : List (View.Piece (Elt F) S384x128 .f32)) :
    v.readCov ((⟨Rect.unit (s := S384x128) ![0, 0] S384x128.size inb', w⟩ : View.Piece (Elt F) S384x128 .f32) :: L)
      (Rect.unit (s := S384x128) ![0, 0] S384x128.size inb).toLoadRect = w := View.readCov_full v inb inb' w L

theorem rw_f (v : View sig .tc .vmem S384x128 .f32) (f : v.ty.Contents (Elt F)) (inb) (w : Vec F S384x128 .f32) (L : List (View.Piece (Elt F) S384x128 .f32)) :
    v.read (Elt F) (v.writes (Elt F) f ((⟨Rect.unit (s := S384x128) ![0, 0] ![384, 128] inb, w⟩ : View.Piece (Elt F) S384x128 .f32) :: L)) = w :=
  View.read_writes_full v f inb w L
theorem rw_f' (v : View sig .tc .vmem S384x128 .f32) (f : v.ty.Contents (Elt F)) (inb) (w : Vec F S384x128 .f32) (L : List (View.Piece (Elt F) S384x128 .f32)) :
    v.read (Elt F) (v.writes (Elt F) f ((⟨Rect.unit (s := S384x128) ![0, 0] S384x128.size inb, w⟩ : View.Piece (Elt F) S384x128 .f32) :: L)) = w :=
  View.read_writes_full v f inb w L
theorem rw_s (v : View sig .tc .vmem S1x1x384 .f32) (f : v.ty.Contents (Elt F)) (inb) (w : Vec F S1x1x384 .f32) (L : List (View.Piece (Elt F) S1x1x384 .f32)) :
    v.read (Elt F) (v.writes (Elt F) f ((⟨Rect.unit (s := S1x1x384) ![0, 0, 0] ![1, 1, 384] inb, w⟩ : View.Piece (Elt F) S1x1x384 .f32) :: L)) = w :=
  View.read_writes_full v f inb w L
theorem rw_s' (v : View sig .tc .vmem S1x1x384 .f32) (f : v.ty.Contents (Elt F)) (inb) (w : Vec F S1x1x384 .f32) (L : List (View.Piece (Elt F) S1x1x384 .f32)) :
    v.read (Elt F) (v.writes (Elt F) f ((⟨Rect.unit (s := S1x1x384) ![0, 0, 0] S1x1x384.size inb, w⟩ : View.Piece (Elt F) S1x1x384 .f32) :: L)) = w :=
  View.read_writes_full v f inb w L

/-! ## The logits scratch, one vocabulary block at a time -/

theorem slab_inb (j : Fin 125) (o : Fin 2) : ∀ a, (![j.val, 0, 128 * o.val] : Fin 3 → ℕ) a + S1x384x128.size a ≤ S125x384x256.size a :=
  (by decide +kernel : ∀ (j : Fin 125) (o : Fin 2) a, (![j.val, 0, 128 * o.val] : Fin 3 → ℕ) a + S1x384x128.size a ≤ S125x384x256.size a) j o

/-- Half `o` of block `j` of the logits. -/
def slab (L : Vec F S125x384x256 .f32) (j : Fin 125) (o : Fin 2) : Vec F S1x384x128 .f32 :=
  View.ld L (Rect.unit (s := S125x384x256) ![j.val, 0, 128 * o.val] S1x384x128.size (slab_inb j o))

/-- The logits with block `j` replaced by its two halves `a` and `b`. -/
def updSlab (L : Vec F S125x384x256 .f32) (j : Fin 125) (a b : Vec F S1x384x128 .f32) : Vec F S125x384x256 .f32 :=
  VecWindow.put (VecWindow.put L ![j.val, 0, 128 * (0 : Fin 2).val] S1x384x128.size a) ![j.val, 0, 128 * (1 : Fin 2).val] S1x384x128.size b

theorem off_lo (j : Fin 125) : (![(Scalar.indexCast (BitVec.ofNat 32 j.val) : Index).toNat, 0, 0] : Fin 3 → ℕ) = ![j.val, 0, 128 * (0 : Fin 2).val] :=
  (by decide +kernel : ∀ j : Fin 125, (![(Scalar.indexCast (BitVec.ofNat 32 j.val) : Index).toNat, 0, 0] : Fin 3 → ℕ) = ![j.val, 0, 128 * (0 : Fin 2).val]) j
theorem off_hi (j : Fin 125) : (![(Scalar.indexCast (BitVec.ofNat 32 j.val) : Index).toNat, 0, 128] : Fin 3 → ℕ) = ![j.val, 0, 128 * (1 : Fin 2).val] :=
  (by decide +kernel : ∀ j : Fin 125, (![(Scalar.indexCast (BitVec.ofNat 32 j.val) : Index).toNat, 0, 128] : Fin 3 → ℕ) = ![j.val, 0, 128 * (1 : Fin 2).val]) j

theorem k1_at1 (i : grid1.Coords) : k1_off1 i = ![(i 1).val, 0, 128 * (0 : Fin 2).val] := off_lo (i 1)
theorem k1_at2 (i : grid1.Coords) : k1_off2 i = ![(i 1).val, 0, 128 * (1 : Fin 2).val] := off_hi (i 1)
theorem k1_at3 (i : grid1.Coords) : k1_off3 i = ![(i 1).val, 0, 128 * (0 : Fin 2).val] := off_lo (i 1)
theorem k1_at4 (i : grid1.Coords) : k1_off4 i = ![(i 1).val, 0, 128 * (1 : Fin 2).val] := off_hi (i 1)
theorem k1_at5 (i : grid1.Coords) : k1_off5 i = ![(i 1).val, 0, 128 * (0 : Fin 2).val] := off_lo (i 1)
theorem k1_at6 (i : grid1.Coords) : k1_off6 i = ![(i 1).val, 0, 128 * (1 : Fin 2).val] := off_hi (i 1)

/-- A load of half a block of the logits. -/
theorem ra_slab (m : Memref sig .tc .vmem S125x384x256 .f32) (h : m.IsWhole) (L : Vec F S125x384x256 .f32) (j : Fin 125) (o : Fin 2)
    (off : Fin 3 → ℕ) (inb) (e : off = ![j.val, 0, 128 * o.val]) :
    View.readAt (Elt F) m.view (Rect.unit (s := S125x384x256) off S1x384x128.size inb).toLoadRect (h.unread L) = slab L j o := by
  subst e
  exact (View.readAt_eq_ld _ _ _).trans (congrArg (fun z => View.ld z _) (h.read_unread L))

theorem ra_slab3 (m : Memref sig .tc .vmem S125x384x256 .f32) (h : m.IsWhole) (L : Vec F S125x384x256 .f32) (i : grid1.Coords) (inb) :
    View.readAt (Elt F) m.view (Rect.unit (s := S125x384x256) (k1_off3 i) S1x384x128.size inb).toLoadRect (h.unread L) = slab L (i 1) 0 :=
  ra_slab m h L (i 1) 0 _ inb (k1_at3 i)
theorem ra_slab3' (m : Memref sig .tc .vmem S125x384x256 .f32) (h : m.IsWhole) (L : Vec F S125x384x256 .f32) (i : grid1.Coords) (inb) :
    View.readAt (Elt F) m.view (Rect.unit (s := S125x384x256) (k1_off3 i) ![1, 384, 128] inb).toLoadRect (h.unread L) = slab L (i 1) 0 :=
  ra_slab m h L (i 1) 0 _ inb (k1_at3 i)
theorem ra_slab4 (m : Memref sig .tc .vmem S125x384x256 .f32) (h : m.IsWhole) (L : Vec F S125x384x256 .f32) (i : grid1.Coords) (inb) :
    View.readAt (Elt F) m.view (Rect.unit (s := S125x384x256) (k1_off4 i) S1x384x128.size inb).toLoadRect (h.unread L) = slab L (i 1) 1 :=
  ra_slab m h L (i 1) 1 _ inb (k1_at4 i)
theorem ra_slab4' (m : Memref sig .tc .vmem S125x384x256 .f32) (h : m.IsWhole) (L : Vec F S125x384x256 .f32) (i : grid1.Coords) (inb) :
    View.readAt (Elt F) m.view (Rect.unit (s := S125x384x256) (k1_off4 i) ![1, 384, 128] inb).toLoadRect (h.unread L) = slab L (i 1) 1 :=
  ra_slab m h L (i 1) 1 _ inb (k1_at4 i)
theorem ra_slab5 (m : Memref sig .tc .vmem S125x384x256 .f32) (h : m.IsWhole) (L : Vec F S125x384x256 .f32) (i : grid1.Coords) (inb) :
    View.readAt (Elt F) m.view (Rect.unit (s := S125x384x256) (k1_off5 i) S1x384x128.size inb).toLoadRect (h.unread L) = slab L (i 1) 0 :=
  ra_slab m h L (i 1) 0 _ inb (k1_at5 i)
theorem ra_slab5' (m : Memref sig .tc .vmem S125x384x256 .f32) (h : m.IsWhole) (L : Vec F S125x384x256 .f32) (i : grid1.Coords) (inb) :
    View.readAt (Elt F) m.view (Rect.unit (s := S125x384x256) (k1_off5 i) ![1, 384, 128] inb).toLoadRect (h.unread L) = slab L (i 1) 0 :=
  ra_slab m h L (i 1) 0 _ inb (k1_at5 i)
theorem ra_slab6 (m : Memref sig .tc .vmem S125x384x256 .f32) (h : m.IsWhole) (L : Vec F S125x384x256 .f32) (i : grid1.Coords) (inb) :
    View.readAt (Elt F) m.view (Rect.unit (s := S125x384x256) (k1_off6 i) S1x384x128.size inb).toLoadRect (h.unread L) = slab L (i 1) 1 :=
  ra_slab m h L (i 1) 1 _ inb (k1_at6 i)
theorem ra_slab6' (m : Memref sig .tc .vmem S125x384x256 .f32) (h : m.IsWhole) (L : Vec F S125x384x256 .f32) (i : grid1.Coords) (inb) :
    View.readAt (Elt F) m.view (Rect.unit (s := S125x384x256) (k1_off6 i) ![1, 384, 128] inb).toLoadRect (h.unread L) = slab L (i 1) 1 :=
  ra_slab m h L (i 1) 1 _ inb (k1_at6 i)

/-- Two stores of half a block each, last first. -/
theorem rw_slab (m : Memref sig .tc .vmem S125x384x256 .f32) (h : m.IsWhole) (L : Vec F S125x384x256 .f32) (j : Fin 125)
    (off off' : Fin 3 → ℕ) (inb inb') (e : off = ![j.val, 0, 128 * (0 : Fin 2).val]) (e' : off' = ![j.val, 0, 128 * (1 : Fin 2).val]) (a b : Vec F S1x384x128 .f32) :
    m.view.read (Elt F) (m.view.writes (Elt F) (h.unread L)
      [(⟨Rect.unit (s := S125x384x256) off' S1x384x128.size inb', b⟩ : View.Piece (Elt F) S125x384x256 .f32), ⟨Rect.unit (s := S125x384x256) off S1x384x128.size inb, a⟩]) = updSlab L j a b := by
  unfold updSlab
  refine (View.read_writes_cons_put m.view _ inb' b _ e').trans ?_
  refine congrArg (fun z : Vec F S125x384x256 .f32 => VecWindow.put z ![j.val, 0, 128 * (1 : Fin 2).val] S1x384x128.size b) ?_
  refine (View.read_writes_cons_put m.view _ inb a _ e).trans ?_
  refine congrArg (fun z : Vec F S125x384x256 .f32 => VecWindow.put z ![j.val, 0, 128 * (0 : Fin 2).val] S1x384x128.size a) ?_
  rw [View.writes_nil]; exact h.read_unread L

/-! ## The payloads printed twice are the same functions -/

theorem k1_pay20_eq (xb : Vec F S384x5120 .bf16) (w : Vec F S256x5120 .bf16) (sc : Vec F S384x128 .f32) :
    k1_pay20 xb (k1_pay177 w) (constant S384x256 .f32 0x00000000#32) sc = k1_pay12 xb w sc := rfl
theorem k1_pay21_eq (xb : Vec F S384x5120 .bf16) (w : Vec F S256x5120 .bf16) (sc : Vec F S384x128 .f32) :
    k1_pay21 xb (k1_pay177 w) (constant S384x256 .f32 0x00000000#32) sc = k1_pay13 xb w sc := rfl
theorem k1_pay22_eq (xb : Vec F S384x5120 .bf16) (w : Vec F S256x5120 .bf16) (sc m : Vec F S384x128 .f32) :
    k1_pay22 xb (k1_pay177 w) (constant S384x256 .f32 0x00000000#32) sc m = k1_pay14 xb w sc m := rfl
theorem k1_pay23_eq (xb : Vec F S384x5120 .bf16) (w : Vec F S256x5120 .bf16) (sc m s : Vec F S384x128 .f32) :
    k1_pay23 xb (k1_pay177 w) (constant S384x256 .f32 0x00000000#32) sc m s = k1_pay15 xb w sc m s := rfl
theorem k1_pay173_eq (lse : Vec F S384x128 .f32) (a : Vec F S1x384x128 .f32) : k1_pay173 lse a = k1_pay25 lse a := rfl
theorem k1_pay175_eq (lse : Vec F S384x128 .f32) (a : Vec F S1x384x128 .f32) : k1_pay175 lse a = k1_pay27 lse a := rfl
theorem k1_pay176_eq (lse er : Vec F S384x128 .f32) (a b : Vec F S1x384x128 .f32) : k1_pay176 lse er a b = k1_pay28 lse er a b := rfl

/-! ## The step -/

/-- The contents of the seven scratch buffers: the logits of one row block, its activations and their scale, the running
    maximum and sum, the previous row block's log-sum-exp and its running error. -/
structure LSt (F : FTy → Type) where
  L : Vec F S125x384x256 .f32
  xb : Vec F S384x5120 .bf16
  sc : Vec F S384x128 .f32
  mx : Vec F S384x128 .f32
  sm : Vec F S384x128 .f32
  lse : Vec F S384x128 .f32
  er : Vec F S384x128 .f32

namespace LSt

/-- Close a row block: its log-sum-exp, and the error back to zero. -/
def fin (st : LSt F) : LSt F := { st with lse := k1_pay2 st.mx st.sm st.mx, er := k1_pay4 }
/-- Load a row block: activations, scale, and the running maximum and sum back to their starts. -/
def load (x : Vec F S384x5120 .fp8e4m3) (xs : Vec F S1x1x384 .f32) (st : LSt F) : LSt F :=
  { st with xb := XB x, sc := k1_pay5 xs, mx := k1_pay6, sm := k1_pay7 }
/-- One block of logits. -/
def produce (w : Vec F S256x5120 .bf16) (j : Fin 125) (st : LSt F) : LSt F :=
  { st with L := updSlab st.L j (k1_pay12 st.xb w st.sc) (k1_pay13 st.xb w st.sc), mx := k1_pay14 st.xb w st.sc st.mx, sm := k1_pay15 st.xb w st.sc st.mx st.sm }
/-- The error after one block of codes. -/
def emit (j : Fin 125) (st : LSt F) : LSt F := { st with er := k1_pay28 st.lse st.er (slab st.L j 0) (slab st.L j 1) }

theorem two_tiles (a b : Vec F S384x128 .fp8e5m2) (y : S384x256.Idx) :
    ∃ pc ∈ ([⟨Rect.unit (s := S384x256) ![0, 128] S384x128.size inb_S384x256_S384x128_0_128, b⟩, ⟨Rect.unit (s := S384x256) ![0, 0] S384x128.size inb_S384x256_S384x128_0_0, a⟩] : List (View.Piece (Elt F) S384x256 .fp8e5m2)), y ∈ pc.1.set :=
  View.cover_of_tiledL (s := S384x256) _ S384x128.size (by sl_kernel_rfl) y

/-- One block of codes. -/
def codes (j : Fin 125) (st : LSt F) : Vec F S384x256 .fp8e5m2 :=
  View.canon [⟨Rect.unit (s := S384x256) ![0, 128] S384x128.size inb_S384x256_S384x128_0_128, k1_pay27 st.lse (slab st.L j 1)⟩,
    ⟨Rect.unit (s := S384x256) ![0, 0] S384x128.size inb_S384x256_S384x128_0_0, k1_pay25 st.lse (slab st.L j 0)⟩]

/-- What a point has done before it emits. -/
def pre (x : Vec F S384x5120 .fp8e4m3) (xs : Vec F S1x1x384 .f32) (i : Fin 17) (j : Fin 125) (st : LSt F) : LSt F :=
  if j.val = 0 then (if i.val < 16 then (if 0 < i.val then st.fin else st).load x xs else (if 0 < i.val then st.fin else st)) else st
/-- What a point has done once it has emitted. -/
def mid (x : Vec F S384x5120 .fp8e4m3) (xs : Vec F S1x1x384 .f32) (i : Fin 17) (j : Fin 125) (st : LSt F) : LSt F :=
  if 0 < i.val then (st.pre x xs i j).emit j else st.pre x xs i j
/-- What a point has done at its end. -/
def post (x : Vec F S384x5120 .fp8e4m3) (xs : Vec F S1x1x384 .f32) (w : Vec F S256x5120 .bf16) (i : Fin 17) (j : Fin 125) (st : LSt F) : LSt F :=
  if i.val < 16 then (st.mid x xs i j).produce w j else st.mid x xs i j

end LSt

/-- The scratch memrefs held at the state `st`. -/
def ownsSt (c : Dev nD) (arg8 : Memref sig .tc .vmem S125x384x256 .f32) (arg9 : Memref sig .tc .vmem S384x5120 .bf16)
    (arg10 arg11 arg12 arg13 arg14 : Memref sig .tc .vmem S384x128 .f32) (st : LSt F) : sProp 𝕄 :=
  iprop(owns (c : Thread nD τ) arg8 fullShare st.L ∗ owns (c : Thread nD τ) arg9 fullShare st.xb ∗ owns (c : Thread nD τ) arg10 fullShare st.sc
    ∗ owns (c : Thread nD τ) arg11 fullShare st.mx ∗ owns (c : Thread nD τ) arg12 fullShare st.sm ∗ owns (c : Thread nD τ) arg13 fullShare st.lse
    ∗ owns (c : Thread nD τ) arg14 fullShare st.er)

end Cert.KernelIdeal.Gen
-- ==== Proof.IdealLogitsBody.lean ====
/- The body of the second pallas_call, `cc1_logits`, does to its scratch buffers what `LSt.post` says, and leaves in its
   three result windows the block of codes, the row block's log-sum-exp and its largest error.  One theorem per case of its
   guards. -/
module

public import proofs.«01_k».proof.Proof.IdealLogitsStep
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The point: first row-block step, first vocabulary block. -/
theorem logits_z0 (c : Dev nD) (E : Set ℕ) (i : grid1.Coords) (hi : (i 0).val = 0) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (d5) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : ¬ 0 < (i 0).val := by omega
  have hi2 : (i 0).val < 16 := by omega
  have hi3 : ¬ (i 0).val = 16 := by omega
  have hi4 := hi
  have hj1 := hj
  have hj2 : ¬ (i 1).val = 124 := by omega
  have g1 := (k1_cond1_iff i).mpr hj1
  have g2 := (k1_cond2_iff i).not.mpr hi1
  have g3 := (k1_cond3_iff i).mpr hi2
  have g4 := (k1_cond4_iff i).mpr hi4
  have g5 := (k1_cond5_iff i).not.mpr (fun h => hi1 h.1)
  have g6 := (k1_cond6_iff i).not.mpr hi3
  have g7 := (k1_cond7_iff i).not.mpr (fun h => hi1 h.1)
  have e1 : st.pre x xs (i 0) (i 1) = (st.load x xs) := by simp only [LSt.pre, hi1, hi2, hj1, if_true, if_false]
  have e2 : st.mid x xs (i 0) (i 1) = (st.load x xs) := by simp only [LSt.mid, e1, hi1, if_true, if_false]
  have e3 : st.post x xs w (i 0) (i 1) = ((st.load x xs).produce w (i 1)) := by simp only [LSt.post, e2, hi2, if_true, if_false]
  rw [e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [Hk1_part29_0]
  · iexists _; isplitr; swap
    · iexact Hk1_part29_0
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at1 i) (k1_at2 i) _ _
  isplitl [Hk1_part29_1]
  · iexists _; isplitr; swap
    · iexact Hk1_part29_1
    · ipureintro; simp only [harg9.read_unread, harg2.read_unread, LSt.fin, LSt.load, LSt.emit, LSt.produce, LSt.codes]
  isplitl [H10]
  · iexists _; isplitr; swap
    · iexact H10
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; exact harg14.read_unread _

set_option maxHeartbeats 2000000 in
/-- The point: first row-block step, a vocabulary block after the first. -/
theorem logits_zp (c : Dev nD) (E : Set ℕ) (i : grid1.Coords) (hi : (i 0).val = 0) (hj0 : 0 < (i 1).val)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (d5) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : ¬ 0 < (i 0).val := by omega
  have hi2 : (i 0).val < 16 := by omega
  have hi3 : ¬ (i 0).val = 16 := by omega
  have hi4 := hi
  have hj1 : ¬ (i 1).val = 0 := by omega
  have g1 := (k1_cond1_iff i).not.mpr hj1
  have g2 := (k1_cond2_iff i).not.mpr hi1
  have g3 := (k1_cond3_iff i).mpr hi2
  have g4 := (k1_cond4_iff i).mpr hi4
  have g5 := (k1_cond5_iff i).not.mpr (fun h => hi1 h.1)
  have g6 := (k1_cond6_iff i).not.mpr hi3
  have g7 := (k1_cond7_iff i).not.mpr (fun h => hi1 h.1)
  have e1 : st.pre x xs (i 0) (i 1) = st := by simp only [LSt.pre, hi1, hi2, hj1, if_true, if_false]
  have e2 : st.mid x xs (i 0) (i 1) = st := by simp only [LSt.mid, e1, hi1, if_true, if_false]
  have e3 : st.post x xs w (i 0) (i 1) = (st.produce w (i 1)) := by simp only [LSt.post, e2, hi2, if_true, if_false]
  rw [e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at1 i) (k1_at2 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; exact harg14.read_unread _

set_option maxHeartbeats 2000000 in
/-- The point: row-block steps 1 to 15, first vocabulary block. -/
theorem logits_m0 (c : Dev nD) (E : Set ℕ) (i : grid1.Coords) (hi0 : 0 < (i 0).val) (hi : (i 0).val < 16) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (k1_pay3 st.mx st.sm st.mx)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 := hj
  have hj2 : ¬ (i 1).val = 124 := by omega
  have g1 := (k1_cond1_iff i).mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).not.mpr (fun h => hj2 h.2)
  have e1 : st.pre x xs (i 0) (i 1) = (st.fin.load x xs) := by simp only [LSt.pre, hi1, hi2, hj1, if_true, if_false]
  have e2 : st.mid x xs (i 0) (i 1) = ((st.fin.load x xs).emit (i 1)) := by simp only [LSt.mid, e1, hi1, if_true, if_false]
  have e3 : st.post x xs w (i 0) (i 1) = (((st.fin.load x xs).emit (i 1)).produce w (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [Hk1_part29_0]
  · iexists _; isplitr; swap
    · iexact Hk1_part29_0
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [Hk1_part29_1]
  · iexists _; isplitr; swap
    · iexact Hk1_part29_1
    · ipureintro; simp only [harg9.read_unread, harg2.read_unread, LSt.fin, LSt.load, LSt.emit, LSt.produce, LSt.codes]
  isplitl [H10]
  · iexists _; isplitr; swap
    · iexact H10
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: row-block steps 1 to 15, a vocabulary block between the first and the last. -/
theorem logits_mm (c : Dev nD) (E : Set ℕ) (i : grid1.Coords) (hi0 : 0 < (i 0).val) (hi : (i 0).val < 16) (hj0 : 0 < (i 1).val) (hj : (i 1).val < 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 : ¬ (i 1).val = 0 := by omega
  have hj2 : ¬ (i 1).val = 124 := by omega
  have g1 := (k1_cond1_iff i).not.mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).not.mpr (fun h => hj2 h.2)
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = ((st.emit (i 1)).produce w (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: row-block steps 1 to 15, last vocabulary block. -/
theorem logits_ml (c : Dev nD) (E : Set ℕ) (i : grid1.Coords) (hi0 : 0 < (i 0).val) (hi : (i 0).val < 16) (hj : (i 1).val = 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (k1_pay29 (st.mid x xs (i 0) (i 1)).er)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := hi0
  have hi2 : (i 0).val < 16 := hi
  have hi3 : ¬ (i 0).val = 16 := by omega
  have hi4 : ¬ (i 0).val = 0 := by omega
  have hj1 : ¬ (i 1).val = 0 := by omega
  have hj2 := hj
  have g1 := (k1_cond1_iff i).not.mpr hj1
  have g2 := (k1_cond2_iff i).mpr hi1
  have g3 := (k1_cond3_iff i).mpr hi2
  have g4 := (k1_cond4_iff i).not.mpr hi4
  have g5 := (k1_cond5_iff i).mpr ⟨hi1, hi2⟩
  have g6 := (k1_cond6_iff i).not.mpr hi3
  have g7 := (k1_cond7_iff i).mpr ⟨hi1, hj2⟩
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = ((st.emit (i 1)).produce w (i 1)) := by simp only [LSt.post, e2, hi2, if_true, if_false]
  rw [e1, e2, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H8]
  · iexists _; isplitr; swap
    · iexact H8
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact rw_slab _ _ _ (i 1) _ _ _ _ (k1_at3 i) (k1_at4 i) _ _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H12]
  · iexists _; isplitr; swap
    · iexact H12
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, first vocabulary block. -/
theorem logits_l0 (c : Dev nD) (E : Set ℕ) (i : grid1.Coords) (hi : (i 0).val = 16) (hj : (i 1).val = 0)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (k1_pay3 st.mx st.sm st.mx)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 := hj
  have hj2 : ¬ (i 1).val = 124 := by omega
  have g1 := (k1_cond1_iff i).mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).not.mpr (fun h => hj2 h.2)
  have e1 : st.pre x xs (i 0) (i 1) = st.fin := by simp only [LSt.pre, hi1, hi2, hj1, if_true, if_false]
  have e2 : st.mid x xs (i 0) (i 1) = (st.fin.emit (i 1)) := by simp only [LSt.mid, e1, hi1, if_true, if_false]
  have e3 : st.post x xs w (i 0) (i 1) = (st.fin.emit (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, a vocabulary block between the first and the last. -/
theorem logits_lm (c : Dev nD) (E : Set ℕ) (i : grid1.Coords) (hi : (i 0).val = 16) (hj0 : 0 < (i 1).val) (hj : (i 1).val < 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 : ¬ (i 1).val = 0 := by omega
  have hj2 : ¬ (i 1).val = 124 := by omega
  have g1 := (k1_cond1_iff i).not.mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).not.mpr (fun h => hj2 h.2)
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = (st.emit (i 1)) := by simp only [LSt.post, e2, hi2, if_true, if_false]
  rw [e1, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

set_option maxHeartbeats 2000000 in
/-- The point: last row-block step, last vocabulary block. -/
theorem logits_ll (c : Dev nD) (E : Set ℕ) (i : grid1.Coords) (hi : (i 0).val = 16) (hj : (i 1).val = 124)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (LSt.codes (i 1) (st.pre x xs (i 0) (i 1))) ∗ owns (c : Thread nD τ) arg6 fullShare (d6)
      ∗ owns (c : Thread nD τ) arg7 fullShare (k1_pay29 (st.mid x xs (i 0) (i 1)).er)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have hi1 : 0 < (i 0).val := by omega
  have hi2 : ¬ (i 0).val < 16 := by omega
  have hi3 := hi
  have hi4 : ¬ (i 0).val = 0 := by omega
  have hj1 : ¬ (i 1).val = 0 := by omega
  have hj2 := hj
  have g1 := (k1_cond1_iff i).not.mpr hj1
  have g2 := (k1_cond2_iff i).mpr hi1
  have g3 := (k1_cond3_iff i).not.mpr hi2
  have g4 := (k1_cond4_iff i).not.mpr hi4
  have g5 := (k1_cond5_iff i).not.mpr (fun h => hi2 h.2)
  have g6 := (k1_cond6_iff i).mpr hi3
  have g7 := (k1_cond7_iff i).mpr ⟨hi1, hj2⟩
  have e1 : st.pre x xs (i 0) (i 1) = st := by simp only [LSt.pre, hi1, hi2, hj1, if_true, if_false]
  have e2 : st.mid x xs (i 0) (i 1) = (st.emit (i 1)) := by simp only [LSt.mid, e1, hi1, if_true, if_false]
  have e3 : st.post x xs w (i 0) (i 1) = (st.emit (i 1)) := by simp only [LSt.post, e2, hi2, if_true, if_false]
  rw [e1, e2, e3]
  clear e1 e2 e3
  have hcut := loadX_run (F := F) c
  simp only [cc1_logits_eq_skeleton]
  unfold cc1_logits_skel
  simp only [k1_part30_eq_skeleton]
  unfold ownsSt owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact g1 | sl_exact g2 | sl_exact g3 | sl_exact g4 | sl_exact g5 | sl_exact g6 | sl_exact g7)
  sl_step
  clear hcut
  sl_unfold_run_names
  iapply HK
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; simp only [ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]; exact View.read_writes_eq_canon _ _ _ (LSt.two_tiles _ _)
  isplitl [H6]
  · iexists _; isplitr; swap
    · iexact H6
    · ipureintro; exact harg6.read_unread _
  isplitl [H7]
  · iexists _; isplitr; swap
    · iexact H7
    · ipureintro; simp only [rw_s, rw_s', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]
  isplitl [H8]
  · iexists _; isplitr; swap
    · iexact H8
    · ipureintro; exact harg8.read_unread _
  isplitl [H9]
  · iexists _; isplitr; swap
    · iexact H9
    · ipureintro; exact harg9.read_unread _
  isplitl [H10]
  · iexists _; isplitr; swap
    · iexact H10
    · ipureintro; exact harg10.read_unread _
  isplitl [H11]
  · iexists _; isplitr; swap
    · iexact H11
    · ipureintro; exact harg11.read_unread _
  isplitl [H12]
  · iexists _; isplitr; swap
    · iexact H12
    · ipureintro; exact harg12.read_unread _
  isplitl [H13]
  · iexists _; isplitr; swap
    · iexact H13
    · ipureintro; exact harg13.read_unread _
  iexists _; isplitr; swap
  · iexact H14
  · ipureintro; simp only [rw_f, rw_f', ra_f, ra_f', ra_s, ra_s', ra_x, ra_x', ra_w, ra_w', rc_1, rc_2, rc_3, rc_4, ra_slab3, ra_slab3', ra_slab4, ra_slab4', ra_slab5, ra_slab5', ra_slab6, ra_slab6', k1_pay20_eq, k1_pay21_eq, k1_pay22_eq, k1_pay23_eq, k1_pay173_eq, k1_pay175_eq, k1_pay176_eq, harg2.read_unread, LSt.fin, LSt.load, LSt.emit, LSt.produce, LSt.codes]

/-- The point, in every case. -/
theorem logits_step (c : Dev nD) (E : Set ℕ) (i : grid1.Coords)
    (arg2 : Memref sig .tc .vmem S384x5120 .fp8e4m3) (harg2 : arg2.IsWhole) (arg3 : Memref sig .tc .vmem S1x1x384 .f32) (harg3 : arg3.IsWhole) (arg4 : Memref sig .tc .vmem S256x5120 .bf16) (harg4 : arg4.IsWhole) (arg5 : Memref sig .tc .vmem S384x256 .fp8e5m2) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S125x384x256 .f32) (harg8 : arg8.IsWhole) (arg9 : Memref sig .tc .vmem S384x5120 .bf16) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S384x128 .f32) (harg14 : arg14.IsWhole)
    (x : Vec F S384x5120 .fp8e4m3) (xs : Vec F S1x1x384 .f32) (w : Vec F S256x5120 .bf16)
    (d5 : Vec F S384x256 .fp8e5m2) (d6 d7 : Vec F S1x1x384 .f32) (st : LSt F) (K : sProp 𝕄) :
    iprop(owns (c : Thread nD τ) arg2 fullShare x ∗ owns (c : Thread nD τ) arg3 fullShare xs ∗ owns (c : Thread nD τ) arg4 fullShare w
      ∗ owns (c : Thread nD τ) arg5 fullShare d5 ∗ owns (c : Thread nD τ) arg6 fullShare d6 ∗ owns (c : Thread nD τ) arg7 fullShare d7
      ∗ ownsSt c arg8 arg9 arg10 arg11 arg12 arg13 arg14 st
      ∗ (iprop(owns (c : Thread nD τ) arg2 fullShare x ∗ owns (c : Thread nD τ) arg3 fullShare xs ∗ owns (c : Thread nD τ) arg4 fullShare w
      ∗ owns (c : Thread nD τ) arg5 fullShare (if 0 < (i 0).val then LSt.codes (i 1) (st.pre x xs (i 0) (i 1)) else d5)
      ∗ owns (c : Thread nD τ) arg6 fullShare (if 0 < (i 0).val ∧ (i 1).val = 0 then k1_pay3 st.mx st.sm st.mx else d6)
      ∗ owns (c : Thread nD τ) arg7 fullShare (if 0 < (i 0).val ∧ (i 1).val = 124 then k1_pay29 (st.mid x xs (i 0) (i 1)).er else d7)
      ∗ ownsSt c arg8 arg9 arg10 arg11 arg12 arg13 arg14 (st.post x xs w (i 0) (i 1))) -∗ K))
    ⊢ wp frame (wpE (defs₀ (F := F)) Variants.none c none) E (cc1_logits (F := F) i arg2 harg2 arg3 harg3 arg4 harg4 arg5 harg5 arg6 harg6 arg7 harg7 arg8 harg8 arg9 harg9 arg10 harg10 arg11 harg11 arg12 harg12 arg13 harg13 arg14 harg14) (fun _ => K) := by
  have b0 : (i 0).val < 17 := (i 0).isLt
  have b1 : (i 1).val < 125 := (i 1).isLt
  rcases Nat.eq_zero_or_pos (i 0).val with h0 | h0
  · rw [if_neg (by omega), if_neg (by omega), if_neg (by omega)]
    rcases Nat.eq_zero_or_pos (i 1).val with h1 | h1
    · exact logits_z0 c E i h0 h1 arg2 harg2 arg3 harg3 arg4 harg4 arg5 harg5 arg6 harg6 arg7 harg7 arg8 harg8 arg9 harg9 arg10 harg10 arg11 harg11 arg12 harg12 arg13 harg13 arg14 harg14 x xs w d5 d6 d7 st K
    · exact logits_zp c E i h0 h1 arg2 harg2 arg3 harg3 arg4 harg4 arg5 harg5 arg6 harg6 arg7 harg7 arg8 harg8 arg9 harg9 arg10 harg10 arg11 harg11 arg12 harg12 arg13 harg13 arg14 harg14 x xs w d5 d6 d7 st K
  · rw [if_pos h0]
    by_cases h2 : (i 0).val < 16
    · rcases Nat.eq_zero_or_pos (i 1).val with h1 | h1
      · rw [if_pos ⟨h0, h1⟩, if_neg (by omega)]; exact logits_m0 c E i h0 h2 h1 arg2 harg2 arg3 harg3 arg4 harg4 arg5 harg5 arg6 harg6 arg7 harg7 arg8 harg8 arg9 harg9 arg10 harg10 arg11 harg11 arg12 harg12 arg13 harg13 arg14 harg14 x xs w d5 d6 d7 st K
      · by_cases h3 : (i 1).val < 124
        · rw [if_neg (by omega), if_neg (by omega)]; exact logits_mm c E i h0 h2 h1 h3 arg2 harg2 arg3 harg3 arg4 harg4 arg5 harg5 arg6 harg6 arg7 harg7 arg8 harg8 arg9 harg9 arg10 harg10 arg11 harg11 arg12 harg12 arg13 harg13 arg14 harg14 x xs w d5 d6 d7 st K
        · rw [if_neg (by omega), if_pos ⟨h0, by omega⟩]; exact logits_ml c E i h0 h2 (by omega) arg2 harg2 arg3 harg3 arg4 harg4 arg5 harg5 arg6 harg6 arg7 harg7 arg8 harg8 arg9 harg9 arg10 harg10 arg11 harg11 arg12 harg12 arg13 harg13 arg14 harg14 x xs w d5 d6 d7 st K
    · have h2' : (i 0).val = 16 := by omega
      rcases Nat.eq_zero_or_pos (i 1).val with h1 | h1
      · rw [if_pos ⟨h0, h1⟩, if_neg (by omega)]; exact logits_l0 c E i h2' h1 arg2 harg2 arg3 harg3 arg4 harg4 arg5 harg5 arg6 harg6 arg7 harg7 arg8 harg8 arg9 harg9 arg10 harg10 arg11 harg11 arg12 harg12 arg13 harg13 arg14 harg14 x xs w d5 d6 d7 st K
      · by_cases h3 : (i 1).val < 124
        · rw [if_neg (by omega), if_neg (by omega)]; exact logits_lm c E i h2' h1 h3 arg2 harg2 arg3 harg3 arg4 harg4 arg5 harg5 arg6 harg6 arg7 harg7 arg8 harg8 arg9 harg9 arg10 harg10 arg11 harg11 arg12 harg12 arg13 harg13 arg14 harg14 x xs w d5 d6 d7 st K
        · rw [if_neg (by omega), if_pos ⟨h0, by omega⟩]; exact logits_ll c E i h2' (by omega) arg2 harg2 arg3 harg3 arg4 harg4 arg5 harg5 arg6 harg6 arg7 harg7 arg8 harg8 arg9 harg9 arg10 harg10 arg11 harg11 arg12 harg12 arg13 harg13 arg14 harg14 x xs w d5 d6 d7 st K

end Cert.KernelIdeal.Gen
-- ==== Proof.IdealLogitsRegion.lean ====
/- The second pallas_call's region: what its scratch buffers hold before each grid point (`stAt`, the fold of `LSt.post` over
   the points), its proof data, and the pipeline's body obligation.  The buffers start with unknown contents, so the
   invariant claims only what the points so far have determined (`Agree`). -/
module

public import proofs.«01_k».proof.Proof.IdealLogitsBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S384x5120 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x5120 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S384x256 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x384 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x384 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S125x384x256 .f32 := Memref.whole cc1_scratch0
abbrev scM1_1 : Memref sig .tc .vmem S384x5120 .bf16 := Memref.whole cc1_scratch1
abbrev scM1_2 : Memref sig .tc .vmem S384x128 .f32 := Memref.whole cc1_scratch2
abbrev scM1_3 : Memref sig .tc .vmem S384x128 .f32 := Memref.whole cc1_scratch3
abbrev scM1_4 : Memref sig .tc .vmem S384x128 .f32 := Memref.whole cc1_scratch4
abbrev scM1_5 : Memref sig .tc .vmem S384x128 .f32 := Memref.whole cc1_scratch5
abbrev scM1_6 : Memref sig .tc .vmem S384x128 .f32 := Memref.whole cc1_scratch6

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d)) ∗ (∃ r, prngReg c r)) := by
  unfold Pipeline.ΦA; rw [scopedRest1_eq]; simp only [scM1_0, scM1_1, scM1_2, scM1_3, scM1_4, scM1_5, scM1_6, owns_whole]; try rfl

/-! ## The points -/

theorem N1 : cfg1.N = 2125 := rfl
/-- Point `t` is row-block step `t / 125`, vocabulary block `t % 125`. -/
theorem co0 (t : Fin cfg1.N) : (grid1.coords t 0).val = t.val / 125 := by
  have h : t.val < 2125 := t.isLt
  rw [Pipeline.Grid.coords_val (G := grid1) t 0 (S := 125) (B := 17) (by decide) rfl]
  omega
theorem co1 (t : Fin cfg1.N) : (grid1.coords t 1).val = t.val % 125 := by
  rw [Pipeline.Grid.coords_val (G := grid1) t 1 (S := 1) (B := 125) (by decide) rfl, Nat.div_one]

/-! ## What the scratch buffers hold -/

/-- The step at point `t`. -/
def stPre (c : Dev nD) (t : Fin cfg1.N) (st : LSt F) : LSt F := st.pre (iblk1 V c 0 t) (iblk1 V c 1 t) (grid1.coords t 0) (grid1.coords t 1)
def stMid (c : Dev nD) (t : Fin cfg1.N) (st : LSt F) : LSt F := st.mid (iblk1 V c 0 t) (iblk1 V c 1 t) (grid1.coords t 0) (grid1.coords t 1)
def stPost (c : Dev nD) (t : Fin cfg1.N) (st : LSt F) : LSt F :=
  st.post (iblk1 V c 0 t) (iblk1 V c 1 t) (iblk1 V c 2 t) (grid1.coords t 0) (grid1.coords t 1)

/-- The scratch buffers before point `n`, from an arbitrary start. -/
def stAt (c : Dev nD) : ℕ → LSt F
  | 0 => ⟨constant S125x384x256 .f32 0#32, constant S384x5120 .bf16 0#16, k1_pay4, k1_pay4, k1_pay4, k1_pay4, k1_pay4⟩
  | n + 1 => if h : n < cfg1.N then stPost V c ⟨n, h⟩ (stAt c n) else stAt c n

theorem stAt_succ (c : Dev nD) (t : Fin cfg1.N) : stAt V c (t.val + 1) = stPost V c t (stAt V c t.val) := by
  rw [stAt, dif_pos t.isLt]

/-- Two states agree on what the first `n` points determine. -/
def Agree (n : ℕ) (a b : LSt F) : Prop :=
  (1 ≤ n → a.xb = b.xb ∧ a.sc = b.sc ∧ a.mx = b.mx ∧ a.sm = b.sm) ∧ (126 ≤ n → a.lse = b.lse ∧ a.er = b.er)
    ∧ ∀ y : S125x384x256.Idx, (y 0).val < n → a.L y = b.L y

theorem Agree.zero (a b : LSt F) : Agree 0 a b := ⟨fun h => by omega, fun h => by omega, fun y h => by omega⟩

theorem Agree.eq {n : ℕ} {a b : LSt F} (h : Agree n a b) (hn : 126 ≤ n) : a = b := by
  obtain ⟨h1, h2, h3⟩ := h
  obtain ⟨e1, e2, e3, e4⟩ := h1 (by omega)
  obtain ⟨e5, e6⟩ := h2 hn
  have e7 : a.L = b.L := funext fun y => h3 y (lt_of_lt_of_le (y 0).isLt (by show 125 ≤ n; omega))
  cases a; cases b; simp only at e1 e2 e3 e4 e5 e6 e7; subst e1 e2 e3 e4 e5 e6 e7; rfl

theorem Agree.refl (n : ℕ) (a : LSt F) : Agree n a a := ⟨fun _ => ⟨rfl, rfl, rfl, rfl⟩, fun _ => ⟨rfl, rfl⟩, fun _ _ => rfl⟩

theorem Agree.fin_eq {n : ℕ} {a b : LSt F} (h : Agree n a b) (hn : 125 ≤ n) : a.fin = b.fin := by
  obtain ⟨h1, h2, h3⟩ := h
  obtain ⟨e1, e2, e3, e4⟩ := h1 (by omega)
  have e7 : a.L = b.L := funext fun y => h3 y (lt_of_lt_of_le (y 0).isLt hn)
  unfold LSt.fin; rw [e1, e2, e3, e4, e7]

/-- From the second row-block step on, what a point has done before it emits is determined. -/
theorem Agree.pre_eq (c : Dev nD) (t : Fin cfg1.N) {a b : LSt F} (h : Agree t.val a b) (hn : 125 ≤ t.val) : stPre V c t a = stPre V c t b := by
  by_cases h6 : 126 ≤ t.val
  · rw [h.eq h6]
  · unfold stPre LSt.pre
    have h0 : (grid1.coords t 0).val = 1 := by rw [co0]; omega
    have h1 : (grid1.coords t 1).val = 0 := by rw [co1]; omega
    rw [if_pos h1, if_pos h1, h0, if_pos (by omega), if_pos (by omega), if_pos (by omega), if_pos (by omega), h.fin_eq hn]

theorem updSlab_congr {L L' : Vec F S125x384x256 .f32} (j : Fin 125) (a b : Vec F S1x384x128 .f32) {n : ℕ} (hj : j.val = n)
    (h : ∀ y : S125x384x256.Idx, (y 0).val < n → L y = L' y) (y : S125x384x256.Idx) (hy : (y 0).val < n + 1) :
    updSlab L j a b y = updSlab L' j a b y := by
  unfold updSlab VecWindow.put
  split
  · rfl
  · rename_i h1
    split
    · rfl
    · rename_i h2
      refine h y ?_
      by_contra h3
      have e : (y 0).val = j.val := by omega
      have b1 : (y 1).val < 384 := (y 1).isLt
      have b2 : (y 2).val < 256 := (y 2).isLt
      by_cases h4 : (y 2).val < 128
      · refine h2 fun a => ?_
        fin_cases a
        · show j.val ≤ (y 0).val ∧ (y 0).val < j.val + 1; omega
        · show 0 ≤ (y 1).val ∧ (y 1).val < 0 + 384; omega
        · show 128 * 0 ≤ (y 2).val ∧ (y 2).val < 128 * 0 + 128; omega
      · refine h1 fun a => ?_
        fin_cases a
        · show j.val ≤ (y 0).val ∧ (y 0).val < j.val + 1; omega
        · show 0 ≤ (y 1).val ∧ (y 1).val < 0 + 384; omega
        · show 128 * 1 ≤ (y 2).val ∧ (y 2).val < 128 * 1 + 128; omega

/-- A point keeps the agreement and extends it by itself. -/
theorem Agree.step (c : Dev nD) (t : Fin cfg1.N) {a b : LSt F} (h : Agree t.val a b) : Agree (t.val + 1) (stPost V c t a) (stPost V c t b) := by
  have hN : t.val < 2125 := t.isLt
  by_cases hn : 125 ≤ t.val
  · have e := h.pre_eq V c t hn
    unfold stPre at e
    unfold stPost LSt.post LSt.mid
    rw [e]; exact Agree.refl _ _
  · have h0 : (grid1.coords t 0).val = 0 := by rw [co0]; omega
    have h1 : (grid1.coords t 1).val = t.val := by rw [co1]; omega
    have key : ∀ a b : LSt F, a.xb = b.xb → a.sc = b.sc → a.mx = b.mx → a.sm = b.sm → (∀ y : S125x384x256.Idx, (y 0).val < t.val → a.L y = b.L y) →
        Agree (t.val + 1) (a.produce (iblk1 V c 2 t) (grid1.coords t 1)) (b.produce (iblk1 V c 2 t) (grid1.coords t 1)) := by
      intro a b e1 e2 e3 e4 e5
      refine ⟨fun _ => ?_, fun h => by omega, fun y hy => ?_⟩
      · unfold LSt.produce; simp only [e1, e2, e3, e4, and_self]
      · unfold LSt.produce; simp only [e1, e2]
        exact updSlab_congr (grid1.coords t 1) _ _ h1 e5 y hy
    unfold stPost LSt.post LSt.mid LSt.pre
    simp only [h0, h1, show ¬ (0 : ℕ) < 0 from lt_irrefl 0, show (0 : ℕ) < 16 by omega, if_true, if_false]
    by_cases hz : t.val = 0
    · rw [if_pos hz, if_pos hz]
      exact key _ _ rfl rfl rfl rfl (fun y hy => by omega)
    · rw [if_neg hz, if_neg hz]
      obtain ⟨g1, -, g3⟩ := h
      obtain ⟨e1, e2, e3, e4⟩ := g1 (by omega)
      exact key _ _ e1 e2 e3 e4 g3

/-! ## The proof data -/

/-- What the three result windows' staging buffers hold after point `t`. -/
def outCodes (c : Dev nD) (t : Fin cfg1.N) : Vec F S384x256 .fp8e5m2 := LSt.codes (grid1.coords t 1) (stPre V c t (stAt V c t.val))
/-- The log-sum-exp of the row block before: as row-block step `t / 125` found it at its first point. -/
def outLse (c : Dev nD) (t : Fin cfg1.N) : Vec F S1x1x384 .f32 :=
  k1_pay3 (stAt V c (125 * (t.val / 125))).mx (stAt V c (125 * (t.val / 125))).sm (stAt V c (125 * (t.val / 125))).mx
def outErr (c : Dev nD) (t : Fin cfg1.N) : Vec F S1x1x384 .f32 := k1_pay29 (stMid V c t (stAt V c t.val)).er

/-- The invariant before point `n`. -/
def Phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ st : LSt F, ⌜Agree n st (stAt V c n)⌝ ∗ ownsSt c scM1_0 scM1_1 scM1_2 scM1_3 scM1_4 scM1_5 scM1_6 st)) ∗ (∃ r, prngReg c r))

theorem Phi1_zero (c : Dev nD) : (Pipeline.ΦA spec1 c : sProp 𝕄) ⊢ Phi1 V c 0 := by
  rw [PhiA1_eq]; unfold Phi1 ownsSt
  iintro ⟨⟨HR0, HR1, HR2, HR3, HR4, HR5, ⟨%d0, HS0⟩, ⟨%d1, HS1⟩, ⟨%d2, HS2⟩, ⟨%d3, HS3⟩, ⟨%d4, HS4⟩, ⟨%d5, HS5⟩, ⟨%d6, HS6⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  iexists (⟨d0, d1, d2, d3, d4, d5, d6⟩ : LSt F)
  isplitr; · ipureintro; exact Agree.zero _ _
  isplitl [HS0]; · iexact HS0
  isplitl [HS1]; · iexact HS1
  isplitl [HS2]; · iexact HS2
  isplitl [HS3]; · iexact HS3
  isplitl [HS4]; · iexact HS4
  isplitl [HS5]; · iexact HS5
  iexact HS6

theorem Phi1_last (c : Dev nD) (n : ℕ) : Phi1 V c n ⊢ (Pipeline.ΦA spec1 c : sProp 𝕄) := by
  rw [PhiA1_eq]; unfold Phi1 ownsSt
  iintro ⟨⟨HR0, HR1, HR2, HR3, HR4, HR5, ⟨%st, -, HS0, HS1, HS2, HS3, HS4, HS5, HS6⟩⟩, Hg⟩
  isplitr [Hg]; swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iexists _; iexact HS6

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outCodes V c t
    | ⟨4, _⟩ => outLse V c t
    | ⟨5, _⟩ => outErr V c t
  Φ n := Phi1 V c n.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outCodes V c t := by dsimp only [dat1]
theorem after1_4 (c : Dev nD) (t : Fin cfg1.N) : (dat1 V c).after 4 t = outLse V c t := by dsimp only [dat1]
theorem after1_5 (c : Dev nD) (t : Fin cfg1.N) : (dat1 V c).after 5 t = outErr V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the result windows are idle and where they are written back -/

theorem idle3 (t : Fin cfg1.N) : cfg1.idle 3 (grid1.coords t) = decide (t.val < 125) :=
  (by decide +kernel : ∀ t : Fin cfg1.N, cfg1.idle 3 (grid1.coords t) = decide (t.val < 125)) t
theorem idle4 (t : Fin cfg1.N) : cfg1.idle 4 (grid1.coords t) = decide (t.val < 125 ∨ t.val % 125 ≠ 0) :=
  (by decide +kernel : ∀ t : Fin cfg1.N, cfg1.idle 4 (grid1.coords t) = decide (t.val < 125 ∨ t.val % 125 ≠ 0)) t
theorem idle5 (t : Fin cfg1.N) : cfg1.idle 5 (grid1.coords t) = decide (t.val < 125 ∨ t.val % 125 ≠ 124) :=
  (by decide +kernel : ∀ t : Fin cfg1.N, cfg1.idle 5 (grid1.coords t) = decide (t.val < 125 ∨ t.val % 125 ≠ 124)) t
theorem flush3 (t : Fin cfg1.N) : (cfg1.win 3).flush t = decide (125 ≤ t.val) := by
  rw [Pipeline.Window.flush_eq_flushF]
  exact (by decide +kernel : ∀ t : Fin cfg1.N, (cfg1.win 3).flushF t = decide (125 ≤ t.val)) t
theorem flush4 (t : Fin cfg1.N) : (cfg1.win 4).flush t = decide (125 ≤ t.val ∧ t.val % 125 = 124) := by
  rw [Pipeline.Window.flush_eq_flushF]
  exact (by decide +kernel : ∀ t : Fin cfg1.N, (cfg1.win 4).flushF t = decide (125 ≤ t.val ∧ t.val % 125 = 124)) t
theorem flush5 (t : Fin cfg1.N) : (cfg1.win 5).flush t = decide (125 ≤ t.val ∧ t.val % 125 = 124) := by
  rw [Pipeline.Window.flush_eq_flushF]
  exact (by decide +kernel : ∀ t : Fin cfg1.N, (cfg1.win 5).flushF t = decide (125 ≤ t.val ∧ t.val % 125 = 124)) t

/-- The log-sum-exp window's buffer is unwritten up to the second row-block step and right after it is written back. -/
theorem fresh4 (n : ℕ) (hn : n ≤ cfg1.N) : cfg1.fresh 4 n = decide (n ≤ 125 ∨ n % 125 = 0) :=
  Pipeline.Cfg.fresh_tab cfg1 4 (fun n => decide (n ≤ 125 ∨ n % 125 = 0)) (by decide) (fun t => by
    rw [flush4, show cfg1.idle 4 (cfg1.grid.coords t) = _ from idle4 t]
    have := t.isLt
    rw [Bool.eq_iff_iff]
    simp only [Bool.or_eq_true, Bool.and_eq_true, decide_eq_true_eq]
    omega) n hn

/-- At an idle point of a row-block step after the first, the log-sum-exp window's buffer still holds the step's. -/
theorem before4 (c : Dev nD) (t : Fin cfg1.N) (h : 125 ≤ t.val) (h' : t.val % 125 ≠ 0) (d) : (dat1 V c).before 4 t d = outLse V c t := by
  have hcarry : ∀ (t : Fin cfg1.N) (_ : t.val ≠ 0), cfg1.idle 4 (cfg1.grid.coords t) = true → cfg1.fresh 4 t.val = false →
      (dat1 V c).after 4 t = (dat1 V c).after 4 ⟨t.val - 1, by omega⟩ := by
    intro t ht hi hf
    rw [fresh4 _ (le_of_lt t.isLt)] at hf
    have hf' := of_decide_eq_false hf
    rw [after1_4, after1_4]
    unfold outLse
    rw [show (t.val - 1) / 125 = t.val / 125 by omega]
  rw [Dat.before_out_traj (dat1 V c) 4 rfl (fun _ _ => rfl) hcarry t.val t rfl d, fresh4 _ (le_of_lt t.isLt), if_neg (by simp only [decide_eq_true_eq]; omega), after1_4]
  unfold outLse
  rw [show (t.val - 1) / 125 = t.val / 125 by omega]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- What the point leaves in a result window's buffer is what the pipeline wants there. -/
theorem leaves3 (c : Dev nD) (t : Fin cfg1.N) (d) (st : LSt F) (h : Agree t.val st (stAt V c t.val)) :
    (owns (c : Thread nD τ) (ms1_3 t) fullShare (if 0 < (grid1.coords t 0).val then LSt.codes (grid1.coords t 1) (stPre V c t st) else (dat1 V c).before 3 t d) : sProp 𝕄)
      ⊢ (dat1 V c).leavesExact 3 t := by
  by_cases h5 : t.val < 125
  · rw [Dat.leavesExact_idle (dat1 V c) 3 t ((idle3 t).trans (decide_eq_true h5)) ((flush3 t).trans (decide_eq_false (by omega))), if_neg (by rw [co0]; omega)]
    iintro H; iexists _; iexact H
  · rw [show (dat1 V c).leavesExact 3 t = owns (c : Thread nD τ) (ms1_3 t) fullShare ((dat1 V c).after 3 t) from by
      unfold Dat.leavesExact; rw [show cfg1.idle 3 (cfg1.grid.coords t) = false from (idle3 t).trans (decide_eq_false h5)], after1_3, if_pos (by rw [co0]; omega)]
    unfold outCodes
    rw [h.pre_eq V c t (by omega)]

theorem leaves4 (c : Dev nD) (t : Fin cfg1.N) (d) (st : LSt F) (h : Agree t.val st (stAt V c t.val)) :
    (owns (c : Thread nD τ) (ms1_4 t) fullShare (if 0 < (grid1.coords t 0).val ∧ (grid1.coords t 1).val = 0 then k1_pay3 st.mx st.sm st.mx else (dat1 V c).before 4 t d) : sProp 𝕄)
      ⊢ (dat1 V c).leavesExact 4 t := by
  rw [co0, co1]
  by_cases h5 : t.val < 125
  · rw [Dat.leavesExact_idle (dat1 V c) 4 t ((idle4 t).trans (decide_eq_true (.inl h5))) ((flush4 t).trans (decide_eq_false (by omega))), if_neg (by omega)]
    iintro H; iexists _; iexact H
  · by_cases h0 : t.val % 125 = 0
    · rw [show (dat1 V c).leavesExact 4 t = owns (c : Thread nD τ) (ms1_4 t) fullShare ((dat1 V c).after 4 t) from by
        unfold Dat.leavesExact; rw [show cfg1.idle 4 (cfg1.grid.coords t) = false from (idle4 t).trans (decide_eq_false (by omega))], after1_4, if_pos (by omega)]
      unfold outLse
      rw [show 125 * (t.val / 125) = t.val by omega]
      obtain ⟨-, -, e1, e2⟩ := h.1 (by omega)
      rw [e1, e2]
    · rw [if_neg (by omega)]
      by_cases h4 : t.val % 125 = 124
      · rw [show (dat1 V c).leavesExact 4 t = owns (c : Thread nD τ) (ms1_4 t) fullShare ((dat1 V c).after 4 t) from by
          unfold Dat.leavesExact
          rw [show cfg1.idle 4 (cfg1.grid.coords t) = true from (idle4 t).trans (decide_eq_true (.inr h0)), show (cfg1.win 4).flush t = true from (flush4 t).trans (decide_eq_true (by omega))], after1_4,
          before4 V c t (by omega) h0]
      · rw [Dat.leavesExact_idle (dat1 V c) 4 t ((idle4 t).trans (decide_eq_true (.inr h0))) ((flush4 t).trans (decide_eq_false (by omega)))]
        iintro H; iexists _; iexact H

theorem leaves5 (c : Dev nD) (t : Fin cfg1.N) (d) (st : LSt F) (h : Agree t.val st (stAt V c t.val)) :
    (owns (c : Thread nD τ) (ms1_5 t) fullShare (if 0 < (grid1.coords t 0).val ∧ (grid1.coords t 1).val = 124 then k1_pay29 (stMid V c t st).er else (dat1 V c).before 5 t d) : sProp 𝕄)
      ⊢ (dat1 V c).leavesExact 5 t := by
  by_cases h5 : t.val < 125 ∨ t.val % 125 ≠ 124
  · rw [Dat.leavesExact_idle (dat1 V c) 5 t ((idle5 t).trans (decide_eq_true h5)) ((flush5 t).trans (decide_eq_false (by omega))), if_neg (by rw [co0, co1]; omega)]
    iintro H; iexists _; iexact H
  · rw [show (dat1 V c).leavesExact 5 t = owns (c : Thread nD τ) (ms1_5 t) fullShare ((dat1 V c).after 5 t) from by
      unfold Dat.leavesExact; rw [show cfg1.idle 5 (cfg1.grid.coords t) = false from (idle5 t).trans (decide_eq_false h5)], after1_5, if_pos (by rw [co0, co1]; omega)]
    have e := h.pre_eq V c t (by omega)
    unfold stPre at e
    unfold outErr stMid LSt.mid
    rw [e]

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.castSucc = Phi1 V c t.val from rfl, show (dat1 V c).Φ t.succ = Phi1 V c (t.val + 1) from rfl,
    show (dat1 V c).owesAt () t.succ = (dat1 V c).owesAt () t.castSucc from rfl]
  rw [show (dat1 V c).leavesExact 0 t = owns (c : Thread nD τ) (ms1_0 t) fullShare ((dat1 V c).after 0 t) from by unfold Dat.leavesExact; rw [show cfg1.idle 0 (cfg1.grid.coords t) = false from rfl], after1_0]
  rw [show (dat1 V c).leavesExact 1 t = owns (c : Thread nD τ) (ms1_1 t) fullShare ((dat1 V c).after 1 t) from by unfold Dat.leavesExact; rw [show cfg1.idle 1 (cfg1.grid.coords t) = false from rfl], after1_1]
  rw [show (dat1 V c).leavesExact 2 t = owns (c : Thread nD τ) (ms1_2 t) fullShare ((dat1 V c).after 2 t) from by unfold Dat.leavesExact; rw [show cfg1.idle 2 (cfg1.grid.coords t) = false from rfl], after1_2]
  unfold Phi1
  iintro ⟨⟨⟨HR0, HR1, HR2, HR3, HR4, HR5, ⟨%st, %hA, HS⟩⟩, Hg⟩, Ho, ⟨%d0, H0⟩, ⟨%d1, H1⟩, ⟨%d2, H2⟩, ⟨%d3, H3⟩, ⟨%d4, H4⟩, ⟨%d5, H5⟩⟩
  iapply (logits_step c Set.univ (grid1.coords t) _ _ _ _ _ _ _ _ _ _ _ _ _ _ _ _ _ _ _ _ _ _ _ _ _ _ (iblk1 V c 0 t) (iblk1 V c 1 t) (iblk1 V c 2 t)
    ((dat1 V c).before 3 t d3) ((dat1 V c).before 4 t d4) ((dat1 V c).before 5 t d5) st _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HR0 HR1 HR2 HR3 HR4 HR5 HS Hg]
  · isplitr [Hg]; swap; · iexact Hg
    isplitl [HR0]; · iexact HR0
    isplitl [HR1]; · iexact HR1
    isplitl [HR2]; · iexact HR2
    isplitl [HR3]; · iexact HR3
    isplitl [HR4]; · iexact HR4
    isplitl [HR5]; · iexact HR5
    iexists (stPost V c t st)
    isplitr
    · ipureintro; rw [stAt_succ]; exact hA.step V c t
    iexact HS
  isplitl [Ho]; · iexact Ho
  isplitl [H0]; · iexact H0
  isplitl [H1]; · iexact H1
  isplitl [H2]; · iexact H2
  isplitl [H3]
  · iapply (leaves3 V c t d3 st hA); iexact H3
  isplitl [H4]
  · iapply (leaves4 V c t d4 st hA); iexact H4
  iapply (leaves5 V c t d5 st hA); iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen
-- ==== Proof.IdealDecodeBody.lean ====
/- The first pallas_call of the kernel, `cc0_decode`: what one grid point leaves in its output block, as a function of
   the two input blocks, and that the printed body leaves exactly that.  The body reads and writes staged blocks only, so
   its output block `out0_2` is the canon of its forty stores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S640x2560 := Rect.unit (s := S640x2560) ![0, 0] S640x128.size inb_S640x2560_S640x128_0_0
abbrev r0_1 : Rect S640x256 := Rect.unit (s := S640x256) ![0, 0] S640x128.size inb_S640x256_S640x128_0_0
abbrev r0_2 : Rect S640x5120 := Rect.unit (s := S640x5120) ![0, 0] S640x128.size inb_S640x5120_S640x128_0_0
abbrev r0_3 : Rect S640x5120 := Rect.unit (s := S640x5120) ![0, 128] S640x128.size inb_S640x5120_S640x128_0_128
abbrev r0_4 : Rect S640x2560 := Rect.unit (s := S640x2560) ![0, 128] S640x128.size inb_S640x2560_S640x128_0_128
abbrev r0_5 : Rect S640x5120 := Rect.unit (s := S640x5120) ![0, 256] S640x128.size inb_S640x5120_S640x128_0_256
abbrev r0_6 : Rect S640x5120 := Rect.unit (s := S640x5120) ![0, 384] S640x128.size inb_S640x5120_S640x128_0_384
abbrev r0_7 : Rect S640x2560 := Rect.unit (s := S640x2560) ![0, 256] S640x128.size inb_S640x2560_S640x128_0_256
abbrev r0_8 : Rect S640x5120 := Rect.unit (s := S640x5120) ![0, 512] S640x128.size inb_S640x5120_S640x128_0_512
abbrev r0_9 : Rect S640x5120 := Rect.unit (s := S640x5120) ![0, 640] S640x128.size inb_S640x5120_S640x128_0_640
abbrev r0_10 : Rect S640x2560 := Rect.unit (s := S640x2560) ![0, 384] S640x128.size inb_S640x2560_S640x128_0_384
abbrev r0_11 : Rect S640x5120 := Rect.unit (s := S640x5120) ![0, 768] S640x128.size inb_S640x5120_S640x128_0_768
abbrev r0_12 : Rect S640x5120 := Rect.unit (s := S640x5120) ![0, 896] S640x128.size inb_S640x5120_S640x128_0_896
abbrev r0_13 : Rect S640x2560 := Rect.unit (s := S640x2560) ![0, 512] S640x128.size inb_S640x2560_S640x128_0_512
abbrev r0_14 : Rect S640x5120 := Rect.unit (s := S640x5120) ![0, 1024] S640x128.size inb_S640x5120_S640x128_0_1024
abbrev r0_15 : Rect S640x5120 := Rect.unit (s := S640x5120) ![0, 1152] S640x128.size inb_S640x5120_S640x128_0_1152
abbrev r0_16 : Rect S640x2560 := Rect.unit (s := S640x2560) ![0, 640] S640x128.size inb_S640x2560_S640x128_0_640
abbrev r0_17 : Rect S640x5120 := Rect.unit (s := S640x5120) ![0, 1280] S640x128.size inb_S640x5120_S640x128_0_1280
abbrev r0_18 : Rect S640x5120 := Rect.unit (s := S640x5120) ![0, 1408] S640x128.size inb_S640x5120_S640x128_0_1408
abbrev r0_19 : Rect S640x2560 := Rect.unit (s := S640x2560) ![0, 768] S640x128.size inb_S640x2560_S640x128_0_768
abbrev r0_20 : Rect S640x5120 := Rect.unit (s := S640x5120) ![0, 1536] S640x128.size inb_S640x5120_S640x128_0_1536
abbrev r0_21 : Rect S640x5120 := Rect.unit (s := S640x5120) ![0, 1664] S640x128.size inb_S640x5120_S640x128_0_1664
abbrev r0_22 : Rect S640x2560 := Rect.unit (s := S640x2560) ![0, 896] S640x128.size inb_S640x2560_S640x128_0_896
abbrev r0_23 : Rect S640x5120 := Rect.unit (s := S640x5120) ![0, 1792] S640x128.size inb_S640x5120_S640x128_0_1792
abbrev r0_24 : Rect S640x5120 := Rect.unit (s := S640x5120) ![0, 1920] S640x128.size inb_S640x5120_S640x128_0_1920
abbrev r0_25 : Rect S640x2560 := Rect.unit (s := S640x2560) ![0, 1024] S640x128.size inb_S640x2560_S640x128_0_1024
abbrev r0_26 : Rect S640x5120 := Rect.unit (s := S640x5120) ![0, 2048] S640x128.size inb_S640x5120_S640x128_0_2048
abbrev r0_27 : Rect S640x5120 := Rect.unit (s := S640x5120) ![0, 2176] S640x128.size inb_S640x5120_S640x128_0_2176
abbrev r0_28 : Rect S640x2560 := Rect.unit (s := S640x2560) ![0, 1152] S640x128.size inb_S640x2560_S640x128_0_1152
abbrev r0_29 : Rect S640x5120 := Rect.unit (s := S640x5120) ![0, 2304] S640x128.size inb_S640x5120_S640x128_0_2304
abbrev r0_30 : Rect S640x5120 := Rect.unit (s := S640x5120) ![0, 2432] S640x128.size inb_S640x5120_S640x128_0_2432
abbrev r0_31 : Rect S640x2560 := Rect.unit (s := S640x2560) ![0, 1280] S640x128.size inb_S640x2560_S640x128_0_1280
abbrev r0_32 : Rect S640x5120 := Rect.unit (s := S640x5120) ![0, 2560] S640x128.size inb_S640x5120_S640x128_0_2560
abbrev r0_33 : Rect S640x5120 := Rect.unit (s := S640x5120) ![0, 2688] S640x128.size inb_S640x5120_S640x128_0_2688
abbrev r0_34 : Rect S640x2560 := Rect.unit (s := S640x2560) ![0, 1408] S640x128.size inb_S640x2560_S640x128_0_1408
abbrev r0_35 : Rect S640x5120 := Rect.unit (s := S640x5120) ![0, 2816] S640x128.size inb_S640x5120_S640x128_0_2816
abbrev r0_36 : Rect S640x5120 := Rect.unit (s := S640x5120) ![0, 2944] S640x128.size inb_S640x5120_S640x128_0_2944
abbrev r0_37 : Rect S640x2560 := Rect.unit (s := S640x2560) ![0, 1536] S640x128.size inb_S640x2560_S640x128_0_1536
abbrev r0_38 : Rect S640x5120 := Rect.unit (s := S640x5120) ![0, 3072] S640x128.size inb_S640x5120_S640x128_0_3072
abbrev r0_39 : Rect S640x5120 := Rect.unit (s := S640x5120) ![0, 3200] S640x128.size inb_S640x5120_S640x128_0_3200
abbrev r0_40 : Rect S640x2560 := Rect.unit (s := S640x2560) ![0, 1664] S640x128.size inb_S640x2560_S640x128_0_1664
abbrev r0_41 : Rect S640x5120 := Rect.unit (s := S640x5120) ![0, 3328] S640x128.size inb_S640x5120_S640x128_0_3328
abbrev r0_42 : Rect S640x5120 := Rect.unit (s := S640x5120) ![0, 3456] S640x128.size inb_S640x5120_S640x128_0_3456
abbrev r0_43 : Rect S640x2560 := Rect.unit (s := S640x2560) ![0, 1792] S640x128.size inb_S640x2560_S640x128_0_1792
abbrev r0_44 : Rect S640x5120 := Rect.unit (s := S640x5120) ![0, 3584] S640x128.size inb_S640x5120_S640x128_0_3584
abbrev r0_45 : Rect S640x5120 := Rect.unit (s := S640x5120) ![0, 3712] S640x128.size inb_S640x5120_S640x128_0_3712
abbrev r0_46 : Rect S640x2560 := Rect.unit (s := S640x2560) ![0, 1920] S640x128.size inb_S640x2560_S640x128_0_1920
abbrev r0_47 : Rect S640x5120 := Rect.unit (s := S640x5120) ![0, 3840] S640x128.size inb_S640x5120_S640x128_0_3840
abbrev r0_48 : Rect S640x5120 := Rect.unit (s := S640x5120) ![0, 3968] S640x128.size inb_S640x5120_S640x128_0_3968
abbrev r0_49 : Rect S640x2560 := Rect.unit (s := S640x2560) ![0, 2048] S640x128.size inb_S640x2560_S640x128_0_2048
abbrev r0_50 : Rect S640x256 := Rect.unit (s := S640x256) ![0, 128] S640x128.size inb_S640x256_S640x128_0_128
abbrev r0_51 : Rect S640x5120 := Rect.unit (s := S640x5120) ![0, 4096] S640x128.size inb_S640x5120_S640x128_0_4096
abbrev r0_52 : Rect S640x5120 := Rect.unit (s := S640x5120) ![0, 4224] S640x128.size inb_S640x5120_S640x128_0_4224
abbrev r0_53 : Rect S640x2560 := Rect.unit (s := S640x2560) ![0, 2176] S640x128.size inb_S640x2560_S640x128_0_2176
abbrev r0_54 : Rect S640x5120 := Rect.unit (s := S640x5120) ![0, 4352] S640x128.size inb_S640x5120_S640x128_0_4352
abbrev r0_55 : Rect S640x5120 := Rect.unit (s := S640x5120) ![0, 4480] S640x128.size inb_S640x5120_S640x128_0_4480
abbrev r0_56 : Rect S640x2560 := Rect.unit (s := S640x2560) ![0, 2304] S640x128.size inb_S640x2560_S640x128_0_2304
abbrev r0_57 : Rect S640x5120 := Rect.unit (s := S640x5120) ![0, 4608] S640x128.size inb_S640x5120_S640x128_0_4608
abbrev r0_58 : Rect S640x5120 := Rect.unit (s := S640x5120) ![0, 4736] S640x128.size inb_S640x5120_S640x128_0_4736
abbrev r0_59 : Rect S640x2560 := Rect.unit (s := S640x2560) ![0, 2432] S640x128.size inb_S640x2560_S640x128_0_2432
abbrev r0_60 : Rect S640x5120 := Rect.unit (s := S640x5120) ![0, 4864] S640x128.size inb_S640x5120_S640x128_0_4864
abbrev r0_61 : Rect S640x5120 := Rect.unit (s := S640x5120) ![0, 4992] S640x128.size inb_S640x5120_S640x128_0_4992

/-! ## What the body leaves in each output window's buffer -/

/-! ### Values of the body that the stores' payloads, spelt out, would write more than once

    Each is a vector the body binds (often a part call's result), stated over the input windows' blocks and
    numbered on from the skeleton's payload functions (`k0_pay189` …, after `k0_pay188`), so that
    `out0_W` and the values after it name it instead of spelling it out (`unfold_out out0_W` opens a canon
    with them, `unfold_payloads` opens them with the payloads); the comment after each is the printed function's
    name for the value (a count appended where that name is bound again). -/

def k0_pay189 (x0 : Vec F S640x2560 .i8) (x1 : Vec F S640x256 .i8) : IVec S160x128 32 :=
  k0_pay6 (View.ld x1 r0_1) -- `v21`
def k0_pay190 (x0 : Vec F S640x2560 .i8) (x1 : Vec F S640x256 .i8) : IVec S160x128 32 :=
  k0_pay7 -- `v23`
def k0_pay191 (x0 : Vec F S640x2560 .i8) (x1 : Vec F S640x256 .i8) : IVec S160x128 1 :=
  k0_pay8 -- `v37`
def k0_pay192 (x0 : Vec F S640x2560 .i8) (x1 : Vec F S640x256 .i8) : IVec S160x128 1 :=
  k0_pay9 -- `v41`
def k0_pay193 (x0 : Vec F S640x2560 .i8) (x1 : Vec F S640x256 .i8) : IVec S320x128 32 :=
  k0_pay17 (k0_pay13 (View.ld x1 r0_1)) -- `v128`
def k0_pay194 (x0 : Vec F S640x2560 .i8) (x1 : Vec F S640x256 .i8) : IVec S160x128 32 :=
  iota .tc S160x128 32 [1] iota_S160x128_d1_w32 -- `v160`
def k0_pay195 (x0 : Vec F S640x2560 .i8) (x1 : Vec F S640x256 .i8) : IVec S160x128 32 :=
  k0_pay24 (View.ld x1 r0_1) -- `v161`
def k0_pay196 (x0 : Vec F S640x2560 .i8) (x1 : Vec F S640x256 .i8) : IVec S160x128 32 :=
  k0_pay25 -- `v163`
def k0_pay197 (x0 : Vec F S640x2560 .i8) (x1 : Vec F S640x256 .i8) : IVec S160x128 32 :=
  k0_pay26 -- `v166`
def k0_pay198 (x0 : Vec F S640x2560 .i8) (x1 : Vec F S640x256 .i8) : IVec S160x128 1 :=
  k0_pay27 -- `v168`
def k0_pay199 (x0 : Vec F S640x2560 .i8) (x1 : Vec F S640x256 .i8) : IVec S160x128 32 :=
  k0_pay34 (View.ld x1 r0_1) -- `v231`
def k0_pay200 (x0 : Vec F S640x2560 .i8) (x1 : Vec F S640x256 .i8) : IVec S160x128 32 :=
  k0_pay35 -- `v255`
def k0_pay201 (x0 : Vec F S640x2560 .i8) (x1 : Vec F S640x256 .i8) : IVec S640x128 8 :=
  k0_pay39 (View.ld x1 r0_1) -- `v282`
def k0_pay202 (x0 : Vec F S640x2560 .i8) (x1 : Vec F S640x256 .i8) : IVec S160x128 32 :=
  iota .tc S160x128 32 [1] iota_S160x128_d1_w32 -- `v370`
def k0_pay203 (x0 : Vec F S640x2560 .i8) (x1 : Vec F S640x256 .i8) : IVec S160x128 32 :=
  k0_pay51 (View.ld x1 r0_1) -- `v371`
def k0_pay204 (x0 : Vec F S640x2560 .i8) (x1 : Vec F S640x256 .i8) : IVec S160x128 32 :=
  k0_pay52 -- `v373`
def k0_pay205 (x0 : Vec F S640x2560 .i8) (x1 : Vec F S640x256 .i8) : IVec S160x128 32 :=
  k0_pay53 -- `v380`
def k0_pay206 (x0 : Vec F S640x2560 .i8) (x1 : Vec F S640x256 .i8) : IVec S160x128 32 :=
  k0_pay58 (View.ld x0 r0_19) -- `v423`
def k0_pay207 (x0 : Vec F S640x2560 .i8) (x1 : Vec F S640x256 .i8) : IVec S160x128 32 :=
  k0_pay62 (k0_pay57 (View.ld x1 r0_1)) -- `v441`
def k0_pay208 (x0 : Vec F S640x2560 .i8) (x1 : Vec F S640x256 .i8) : IVec S160x128 32 :=
  k0_pay63 -- `v467`
def k0_pay209 (x0 : Vec F S640x2560 .i8) (x1 : Vec F S640x256 .i8) : IVec S160x128 1 :=
  k0_pay64 -- `v469`
def k0_pay210 (x0 : Vec F S640x2560 .i8) (x1 : Vec F S640x256 .i8) : IVec S160x128 32 :=
  iota .tc S160x128 32 [1] iota_S160x128_d1_w32 -- `v510`
def k0_pay211 (x0 : Vec F S640x2560 .i8) (x1 : Vec F S640x256 .i8) : IVec S160x128 32 :=
  k0_pay71 (View.ld x1 r0_1) -- `v511`
def k0_pay212 (x0 : Vec F S640x2560 .i8) (x1 : Vec F S640x256 .i8) : IVec S160x128 32 :=
  iota .tc S160x128 32 [1] iota_S160x128_d1_w32 -- `v580`
def k0_pay213 (x0 : Vec F S640x2560 .i8) (x1 : Vec F S640x256 .i8) : IVec S160x128 32 :=
  k0_pay78 (View.ld x1 r0_1) -- `v581`
def k0_pay214 (x0 : Vec F S640x2560 .i8) (x1 : Vec F S640x256 .i8) : IVec S160x128 32 :=
  k0_pay79 -- `v583`
def k0_pay215 (x0 : Vec F S640x2560 .i8) (x1 : Vec F S640x256 .i8) : IVec S160x128 1 :=
  k0_pay80 -- `v597`
def k0_pay216 (x0 : Vec F S640x2560 .i8) (x1 : Vec F S640x256 .i8) : IVec S160x128 32 :=
  k0_pay81 -- `v598`
def k0_pay217 (x0 : Vec F S640x2560 .i8) (x1 : Vec F S640x256 .i8) : IVec S160x128 32 :=
  k0_pay91 (k0_pay85 (View.ld x1 r0_1)) -- `v685`
def k0_pay218 (x0 : Vec F S640x2560 .i8) (x1 : Vec F S640x256 .i8) : IVec S160x128 32 :=
  iota .tc S160x128 32 [1] iota_S160x128_d1_w32 -- `v720`
def k0_pay219 (x0 : Vec F S640x2560 .i8) (x1 : Vec F S640x256 .i8) : IVec S160x128 32 :=
  k0_pay98 (View.ld x1 r0_1) -- `v721`
def k0_pay220 (x0 : Vec F S640x2560 .i8) (x1 : Vec F S640x256 .i8) : IVec S160x128 32 :=
  k0_pay99 -- `v723`
def k0_pay221 (x0 : Vec F S640x2560 .i8) (x1 : Vec F S640x256 .i8) : IVec S160x128 1 :=
  k0_pay100 -- `v725`
def k0_pay222 (x0 : Vec F S640x2560 .i8) (x1 : Vec F S640x256 .i8) : IVec S160x128 32 :=
  k0_pay107 (View.ld x1 r0_1) -- `v791`
def k0_pay223 (x0 : Vec F S640x2560 .i8) (x1 : Vec F S640x256 .i8) : IVec S160x128 32 :=
  k0_pay108 -- `v793`
def k0_pay224 (x0 : Vec F S640x2560 .i8) (x1 : Vec F S640x256 .i8) : IVec S160x128 1 :=
  k0_pay109 -- `v812`
def k0_pay225 (x0 : Vec F S640x2560 .i8) (x1 : Vec F S640x256 .i8) : IVec S320x128 32 :=
  k0_pay118 (k0_pay113 (View.ld x1 r0_1)) -- `v900`
def k0_pay226 (x0 : Vec F S640x2560 .i8) (x1 : Vec F S640x256 .i8) : IVec S160x128 32 :=
  iota .tc S160x128 32 [1] iota_S160x128_d1_w32 -- `v930`
def k0_pay227 (x0 : Vec F S640x2560 .i8) (x1 : Vec F S640x256 .i8) : IVec S160x128 32 :=
  k0_pay125 (View.ld x1 r0_1) -- `v931`
def k0_pay228 (x0 : Vec F S640x2560 .i8) (x1 : Vec F S640x256 .i8) : IVec S160x128 32 :=
  k0_pay126 -- `v933`
def k0_pay229 (x0 : Vec F S640x2560 .i8) (x1 : Vec F S640x256 .i8) : IVec S160x128 32 :=
  k0_pay127 -- `v940`
def k0_pay230 (x0 : Vec F S640x2560 .i8) (x1 : Vec F S640x256 .i8) : IVec S160x128 32 :=
  k0_pay135 (k0_pay131 (View.ld x1 r0_1)) -- `v1001`
def k0_pay231 (x0 : Vec F S640x2560 .i8) (x1 : Vec F S640x256 .i8) : IVec S160x128 32 :=
  k0_pay136 -- `v1027`
def k0_pay232 (x0 : Vec F S640x2560 .i8) (x1 : Vec F S640x256 .i8) : IVec S640x128 8 :=
  k0_pay140 (View.ld x1 r0_1) -- `v1052`
def k0_pay233 (x0 : Vec F S640x2560 .i8) (x1 : Vec F S640x256 .i8) : IVec S160x128 32 :=
  iota .tc S160x128 32 [1] iota_S160x128_d1_w32 -- `v1140`
def k0_pay234 (x0 : Vec F S640x2560 .i8) (x1 : Vec F S640x256 .i8) : IVec S160x128 32 :=
  k0_pay153 (View.ld x1 r0_50) -- `v1141`
def k0_pay235 (x0 : Vec F S640x2560 .i8) (x1 : Vec F S640x256 .i8) : IVec S160x128 32 :=
  k0_pay154 -- `v1143`
def k0_pay236 (x0 : Vec F S640x2560 .i8) (x1 : Vec F S640x256 .i8) : IVec S160x128 32 :=
  k0_pay155 -- `v1150`
def k0_pay237 (x0 : Vec F S640x2560 .i8) (x1 : Vec F S640x256 .i8) : IVec S160x128 32 :=
  k0_pay160 (View.ld x0 r0_53) -- `v1193`
def k0_pay238 (x0 : Vec F S640x2560 .i8) (x1 : Vec F S640x256 .i8) : IVec S160x128 32 :=
  k0_pay165 (k0_pay159 (View.ld x1 r0_50)) -- `v1211`
def k0_pay239 (x0 : Vec F S640x2560 .i8) (x1 : Vec F S640x256 .i8) : IVec S160x128 32 :=
  k0_pay166 -- `v1237`
def k0_pay240 (x0 : Vec F S640x2560 .i8) (x1 : Vec F S640x256 .i8) : IVec S160x128 1 :=
  k0_pay167 -- `v1239`
def k0_pay241 (x0 : Vec F S640x2560 .i8) (x1 : Vec F S640x256 .i8) : IVec S160x128 32 :=
  k0_pay168 -- `v1241`
def k0_pay242 (x0 : Vec F S640x2560 .i8) (x1 : Vec F S640x256 .i8) : IVec S160x128 32 :=
  iota .tc S160x128 32 [1] iota_S160x128_d1_w32 -- `v1280`
def k0_pay243 (x0 : Vec F S640x2560 .i8) (x1 : Vec F S640x256 .i8) : IVec S160x128 32 :=
  k0_pay175 (View.ld x1 r0_50) -- `v1281`
def k0_pay244 (x0 : Vec F S640x2560 .i8) (x1 : Vec F S640x256 .i8) : IVec S160x128 32 :=
  k0_pay176 -- `v1282`
def k0_pay245 (x0 : Vec F S640x2560 .i8) (x1 : Vec F S640x256 .i8) : FVec F S640x128 .bf16 :=
  k0_pay187 (F := F) (k0_pay183 (View.ld x1 r0_50)) k0_pay184 k0_pay185 k0_pay186 0#32 -- `v1391`

/-- Window 2's staging buffer after the body, from the input windows' blocks: its 40 stores as pieces, LAST
    FIRST (Lib/Pipeline/FrameBody.lean `View.canon`; the payloads are the skeleton's and the values stated above). -/
def out0_2 (x0 : Vec F S640x2560 .i8) (x1 : Vec F S640x256 .i8) : Vec F S640x5120 .bf16 :=
  View.canon [⟨r0_61, k0_pay2 (k0_pay182 (View.ld x0 r0_59)) (k0_pay245 x0 x1)⟩,
    ⟨r0_60, k0_pay1 (k0_pay245 x0 x1) (k0_pay188 (F := F) (k0_pay181 (View.ld x0 r0_59)))⟩,
    ⟨r0_58, k0_pay179 (F := F) (k0_pay174 (View.ld x0 r0_56)) (k0_pay242 x0 x1) (k0_pay243 x0 x1) 16#32 (k0_pay244 x0 x1)⟩,
    ⟨r0_57, k0_pay178 (F := F) (k0_pay173 (View.ld x0 r0_56)) (k0_pay242 x0 x1) (k0_pay243 x0 x1) 16#32 (k0_pay244 x0 x1)⟩,
    ⟨r0_55, k0_pay171 (F := F) (k0_pay164 (k0_pay237 x0 x1)) (k0_pay238 x0 x1) (k0_pay239 x0 x1) (k0_pay240 x0 x1) (k0_pay241 x0 x1)⟩,
    ⟨r0_54, k0_pay170 (F := F) (k0_pay163 (k0_pay237 x0 x1) (k0_pay161 (View.ld x0 r0_53)) k0_pay162) (k0_pay238 x0 x1) (k0_pay239 x0 x1) (k0_pay240 x0 x1) (k0_pay241 x0 x1)⟩,
    ⟨r0_52, k0_pay158 (F := F) (k0_pay152 (View.ld x0 r0_49)) (k0_pay233 x0 x1) (k0_pay234 x0 x1) 16#32 (k0_pay235 x0 x1) (k0_pay236 x0 x1) (Scalar.extui (Scalar.cmpi .sgt 16#32 0#32)) (Scalar.extui (Scalar.cmpi .slt 16#32 0#32))⟩,
    ⟨r0_51, k0_pay157 (F := F) (k0_pay151 (View.ld x0 r0_49)) (k0_pay233 x0 x1) (k0_pay234 x0 x1) 16#32 (k0_pay235 x0 x1) (k0_pay236 x0 x1) (Scalar.extui (Scalar.cmpi .sgt 16#32 0#32)) (Scalar.extui (Scalar.cmpi .slt 16#32 0#32))⟩,
    ⟨r0_48, k0_pay149 (k0_pay146 (F := F) (k0_pay232 x0 x1)) (k0_pay148 (F := F) (k0_pay143 (View.ld x0 r0_46)) (k0_pay144 (View.ld x0 r0_46)) k0_pay145)⟩,
    ⟨r0_47, k0_pay147 (F := F) (k0_pay232 x0 x1) (k0_pay142 (View.ld x0 r0_46))⟩,
    ⟨r0_45, k0_pay139 (F := F) (k0_pay134 (View.ld x0 r0_43)) (k0_pay230 x0 x1) (k0_pay231 x0 x1)⟩,
    ⟨r0_44, k0_pay138 (F := F) (k0_pay133 (View.ld x0 r0_43)) (k0_pay230 x0 x1) (k0_pay231 x0 x1)⟩,
    ⟨r0_42, k0_pay130 (F := F) (k0_pay124 (View.ld x0 r0_40)) (k0_pay226 x0 x1) (k0_pay227 x0 x1) 16#32 (k0_pay228 x0 x1) (k0_pay229 x0 x1)⟩,
    ⟨r0_41, k0_pay129 (F := F) (k0_pay123 (View.ld x0 r0_40)) (k0_pay226 x0 x1) (k0_pay227 x0 x1) 16#32 (k0_pay228 x0 x1) (k0_pay229 x0 x1)⟩,
    ⟨r0_39, k0_pay121 (F := F) (k0_pay117 (k0_pay114 (View.ld x0 r0_37)) k0_pay116) (k0_pay225 x0 x1)⟩,
    ⟨r0_38, k0_pay120 (F := F) (k0_pay115 (View.ld x0 r0_37)) (k0_pay225 x0 x1)⟩,
    ⟨r0_36, k0_pay112 (F := F) (k0_pay106 (View.ld x0 r0_34)) (k0_pay222 x0 x1) (k0_pay223 x0 x1) (k0_pay224 x0 x1) 1#32⟩,
    ⟨r0_35, k0_pay111 (F := F) (k0_pay105 (View.ld x0 r0_34)) (k0_pay222 x0 x1) (k0_pay223 x0 x1) (k0_pay224 x0 x1) 1#32⟩,
    ⟨r0_33, k0_pay103 (F := F) (k0_pay97 (View.ld x0 r0_31)) (k0_pay218 x0 x1) (k0_pay219 x0 x1) 16#32 (k0_pay220 x0 x1) (k0_pay221 x0 x1)⟩,
    ⟨r0_32, k0_pay102 (F := F) (k0_pay96 (View.ld x0 r0_31)) (k0_pay218 x0 x1) (k0_pay219 x0 x1) 16#32 (k0_pay220 x0 x1) (k0_pay221 x0 x1)⟩,
    ⟨r0_30, k0_pay94 (F := F) (k0_pay90 (k0_pay86 (View.ld x0 r0_28))) (k0_pay217 x0 x1)⟩,
    ⟨r0_29, k0_pay93 (F := F) (k0_pay89 (k0_pay87 (View.ld x0 r0_28)) (k0_pay88 (View.ld x0 r0_28))) (k0_pay217 x0 x1)⟩,
    ⟨r0_27, k0_pay84 (F := F) (k0_pay77 (View.ld x0 r0_25)) (k0_pay212 x0 x1) (k0_pay213 x0 x1) (k0_pay214 x0 x1) (k0_pay215 x0 x1) (k0_pay216 x0 x1)⟩,
    ⟨r0_26, k0_pay83 (F := F) (k0_pay76 (View.ld x0 r0_25)) (k0_pay212 x0 x1) (k0_pay213 x0 x1) (k0_pay214 x0 x1) (k0_pay215 x0 x1) (k0_pay216 x0 x1)⟩,
    ⟨r0_24, k0_pay74 (F := F) (k0_pay70 (View.ld x0 r0_22)) (k0_pay210 x0 x1) (k0_pay211 x0 x1)⟩,
    ⟨r0_23, k0_pay73 (F := F) (k0_pay69 (View.ld x0 r0_22)) (k0_pay210 x0 x1) (k0_pay211 x0 x1)⟩,
    ⟨r0_21, k0_pay67 (F := F) (k0_pay61 (k0_pay206 x0 x1)) (k0_pay207 x0 x1) (k0_pay208 x0 x1) (k0_pay209 x0 x1) 128#32⟩,
    ⟨r0_20, k0_pay66 (F := F) (k0_pay60 (k0_pay206 x0 x1) (k0_pay59 (View.ld x0 r0_19))) (k0_pay207 x0 x1) (k0_pay208 x0 x1) (k0_pay209 x0 x1) 128#32⟩,
    ⟨r0_18, k0_pay56 (F := F) (k0_pay50 (View.ld x0 r0_16)) (k0_pay202 x0 x1) (k0_pay203 x0 x1) 16#32 (k0_pay204 x0 x1) (k0_pay205 x0 x1) (Scalar.extui (Scalar.cmpi .sgt 16#32 0#32)) 0#32⟩,
    ⟨r0_17, k0_pay55 (F := F) (k0_pay49 (View.ld x0 r0_16)) (k0_pay202 x0 x1) (k0_pay203 x0 x1) 16#32 (k0_pay204 x0 x1) (k0_pay205 x0 x1) (Scalar.extui (Scalar.cmpi .sgt 16#32 0#32)) 0#32⟩,
    ⟨r0_15, k0_pay47 (k0_pay44 (k0_pay42 (View.ld x0 r0_13)) (k0_pay43 (View.ld x0 r0_13))) (k0_pay45 (F := F) (k0_pay201 x0 x1))⟩,
    ⟨r0_14, k0_pay46 (F := F) (k0_pay201 x0 x1) (k0_pay41 (View.ld x0 r0_13))⟩,
    ⟨r0_12, k0_pay38 (F := F) (k0_pay33 (View.ld x0 r0_10)) (k0_pay199 x0 x1) (k0_pay200 x0 x1) 24#32⟩,
    ⟨r0_11, k0_pay37 (F := F) (k0_pay32 (View.ld x0 r0_10)) (k0_pay199 x0 x1) (k0_pay200 x0 x1) 24#32⟩,
    ⟨r0_9, k0_pay30 (F := F) (k0_pay23 (View.ld x0 r0_7)) (k0_pay194 x0 x1) (k0_pay195 x0 x1) 16#32 (k0_pay196 x0 x1) (k0_pay197 x0 x1) (k0_pay198 x0 x1)⟩,
    ⟨r0_8, k0_pay29 (F := F) (k0_pay22 (View.ld x0 r0_7)) (k0_pay194 x0 x1) (k0_pay195 x0 x1) 16#32 (k0_pay196 x0 x1) (k0_pay197 x0 x1) (k0_pay198 x0 x1)⟩,
    ⟨r0_6, k0_pay20 (F := F) (k0_pay16 (k0_pay14 (View.ld x0 r0_4))) (k0_pay193 x0 x1) 7#32⟩,
    ⟨r0_5, k0_pay19 (F := F) (k0_pay15 (View.ld x0 r0_4)) (k0_pay193 x0 x1) 7#32⟩,
    ⟨r0_3, k0_pay12 (F := F) (k0_pay5 (View.ld x0 r0_0)) (k0_pay189 x0 x1) (k0_pay190 x0 x1) (k0_pay191 x0 x1) (k0_pay192 x0 x1)⟩,
    ⟨r0_2, k0_pay11 (F := F) (k0_pay4 (View.ld x0 r0_0)) (k0_pay189 x0 x1) (k0_pay190 x0 x1) (k0_pay191 x0 x1) (k0_pay192 x0 x1)⟩]

/-- Its stores tile the buffer (checked by evaluation), so they cover it. -/
theorem cover0_2 (p0 : Vec F S640x128 .bf16) (p1 : Vec F S640x128 .bf16) (p2 : Vec F S640x128 .bf16) (p3 : Vec F S640x128 .bf16) (p4 : Vec F S640x128 .bf16) (p5 : Vec F S640x128 .bf16) (p6 : Vec F S640x128 .bf16) (p7 : Vec F S640x128 .bf16) (p8 : Vec F S640x128 .bf16) (p9 : Vec F S640x128 .bf16) (p10 : Vec F S640x128 .bf16) (p11 : Vec F S640x128 .bf16) (p12 : Vec F S640x128 .bf16) (p13 : Vec F S640x128 .bf16) (p14 : Vec F S640x128 .bf16) (p15 : Vec F S640x128 .bf16) (p16 : Vec F S640x128 .bf16) (p17 : Vec F S640x128 .bf16) (p18 : Vec F S640x128 .bf16) (p19 : Vec F S640x128 .bf16) (p20 : Vec F S640x128 .bf16) (p21 : Vec F S640x128 .bf16) (p22 : Vec F S640x128 .bf16) (p23 : Vec F S640x128 .bf16) (p24 : Vec F S640x128 .bf16) (p25 : Vec F S640x128 .bf16) (p26 : Vec F S640x128 .bf16) (p27 : Vec F S640x128 .bf16) (p28 : Vec F S640x128 .bf16) (p29 : Vec F S640x128 .bf16) (p30 : Vec F S640x128 .bf16) (p31 : Vec F S640x128 .bf16) (p32 : Vec F S640x128 .bf16) (p33 : Vec F S640x128 .bf16) (p34 : Vec F S640x128 .bf16) (p35 : Vec F S640x128 .bf16) (p36 : Vec F S640x128 .bf16) (p37 : Vec F S640x128 .bf16) (p38 : Vec F S640x128 .bf16) (p39 : Vec F S640x128 .bf16) (y : S640x5120.Idx) :
    ∃ pc ∈ ([⟨r0_61, p0⟩, ⟨r0_60, p1⟩, ⟨r0_58, p2⟩, ⟨r0_57, p3⟩, ⟨r0_55, p4⟩, ⟨r0_54, p5⟩, ⟨r0_52, p6⟩, ⟨r0_51, p7⟩, ⟨r0_48, p8⟩, ⟨r0_47, p9⟩, ⟨r0_45, p10⟩, ⟨r0_44, p11⟩, ⟨r0_42, p12⟩, ⟨r0_41, p13⟩, ⟨r0_39, p14⟩, ⟨r0_38, p15⟩, ⟨r0_36, p16⟩, ⟨r0_35, p17⟩, ⟨r0_33, p18⟩, ⟨r0_32, p19⟩, ⟨r0_30, p20⟩, ⟨r0_29, p21⟩, ⟨r0_27, p22⟩, ⟨r0_26, p23⟩, ⟨r0_24, p24⟩, ⟨r0_23, p25⟩, ⟨r0_21, p26⟩, ⟨r0_20, p27⟩, ⟨r0_18, p28⟩, ⟨r0_17, p29⟩, ⟨r0_15, p30⟩, ⟨r0_14, p31⟩, ⟨r0_12, p32⟩, ⟨r0_11, p33⟩, ⟨r0_9, p34⟩, ⟨r0_8, p35⟩, ⟨r0_6, p36⟩, ⟨r0_5, p37⟩, ⟨r0_3, p38⟩, ⟨r0_2, p39⟩] : List (View.Piece (Elt F) S640x5120 .bf16)), y ∈ pc.1.set :=
  View.cover_of_tiled [⟨r0_61, p0⟩, ⟨r0_60, p1⟩, ⟨r0_58, p2⟩, ⟨r0_57, p3⟩, ⟨r0_55, p4⟩, ⟨r0_54, p5⟩, ⟨r0_52, p6⟩, ⟨r0_51, p7⟩, ⟨r0_48, p8⟩, ⟨r0_47, p9⟩, ⟨r0_45, p10⟩, ⟨r0_44, p11⟩, ⟨r0_42, p12⟩, ⟨r0_41, p13⟩, ⟨r0_39, p14⟩, ⟨r0_38, p15⟩, ⟨r0_36, p16⟩, ⟨r0_35, p17⟩, ⟨r0_33, p18⟩, ⟨r0_32, p19⟩, ⟨r0_30, p20⟩, ⟨r0_29, p21⟩, ⟨r0_27, p22⟩, ⟨r0_26, p23⟩, ⟨r0_24, p24⟩, ⟨r0_23, p25⟩, ⟨r0_21, p26⟩, ⟨r0_20, p27⟩, ⟨r0_18, p28⟩, ⟨r0_17, p29⟩, ⟨r0_15, p30⟩, ⟨r0_14, p31⟩, ⟨r0_12, p32⟩, ⟨r0_11, p33⟩, ⟨r0_9, p34⟩, ⟨r0_8, p35⟩, ⟨r0_6, p36⟩, ⟨r0_5, p37⟩, ⟨r0_3, p38⟩, ⟨r0_2, p39⟩] S640x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S640x2560 .i8) (harg1 : arg1.IsWhole) (arg2 : Memref sig .tc .vmem S640x256 .i8) (harg2 : arg2.IsWhole) (arg3 : Memref sig .tc .vmem S640x5120 .bf16) (harg3 : arg3.IsWhole)
    (x0 : Vec F S640x2560 .i8) (x1 : Vec F S640x256 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_decode i arg1 harg1 arg2 harg2 arg3 harg3) K := by
  simp only [cc0_decode_eq_skeleton]; unfold cc0_decode_skel
  simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _ _ _ _ _ _ _ _ _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen
-- ==== Proof.IdealRun.lean ====
/- The whole program's run, segment by segment: two host stretches, the two pallas_calls, the last host stretch. -/
module

public import proofs.«01_k».proof.Proof.IdealLogitsRegion
public import proofs.«01_k».proof.Proof.IdealDecodeBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered (Lib/Pipeline/FrameSuffix.lean `withArrays`) (region 1's entry). -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V3 m ρ) c 0 from rfl]
    iintro ⟨Hp, -, Hr⟩
    iapply (Phi1_zero (V3 m ρ) c); unfold Pipeline.ΦA
    isplitl [Hr]; · iexact Hr
    iexact Hp
  hout c := by
    rw [Pipeline.ownSems0_none, show (pdats m ρ 1 c).Φ (Fin.last _) = Phi1 (V3 m ρ) c 2125 from rfl]
    refine (Phi1_last (V3 m ρ) c 2125).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends with every unscoped buffer at the last boundary's contents and every semaphore at zero. -/
theorem run_all : θ_run defs (onTc (τ := τ) (main (F := F))) ⟨m, fun _ => 0, ρ⟩ (fun r => (∀ c : Dev nD, ∀ b ∈ Pipeline.ucRefs τ sig, r.2.mem ((c : Thread nD τ).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Gen
-- ==== Proof.ValueWords.lean ====
/- The bit arithmetic of the decoder: reading four bytes as one word and back, an operation on words that keeps to each
   byte's own bits, and the extended reals that the resulting bit patterns denote. -/
module

public import proofs.«01_k».proof.Proof.Gen.KernelIdeal.Skeleton
public import Idealize.ShloMosaic.Lib.BitcastFour
public import Idealize.ShloMosaic.Lib.BitcastPair
public import Idealize.ShloMosaic.Lib.Pointwise

@[expose] public section

set_option maxRecDepth 16384

noncomputable section

namespace Cert.KernelIdeal.Val

open Cert.KernelIdeal Cert.KernelIdeal.Gen Idealize.ShloMosaic

/-- Byte `p` of the word that packs rows `4a … 4a+3` of a lane is row `4a + p`. -/
theorem word_byte (x : S640x128.Idx → BitVec 8) (h : S640x128.Bitcasts 8 S160x128 32) (a : Fin 160) (l : Fin 128)
    (p : ℕ) (r : Fin 640) (hp : p < 4) (hr : r.val = 4 * a.val + p) :
    (bitcast S160x128 32 x h (ix2 a l)).extractLsb' (8 * p) 8 = x (ix2 r l) := by
  apply BitVec.eq_of_getLsbD_eq
  intro q hq
  rw [BitVec.getLsbD_extractLsb']
  simp only [hq, decide_true, Bool.true_and]
  refine (bitcast_8_32_getLsbD_ix2 x h a l (8 * p + q) (by omega) r (by omega)).trans ?_
  rw [show (8 * p + q) % 8 = q by omega]
  rfl

/-- A word array read as bytes: row `a` is byte `a % 4` of word row `a / 4`. -/
theorem byte_of_word (w : S160x128.Idx → BitVec 32) (h : S160x128.Bitcasts 32 S640x128 8) (a : Fin 640) (l : Fin 128) (r : Fin 160)
    (hr : r.val = a.val / 4) :
    bitcast S640x128 8 w h (ix2 a l) = (w (ix2 r l)).extractLsb' (8 * (a.val % 4)) 8 := by
  apply BitVec.eq_of_getLsbD_eq
  intro q hq
  rw [bitcast_getLsbD w h _ q hq (by decide), BitVec.getLsbD_extractLsb']
  simp only [hq, decide_true, Bool.true_and]
  have hrow : S640x128.row (ix2 a l : S640x128.Idx) = a.val := rfl
  have hi : ∀ hh, h.srcIdx (ix2 a l : S640x128.Idx) ((S640x128.row (ix2 a l : S640x128.Idx) * 8 + q) / 32) hh = (ix2 r l : S160x128.Idx) := by
    intro hh
    funext c
    match c with
    | ⟨0, _⟩ => exact Fin.ext ((h.srcIdx_row _ _ _ ⟨0, Nat.zero_lt_two⟩ rfl).trans (by rw [hrow]; show _ = r.val; omega))
    | ⟨1, _⟩ => exact Fin.ext (h.srcIdx_other _ _ _ ⟨1, Nat.one_lt_two⟩ (by show ¬ 1 + 2 = 2; omega))
  rw [hi, hrow, show (a.val * 8 + q) % 32 = 8 * (a.val % 4) + q by omega]

/-- Halfwords of a word, likewise. -/
theorem half_of_word (w : S320x128.Idx → BitVec 32) (h : S320x128.Bitcasts 32 S640x128 16) (a : Fin 640) (l : Fin 128) (r : Fin 320)
    (hr : r.val = a.val / 2) :
    bitcast S640x128 16 w h (ix2 a l) = (w (ix2 r l)).extractLsb' (16 * (a.val % 2)) 16 := by
  rw [bitcast_32_16]
  have hrow : S640x128.row (ix2 a l : S640x128.Idx) = a.val := rfl
  have hi : ∀ hh, h.srcIdx (ix2 a l : S640x128.Idx) (S640x128.row (ix2 a l : S640x128.Idx) / 2) hh = (ix2 r l : S320x128.Idx) := by
    intro hh
    funext c
    match c with
    | ⟨0, _⟩ => exact Fin.ext ((h.srcIdx_row _ _ _ ⟨0, Nat.zero_lt_two⟩ rfl).trans (by rw [hrow]; exact hr.symm))
    | ⟨1, _⟩ => exact Fin.ext (h.srcIdx_other _ _ _ ⟨1, Nat.one_lt_two⟩ (by show ¬ 1 + 2 = 2; omega))
  rw [hi, hrow]

/-- The word that packs two halfwords. -/
theorem word_of_half (x : S640x128.Idx → BitVec 16) (h : S640x128.Bitcasts 16 S320x128 32) (a : Fin 320) (l : Fin 128)
    (r0 r1 : Fin 640) (h0 : r0.val = 2 * a.val) (h1 : r1.val = 2 * a.val + 1) :
    bitcast S320x128 32 x h (ix2 a l) = x (ix2 r1 l) ++ x (ix2 r0 l) := by
  rw [bitcast_16_32]
  have hrow : S320x128.row (ix2 a l : S320x128.Idx) = a.val := rfl
  have hi : ∀ (p : ℕ) (r : Fin 640) (_ : r.val = p) hh, h.srcIdx (ix2 a l : S320x128.Idx) p hh = (ix2 r l : S640x128.Idx) := by
    intro p r hp hh
    funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  rw [hi _ r1 (by rw [hrow]; exact h1), hi _ r0 (by rw [hrow]; exact h0)]

/-- The fp8 pattern made of the low nibble of a byte: its sign bit at the top, its three magnitude bits above two zeros. -/
def lo8 (b : BitVec 8) : BitVec 8 := ((b <<< 4) &&& 0x80#8) ||| ((b <<< 2) &&& 0x1C#8)
/-- … and of the high nibble. -/
def hi8 (b : BitVec 8) : BitVec 8 := (b &&& 0x80#8) ||| ((b >>> 2) &&& 0x1C#8)

/-- The word operation of the low nibbles acts on each byte alone. -/
theorem lo_byte (w : BitVec 32) (p : ℕ) (hp : p < 4) :
    (((w <<< 4) &&& 2155905152#32) ||| ((w <<< 2) &&& 471604252#32)).extractLsb' (8 * p) 8 = lo8 (w.extractLsb' (8 * p) 8) := by
  apply BitVec.eq_of_getLsbD_eq
  intro q hq
  interval_cases p <;> interval_cases q <;> simp [lo8]

/-- The word operation of the high nibbles acts on each byte alone. -/
theorem hi_byte (w : BitVec 32) (p : ℕ) (hp : p < 4) :
    ((w &&& 2155905152#32) ||| ((w.sshiftRight 2) &&& 471604252#32)).extractLsb' (8 * p) 8 = hi8 (w.extractLsb' (8 * p) 8) := by
  apply BitVec.eq_of_getLsbD_eq
  intro q hq
  interval_cases p <;> interval_cases q <;> simp [hi8, BitVec.getLsbD_sshiftRight, BitVec.getElem_sshiftRight]

/-- Shifting a packed pair of halfwords, each a byte, by seven shifts each halfword. -/
theorem shl7_half (b1 b0 : BitVec 8) (p : ℕ) (hp : p < 2) :
    ((b1.setWidth 16 ++ b0.setWidth 16 : BitVec 32) <<< 7).extractLsb' (16 * p) 16
      = (if p = 0 then b0 else b1).setWidth 16 <<< 7 := by
  apply BitVec.eq_of_getLsbD_eq
  intro q hq
  rw [BitVec.getLsbD_extractLsb', BitVec.getLsbD_shiftLeft, BitVec.getLsbD_append, BitVec.getLsbD_shiftLeft]
  interval_cases p <;> interval_cases q <;> simp

end Cert.KernelIdeal.Val

end
-- ==== Proof.ValueDecode.lean ====
/- What the decode call stores: the bf16 tile of a group of 128 packed columns, element by element.  Every tile of the
   forty is `decLo` or `decHi` of its columns' bytes and its block exponents. -/
module

public import proofs.«01_k».proof.Proof.IdealDecodeBody
public import proofs.«01_k».proof.Proof.ValueWords
public import Idealize.ShloMosaic.Lib.Pipeline.ValueKit

@[expose] public section

set_option maxRecDepth 16384

noncomputable section

namespace Cert.KernelIdeal.Val

open Cert.KernelIdeal Cert.KernelIdeal.Gen Idealize.ShloMosaic

/-- The lane whose exponent a lane reads, `lane / 16 + off`, as the kernel computes it. -/
def decIdx (off : BitVec 32) : IVec S160x128 32 :=
  have idx : IVec S160x128 32 := addi (select (andi k0_pay8 k0_pay9) (subi k0_pay7 (broadcast S160x128 1#32)) k0_pay7) (broadcast S160x128 off)
  select (cmpi .slt idx (broadcast S160x128 0#32)) (addi idx (broadcast S160x128 128#32)) idx

/-- The block scales of a tile: the exponent byte of lane `l / 16 + off`, shifted into the exponent field of a bf16. -/
def decScale (off : BitVec 32) (e : Vec Ideal S640x128 .i8) : FVec Ideal S640x128 .bf16 :=
  bitcastToFloat .bf16 (bitcast S640x128 16 (shli (bitcast S320x128 32
    (extui 16 (bitcast S640x128 8
      (dynamicGather 1 (bitcast S160x128 32 (shapeCast S640x128 e shapeCasts_S640x128_S640x128 : IVec S640x128 8) bitcasts_S640x128_w8_S160x128_w32)
        (shapeCast S160x128 (shapeCast S160x128x1 (decIdx off) shapeCasts_S160x128_S160x128x1) shapeCasts_S160x128x1_S160x128))
      bitcasts_S160x128_w32_S640x128_w8) natLt_8_16 : IVec S640x128 16)
    bitcasts_S640x128_w16_S320x128_w32) (broadcast S320x128 7#32)) bitcasts_S320x128_w32_S640x128_w16)

/-- The tile of the low nibbles. -/
def decLo (off : BitVec 32) (c : Vec Ideal S640x128 .i8) (e : Vec Ideal S640x128 .i8) : FVec Ideal S640x128 .bf16 :=
  have w : IVec S160x128 32 := bitcast S160x128 32 c bitcasts_S640x128_w8_S160x128_w32
  have v : IVec S160x128 32 := ori (andi (shli w (broadcast S160x128 4#32)) (broadcast S160x128 2155905152#32)) (andi (shli w (broadcast S160x128 2#32)) (broadcast S160x128 471604252#32))
  mulf (extf .bf16 (bitcastToFloat .fp8e4m3 (bitcast S640x128 8 v bitcasts_S160x128_w32_S640x128_w8)) bitsLt_fp8e4m3_bf16) (decScale off e)

/-- The tile of the high nibbles. -/
def decHi (off : BitVec 32) (c : Vec Ideal S640x128 .i8) (e : Vec Ideal S640x128 .i8) : FVec Ideal S640x128 .bf16 :=
  have w : IVec S160x128 32 := bitcast S160x128 32 c bitcasts_S640x128_w8_S160x128_w32
  have v : IVec S160x128 32 := ori (andi w (broadcast S160x128 2155905152#32)) (andi (shrsi w (broadcast S160x128 2#32)) (broadcast S160x128 471604252#32))
  mulf (extf .bf16 (bitcastToFloat .fp8e4m3 (bitcast S640x128 8 v bitcasts_S160x128_w32_S640x128_w8)) bitsLt_fp8e4m3_bf16) (decScale off e)

/-- The forty stores of a block, last first. -/
def decTiles (x0 : Vec Ideal S640x2560 .i8) (x1 : Vec Ideal S640x256 .i8) : List (View.Piece (Elt Ideal) S640x5120 .bf16) :=
  [⟨r0_61, decHi 24#32 (View.ld x0 r0_59) (View.ld x1 r0_50)⟩,
    ⟨r0_60, decLo 24#32 (View.ld x0 r0_59) (View.ld x1 r0_50)⟩,
    ⟨r0_58, decHi 16#32 (View.ld x0 r0_56) (View.ld x1 r0_50)⟩,
    ⟨r0_57, decLo 16#32 (View.ld x0 r0_56) (View.ld x1 r0_50)⟩,
    ⟨r0_55, decHi 8#32 (View.ld x0 r0_53) (View.ld x1 r0_50)⟩,
    ⟨r0_54, decLo 8#32 (View.ld x0 r0_53) (View.ld x1 r0_50)⟩,
    ⟨r0_52, decHi 0#32 (View.ld x0 r0_49) (View.ld x1 r0_50)⟩,
    ⟨r0_51, decLo 0#32 (View.ld x0 r0_49) (View.ld x1 r0_50)⟩,
    ⟨r0_48, decHi 120#32 (View.ld x0 r0_46) (View.ld x1 r0_1)⟩,
    ⟨r0_47, decLo 120#32 (View.ld x0 r0_46) (View.ld x1 r0_1)⟩,
    ⟨r0_45, decHi 112#32 (View.ld x0 r0_43) (View.ld x1 r0_1)⟩,
    ⟨r0_44, decLo 112#32 (View.ld x0 r0_43) (View.ld x1 r0_1)⟩,
    ⟨r0_42, decHi 104#32 (View.ld x0 r0_40) (View.ld x1 r0_1)⟩,
    ⟨r0_41, decLo 104#32 (View.ld x0 r0_40) (View.ld x1 r0_1)⟩,
    ⟨r0_39, decHi 96#32 (View.ld x0 r0_37) (View.ld x1 r0_1)⟩,
    ⟨r0_38, decLo 96#32 (View.ld x0 r0_37) (View.ld x1 r0_1)⟩,
    ⟨r0_36, decHi 88#32 (View.ld x0 r0_34) (View.ld x1 r0_1)⟩,
    ⟨r0_35, decLo 88#32 (View.ld x0 r0_34) (View.ld x1 r0_1)⟩,
    ⟨r0_33, decHi 80#32 (View.ld x0 r0_31) (View.ld x1 r0_1)⟩,
    ⟨r0_32, decLo 80#32 (View.ld x0 r0_31) (View.ld x1 r0_1)⟩,
    ⟨r0_30, decHi 72#32 (View.ld x0 r0_28) (View.ld x1 r0_1)⟩,
    ⟨r0_29, decLo 72#32 (View.ld x0 r0_28) (View.ld x1 r0_1)⟩,
    ⟨r0_27, decHi 64#32 (View.ld x0 r0_25) (View.ld x1 r0_1)⟩,
    ⟨r0_26, decLo 64#32 (View.ld x0 r0_25) (View.ld x1 r0_1)⟩,
    ⟨r0_24, decHi 56#32 (View.ld x0 r0_22) (View.ld x1 r0_1)⟩,
    ⟨r0_23, decLo 56#32 (View.ld x0 r0_22) (View.ld x1 r0_1)⟩,
    ⟨r0_21, decHi 48#32 (View.ld x0 r0_19) (View.ld x1 r0_1)⟩,
    ⟨r0_20, decLo 48#32 (View.ld x0 r0_19) (View.ld x1 r0_1)⟩,
    ⟨r0_18, decHi 40#32 (View.ld x0 r0_16) (View.ld x1 r0_1)⟩,
    ⟨r0_17, decLo 40#32 (View.ld x0 r0_16) (View.ld x1 r0_1)⟩,
    ⟨r0_15, decHi 32#32 (View.ld x0 r0_13) (View.ld x1 r0_1)⟩,
    ⟨r0_14, decLo 32#32 (View.ld x0 r0_13) (View.ld x1 r0_1)⟩,
    ⟨r0_12, decHi 24#32 (View.ld x0 r0_10) (View.ld x1 r0_1)⟩,
    ⟨r0_11, decLo 24#32 (View.ld x0 r0_10) (View.ld x1 r0_1)⟩,
    ⟨r0_9, decHi 16#32 (View.ld x0 r0_7) (View.ld x1 r0_1)⟩,
    ⟨r0_8, decLo 16#32 (View.ld x0 r0_7) (View.ld x1 r0_1)⟩,
    ⟨r0_6, decHi 8#32 (View.ld x0 r0_4) (View.ld x1 r0_1)⟩,
    ⟨r0_5, decLo 8#32 (View.ld x0 r0_4) (View.ld x1 r0_1)⟩,
    ⟨r0_3, decHi 0#32 (View.ld x0 r0_0) (View.ld x1 r0_1)⟩,
    ⟨r0_2, decLo 0#32 (View.ld x0 r0_0) (View.ld x1 r0_1)⟩]

/-- The body's stores are those tiles. -/
theorem out0_2_eq (x0 : Vec Ideal S640x2560 .i8) (x1 : Vec Ideal S640x256 .i8) :
    out0_2 (F := Ideal) x0 x1 = View.canon (decTiles x0 x1) := rfl

theorem decIdx_val : ∀ (k : Fin 16) (l : Fin 128), (decIdx (BitVec.ofNat 32 (8 * k.val)) (ix2 0 l)).toNat % 128 = l.val / 16 + 8 * k.val := by
  decide +kernel

theorem decIdx_row (off : BitVec 32) (a : Fin 160) (l : Fin 128) : decIdx off (ix2 a l) = decIdx off (ix2 0 l) := rfl

theorem shli_at {w : ℕ} {s : Shape} (x : IVec s w) (n : BitVec w) (i : s.Idx) (h : n.toNat < w) : shli x (broadcast s n) i = x i <<< n.toNat := by
  show IntOp.shli .vector (x i) n = _
  rw [IntOp.shli, if_pos h]; rfl

theorem shrsi_at {w : ℕ} {s : Shape} (x : IVec s w) (n : BitVec w) (i : s.Idx) (h : n.toNat < w) : shrsi x (broadcast s n) i = (x i).sshiftRight n.toNat := by
  show IntOp.shrsi .vector (x i) n = _
  rw [IntOp.shrsi, if_pos h]; rfl

/-- A block scale: the exponent byte in a bf16's exponent field. -/
theorem decScale_apply (e : Vec Ideal S640x128 .i8) (k : ℕ) (hk : k < 16) (off : BitVec 32) (hoff : off = BitVec.ofNat 32 (8 * k)) (r : Fin 640) (l l' : Fin 128)
    (hl : l'.val = l.val / 16 + 8 * k) :
    decScale off e (ix2 r l) = Ideal.ofBits .bf16 (((e (ix2 r l') : BitVec 8).setWidth 16) <<< 7) := by
  subst hoff
  have hg : ∀ (r' : Fin 640), bitcast S640x128 8
      (dynamicGather 1 (bitcast S160x128 32 (shapeCast S640x128 e shapeCasts_S640x128_S640x128 : IVec S640x128 8) bitcasts_S640x128_w8_S160x128_w32)
        (shapeCast S160x128 (shapeCast S160x128x1 (decIdx (BitVec.ofNat 32 (8 * k))) shapeCasts_S160x128_S160x128x1) shapeCasts_S160x128x1_S160x128))
      bitcasts_S160x128_w32_S640x128_w8 (ix2 r' l) = e (ix2 r' l') := by
    intro r'
    have h4 : r'.val / 4 < 160 := by omega
    rw [byte_of_word _ _ r' l ⟨r'.val / 4, h4⟩ rfl, shapeCast_shapeCast, shapeCast_self]
    have e1 : dynamicGather 1 (bitcast S160x128 32 e bitcasts_S640x128_w8_S160x128_w32) (decIdx (BitVec.ofNat 32 (8 * k))) (ix2 ⟨r'.val / 4, h4⟩ l)
        = bitcast S160x128 32 e bitcasts_S640x128_w8_S160x128_w32 (ix2 ⟨r'.val / 4, h4⟩ l') := by
      unfold dynamicGather
      refine congrArg _ (funext fun b => ?_)
      match b with
      | ⟨0, _⟩ => rfl
      | ⟨1, _⟩ => exact Fin.ext ((congrArg (fun v : BitVec 32 => v.toNat % 128) (decIdx_row _ _ l)).trans ((decIdx_val ⟨k, hk⟩ l).trans hl.symm))
    rw [e1]
    exact word_byte e _ _ l' _ r' (by omega) (by show r'.val = 4 * (r'.val / 4) + r'.val % 4; omega)
  show Ideal.ofBits .bf16 (bitcast S640x128 16 _ _ (ix2 r l)) = _
  congr 1
  have h2 : r.val / 2 < 320 := by omega
  have b0 : 2 * (r.val / 2) < 640 := by omega
  have b1 : 2 * (r.val / 2) + 1 < 640 := by omega
  rw [half_of_word _ _ r l ⟨r.val / 2, h2⟩ rfl, shli_at _ _ _ (by decide), word_of_half _ _ _ l ⟨_, b0⟩ ⟨_, b1⟩ rfl rfl]
  show ((BitVec.setWidth 16 (bitcast S640x128 8 _ _ (ix2 ⟨_, b1⟩ l)) ++ BitVec.setWidth 16 (bitcast S640x128 8 _ _ (ix2 ⟨_, b0⟩ l)) : BitVec 32) <<< 7).extractLsb' _ 16 = _
  rw [hg, hg, shl7_half _ _ _ (by omega)]
  rcases Nat.mod_two_eq_zero_or_one r.val with h | h
  · rw [if_pos h, show (⟨2 * (r.val / 2), b0⟩ : Fin 640) = r from Fin.ext (by show 2 * (r.val / 2) = r.val; omega)]
  · rw [if_neg (by omega), show (⟨2 * (r.val / 2) + 1, b1⟩ : Fin 640) = r from Fin.ext (by show 2 * (r.val / 2) + 1 = r.val; omega)]

/-- An element of a low tile. -/
theorem decLo_apply (c e : Vec Ideal S640x128 .i8) (k : ℕ) (hk : k < 16) (off : BitVec 32) (hoff : off = BitVec.ofNat 32 (8 * k)) (r : Fin 640) (l l' : Fin 128)
    (hl : l'.val = l.val / 16 + 8 * k) :
    decLo off c e (ix2 r l) = (Ideal.ofBits .fp8e4m3 (lo8 (c (ix2 r l))) : EReal) * Ideal.ofBits .bf16 (((e (ix2 r l') : BitVec 8).setWidth 16) <<< 7) := by
  rw [← decScale_apply e k hk off hoff r l l' hl]
  show (Ideal.ofBits .fp8e4m3 (bitcast S640x128 8 _ _ (ix2 r l)) : EReal) * _ = _
  congr 2
  have h4 : r.val / 4 < 160 := by omega
  rw [byte_of_word _ _ r l ⟨r.val / 4, h4⟩ rfl]
  show (((shli _ _ _ &&& _) ||| (shli _ _ _ &&& _)) : BitVec 32).extractLsb' _ 8 = _
  rw [shli_at _ _ _ (by decide), shli_at _ _ _ (by decide)]
  refine (lo_byte _ _ (by omega)).trans ?_
  rw [word_byte c _ _ l _ r (by omega) (by show r.val = 4 * (r.val / 4) + r.val % 4; omega)]

/-- An element of a high tile. -/
theorem decHi_apply (c e : Vec Ideal S640x128 .i8) (k : ℕ) (hk : k < 16) (off : BitVec 32) (hoff : off = BitVec.ofNat 32 (8 * k)) (r : Fin 640) (l l' : Fin 128)
    (hl : l'.val = l.val / 16 + 8 * k) :
    decHi off c e (ix2 r l) = (Ideal.ofBits .fp8e4m3 (hi8 (c (ix2 r l))) : EReal) * Ideal.ofBits .bf16 (((e (ix2 r l') : BitVec 8).setWidth 16) <<< 7) := by
  rw [← decScale_apply e k hk off hoff r l l' hl]
  show (Ideal.ofBits .fp8e4m3 (bitcast S640x128 8 _ _ (ix2 r l)) : EReal) * _ = _
  congr 2
  have h4 : r.val / 4 < 160 := by omega
  rw [byte_of_word _ _ r l ⟨r.val / 4, h4⟩ rfl]
  show ((_ &&& _) ||| (shrsi _ _ _ &&& _) : BitVec 32).extractLsb' _ 8 = _
  rw [shrsi_at _ _ _ (by decide)]
  refine (hi_byte _ _ (by omega)).trans ?_
  rw [word_byte c _ _ l _ r (by omega) (by show r.val = 4 * (r.val / 4) + r.val % 4; omega)]

/-- The decoded weight at row `r`, column `q`, of a block of rows given by its packed bytes and exponent bytes: column
    `256 g + 128 t + l` is nibble `t` of byte `128 g + l`, times the scale of block `(128 g + l) / 16`. -/
def decElem (x0 : S640x2560.Idx → BitVec 8) (x1 : S640x256.Idx → BitVec 8) (y : S640x5120.Idx) : EReal :=
  have hq : (y 1).val < 5120 := (y 1).isLt
  Ideal.ofBits .fp8e4m3 ((if (y 1).val / 128 % 2 = 0 then lo8 else hi8) (x0 (ix2 (y 0) ⟨(y 1).val / 256 * 128 + (y 1).val % 128, by omega⟩)))
    * Ideal.ofBits .bf16 (((x1 (ix2 (y 0) ⟨((y 1).val / 256 * 128 + (y 1).val % 128) / 16, by omega⟩)).setWidth 16) <<< 7)

theorem tile_lo (x0 : Vec Ideal S640x2560 .i8) (x1 : Vec Ideal S640x256 .i8) (g k oc oe oo : ℕ) (off : BitVec 32) (hg : g < 20) (hk : k < 16)
    (hoff : off = BitVec.ofNat 32 (8 * k)) (hc : oc = 128 * g) (he : oe + 8 * k = 8 * g) (ho : oo = 256 * g)
    (ic : ∀ a, (![0, oc] : Fin 2 → ℕ) a + S640x128.size a ≤ S640x2560.size a) (ie : ∀ a, (![0, oe] : Fin 2 → ℕ) a + S640x128.size a ≤ S640x256.size a)
    (io : ∀ a, (![0, oo] : Fin 2 → ℕ) a + S640x128.size a ≤ S640x5120.size a) (x : S640x128.Idx) :
    decLo off (View.ld x0 (Rect.unit ![0, oc] S640x128.size ic)) (View.ld x1 (Rect.unit ![0, oe] S640x128.size ie)) x
      = decElem x0 x1 ((Rect.unit (s := S640x5120) ![0, oo] S640x128.size io).emb x) := by
  obtain ⟨r, l, rfl⟩ : ∃ (r : Fin 640) (l : Fin 128), x = ix2 r l := ⟨x 0, x 1, eq_ix2 x⟩
  have hl := l.isLt
  rw [decLo_apply _ _ k hk off hoff r l ⟨l.val / 16 + 8 * k, by omega⟩ rfl]
  have hy : ((Rect.unit (s := S640x5120) ![0, oo] S640x128.size io).emb (ix2 r l)) = (ix2 r ⟨oo + l.val, by omega⟩ : S640x5120.Idx) := by
    funext a
    match a with
    | ⟨0, _⟩ => exact Fin.ext (by show 0 + 1 * r.val = r.val; omega)
    | ⟨1, _⟩ => exact Fin.ext (by show oo + 1 * l.val = oo + l.val; omega)
  rw [hy]
  unfold decElem
  rw [if_pos (by show (oo + l.val) / 128 % 2 = 0; omega)]
  congr 3
  · exact View.ld_unit_apply_of x0 _ _ ic _ _ (fun a => by
      match a with
      | ⟨0, _⟩ => show r.val = 0 + r.val; omega
      | ⟨1, _⟩ => show (oo + l.val) / 256 * 128 + (oo + l.val) % 128 = oc + l.val; omega)
  · congr 1
    exact View.ld_unit_apply_of x1 _ _ ie _ _ (fun a => by
      match a with
      | ⟨0, _⟩ => show r.val = 0 + r.val; omega
      | ⟨1, _⟩ => show ((oo + l.val) / 256 * 128 + (oo + l.val) % 128) / 16 = oe + (l.val / 16 + 8 * k); omega)

theorem tile_hi (x0 : Vec Ideal S640x2560 .i8) (x1 : Vec Ideal S640x256 .i8) (g k oc oe oo : ℕ) (off : BitVec 32) (hg : g < 20) (hk : k < 16)
    (hoff : off = BitVec.ofNat 32 (8 * k)) (hc : oc = 128 * g) (he : oe + 8 * k = 8 * g) (ho : oo = 256 * g + 128)
    (ic : ∀ a, (![0, oc] : Fin 2 → ℕ) a + S640x128.size a ≤ S640x2560.size a) (ie : ∀ a, (![0, oe] : Fin 2 → ℕ) a + S640x128.size a ≤ S640x256.size a)
    (io : ∀ a, (![0, oo] : Fin 2 → ℕ) a + S640x128.size a ≤ S640x5120.size a) (x : S640x128.Idx) :
    decHi off (View.ld x0 (Rect.unit ![0, oc] S640x128.size ic)) (View.ld x1 (Rect.unit ![0, oe] S640x128.size ie)) x
      = decElem x0 x1 ((Rect.unit (s := S640x5120) ![0, oo] S640x128.size io).emb x) := by
  obtain ⟨r, l, rfl⟩ : ∃ (r : Fin 640) (l : Fin 128), x = ix2 r l := ⟨x 0, x 1, eq_ix2 x⟩
  have hl := l.isLt
  rw [decHi_apply _ _ k hk off hoff r l ⟨l.val / 16 + 8 * k, by omega⟩ rfl]
  have hy : ((Rect.unit (s := S640x5120) ![0, oo] S640x128.size io).emb (ix2 r l)) = (ix2 r ⟨oo + l.val, by omega⟩ : S640x5120.Idx) := by
    funext a
    match a with
    | ⟨0, _⟩ => exact Fin.ext (by show 0 + 1 * r.val = r.val; omega)
    | ⟨1, _⟩ => exact Fin.ext (by show oo + 1 * l.val = oo + l.val; omega)
  rw [hy]
  unfold decElem
  rw [if_neg (by show ¬ (oo + l.val) / 128 % 2 = 0; omega)]
  congr 3
  · exact View.ld_unit_apply_of x0 _ _ ic _ _ (fun a => by
      match a with
      | ⟨0, _⟩ => show r.val = 0 + r.val; omega
      | ⟨1, _⟩ => show (oo + l.val) / 256 * 128 + (oo + l.val) % 128 = oc + l.val; omega)
  · congr 1
    exact View.ld_unit_apply_of x1 _ _ ie _ _ (fun a => by
      match a with
      | ⟨0, _⟩ => show r.val = 0 + r.val; omega
      | ⟨1, _⟩ => show ((oo + l.val) / 256 * 128 + (oo + l.val) % 128) / 16 = oe + (l.val / 16 + 8 * k); omega)

/-- What the decode body leaves in its block, element by element. -/
theorem out0_2_apply (x0 : Vec Ideal S640x2560 .i8) (x1 : Vec Ideal S640x256 .i8) (y : S640x5120.Idx) :
    out0_2 (F := Ideal) x0 x1 y = decElem x0 x1 y := by
  rw [out0_2_eq]
  refine View.canon_apply_of_pieces (Val := Elt Ideal) (e := .bf16) (decElem x0 x1) (decTiles x0 x1) ?_ y ?_
  · simp only [decTiles, List.forall_mem_cons]
    exact ⟨tile_hi x0 x1 19 3 _ _ _ _ (by decide) (by decide) rfl rfl rfl rfl _ _ _,
      tile_lo x0 x1 19 3 _ _ _ _ (by decide) (by decide) rfl rfl rfl rfl _ _ _,
      tile_hi x0 x1 18 2 _ _ _ _ (by decide) (by decide) rfl rfl rfl rfl _ _ _,
      tile_lo x0 x1 18 2 _ _ _ _ (by decide) (by decide) rfl rfl rfl rfl _ _ _,
      tile_hi x0 x1 17 1 _ _ _ _ (by decide) (by decide) rfl rfl rfl rfl _ _ _,
      tile_lo x0 x1 17 1 _ _ _ _ (by decide) (by decide) rfl rfl rfl rfl _ _ _,
      tile_hi x0 x1 16 0 _ _ _ _ (by decide) (by decide) rfl rfl rfl rfl _ _ _,
      tile_lo x0 x1 16 0 _ _ _ _ (by decide) (by decide) rfl rfl rfl rfl _ _ _,
      tile_hi x0 x1 15 15 _ _ _ _ (by decide) (by decide) rfl rfl rfl rfl _ _ _,
      tile_lo x0 x1 15 15 _ _ _ _ (by decide) (by decide) rfl rfl rfl rfl _ _ _,
      tile_hi x0 x1 14 14 _ _ _ _ (by decide) (by decide) rfl rfl rfl rfl _ _ _,
      tile_lo x0 x1 14 14 _ _ _ _ (by decide) (by decide) rfl rfl rfl rfl _ _ _,
      tile_hi x0 x1 13 13 _ _ _ _ (by decide) (by decide) rfl rfl rfl rfl _ _ _,
      tile_lo x0 x1 13 13 _ _ _ _ (by decide) (by decide) rfl rfl rfl rfl _ _ _,
      tile_hi x0 x1 12 12 _ _ _ _ (by decide) (by decide) rfl rfl rfl rfl _ _ _,
      tile_lo x0 x1 12 12 _ _ _ _ (by decide) (by decide) rfl rfl rfl rfl _ _ _,
      tile_hi x0 x1 11 11 _ _ _ _ (by decide) (by decide) rfl rfl rfl rfl _ _ _,
      tile_lo x0 x1 11 11 _ _ _ _ (by decide) (by decide) rfl rfl rfl rfl _ _ _,
      tile_hi x0 x1 10 10 _ _ _ _ (by decide) (by decide) rfl rfl rfl rfl _ _ _,
      tile_lo x0 x1 10 10 _ _ _ _ (by decide) (by decide) rfl rfl rfl rfl _ _ _,
      tile_hi x0 x1 9 9 _ _ _ _ (by decide) (by decide) rfl rfl rfl rfl _ _ _,
      tile_lo x0 x1 9 9 _ _ _ _ (by decide) (by decide) rfl rfl rfl rfl _ _ _,
      tile_hi x0 x1 8 8 _ _ _ _ (by decide) (by decide) rfl rfl rfl rfl _ _ _,
      tile_lo x0 x1 8 8 _ _ _ _ (by decide) (by decide) rfl rfl rfl rfl _ _ _,
      tile_hi x0 x1 7 7 _ _ _ _ (by decide) (by decide) rfl rfl rfl rfl _ _ _,
      tile_lo x0 x1 7 7 _ _ _ _ (by decide) (by decide) rfl rfl rfl rfl _ _ _,
      tile_hi x0 x1 6 6 _ _ _ _ (by decide) (by decide) rfl rfl rfl rfl _ _ _,
      tile_lo x0 x1 6 6 _ _ _ _ (by decide) (by decide) rfl rfl rfl rfl _ _ _,
      tile_hi x0 x1 5 5 _ _ _ _ (by decide) (by decide) rfl rfl rfl rfl _ _ _,
      tile_lo x0 x1 5 5 _ _ _ _ (by decide) (by decide) rfl rfl rfl rfl _ _ _,
      tile_hi x0 x1 4 4 _ _ _ _ (by decide) (by decide) rfl rfl rfl rfl _ _ _,
      tile_lo x0 x1 4 4 _ _ _ _ (by decide) (by decide) rfl rfl rfl rfl _ _ _,
      tile_hi x0 x1 3 3 _ _ _ _ (by decide) (by decide) rfl rfl rfl rfl _ _ _,
      tile_lo x0 x1 3 3 _ _ _ _ (by decide) (by decide) rfl rfl rfl rfl _ _ _,
      tile_hi x0 x1 2 2 _ _ _ _ (by decide) (by decide) rfl rfl rfl rfl _ _ _,
      tile_lo x0 x1 2 2 _ _ _ _ (by decide) (by decide) rfl rfl rfl rfl _ _ _,
      tile_hi x0 x1 1 1 _ _ _ _ (by decide) (by decide) rfl rfl rfl rfl _ _ _,
      tile_lo x0 x1 1 1 _ _ _ _ (by decide) (by decide) rfl rfl rfl rfl _ _ _,
      tile_hi x0 x1 0 0 _ _ _ _ (by decide) (by decide) rfl rfl rfl rfl _ _ _,
      tile_lo x0 x1 0 0 _ _ _ _ (by decide) (by decide) rfl rfl rfl rfl _ _ _, fun _ h => absurd h (List.not_mem_nil)⟩
  · exact View.cover_of_tiledL (decTiles x0 x1) S640x128.size (by sl_kernel_rfl) y

end Cert.KernelIdeal.Val

end
-- ==== Proof.ValueArr0.lean ====
/- The array of decoded weights: what the first pallas_call leaves, an element at a time. -/
module

public import proofs.«01_k».proof.Proof.ValueDecode
public import Idealize.ShloMosaic.Lib.Pipeline.ValueKit
public import Idealize.ShloMosaic.Lib.Pipeline.Covers

@[expose] public section

set_option maxRecDepth 16384

noncomputable section

namespace Cert.KernelIdeal.Val

open Cert.KernelIdeal Cert.KernelIdeal.Gen Idealize.ShloMosaic Idealize.ShloMosaic.TcCoe

variable (V : (c : Dev nD) → (b : Ref sig .tc) → Buf (Elt Ideal) ((c : Thread nD τ).loc b))

theorem coords0 : ∀ t : Fin cfg0.N, (grid0.coords t 0).val = t.val := by decide +kernel

theorem idx0_0 (t : Fin cfg0.N) : (cfg0.win 0).index t = ![t.val, 0] :=
  (by decide +kernel : ∀ t : Fin cfg0.N, (cfg0.win 0).index t = ![t.val, 0]) t
theorem idx0_1 (t : Fin cfg0.N) : (cfg0.win 1).index t = ![t.val, 0] :=
  (by decide +kernel : ∀ t : Fin cfg0.N, (cfg0.win 1).index t = ![t.val, 0]) t
theorem idx0_2 (t : Fin cfg0.N) : (cfg0.win 2).index t = ![t.val, 0] :=
  (by decide +kernel : ∀ t : Fin cfg0.N, (cfg0.win 2).index t = ![t.val, 0]) t

theorem blk0_0 (c : Dev nD) (t : Fin cfg0.N) (r : Fin 640) (k : Fin 2560) (R : Fin 32000) (hR : R.val = 640 * t.val + r.val) :
    iblk0 V c 0 t (ix2 r k) = V c main_arg2 (ix2 R k) := by
  blk_ext [iblk0, idx0_0 t]

theorem blk0_1 (c : Dev nD) (t : Fin cfg0.N) (r : Fin 640) (k : Fin 256) (R : Fin 32000) (hR : R.val = 640 * t.val + r.val) :
    iblk0 V c 1 t (ix2 r k) = V c main_v2 (ix2 R k) := by
  blk_ext [iblk0, idx0_1 t]

/-- One decoded weight, times 2^-6, from its byte and its scale exponent. -/
def decArr (wc : S32000x2560.Idx → BitVec 8) (ex : S32000x256.Idx → BitVec 8) (y : S32000x5120.Idx) : EReal :=
  have hq : (y 1).val < 5120 := (y 1).isLt
  Ideal.ofBits .fp8e4m3 ((if (y 1).val / 128 % 2 = 0 then lo8 else hi8) (wc (ix2 (y 0) ⟨(y 1).val / 256 * 128 + (y 1).val % 128, by omega⟩)))
    * Ideal.ofBits .bf16 ((ex (ix2 (y 0) ⟨((y 1).val / 256 * 128 + (y 1).val % 128) / 16, by omega⟩)).setWidth 16 <<< 7)

theorem emb0_2 (t : Fin cfg0.N) (r : Fin 640) (k : Fin 5120) (R : Fin 32000) (hR : R.val = 640 * t.val + r.val) :
    ((cfg0.win 2).blk t).view.emb (ix2 r k) = (ix2 R k : S32000x5120.Idx) := by
  blk_ext [idx0_2 t]

/-- The decoded weights after the first pallas_call. -/
theorem arr0 (c : Dev nD) : (dat0 V c).arrAt 2 cfg0.N = decArr (V c main_arg2) (V c main_v2) := by
  refine (dat0 V c).arrAt_eq_of_covers 2 _ (by decide +kernel) fun t hf y => ?_
  have ht : t.val < 50 := t.isLt
  obtain ⟨r, k, rfl⟩ : ∃ (r : Fin 640) (k : Fin 5120), y = ix2 r k := ⟨y 0, y 1, eq_ix2 y⟩
  have hr := r.isLt
  refine Eq.trans ?_ (congrArg (decArr (V c main_arg2) (V c main_v2)) (emb0_2 t r k ⟨640 * t.val + r.val, by omega⟩ rfl).symm)
  show (dat0 V c).after 2 t (ix2 r k) = _
  rw [after0_2]
  refine (out0_2_apply _ _ _).trans ?_
  unfold decElem decArr
  exact congrArg₂ (fun (a b : BitVec 8) => Ideal.ofBits .fp8e4m3 ((if k.val / 128 % 2 = 0 then lo8 else hi8) a) * Ideal.ofBits .bf16 (b.setWidth 16 <<< 7))
    (blk0_0 V c t r _ _ rfl) (blk0_1 V c t r _ _ rfl)

end Cert.KernelIdeal.Val

end
-- ==== Proof.ValueSoftmax.lean ====
/- The online log-sum-exp over the extended reals: a running maximum and a rescaled running sum per lane, brought
   together at the end, are the maximum and the log-sum-exp of the whole row, whatever the values (infinities included). -/
module

public import Idealize.ShloMosaic.PureOps.Ideal
public import Idealize.ShloMosaic.Lib.Pointwise

@[expose] public section

noncomputable section

namespace Cert.Lse

open Idealize.ShloMosaic

theorem exp_nonneg (x : EReal) : 0 ≤ Ideal.exp x := by
  induction x with
  | bot => exact le_refl _
  | top => exact le_top
  | coe r => exact EReal.coe_nonneg.2 (Real.exp_pos r).le

/-- Rescaling one term of the sum from the maximum `m` to a larger one. -/
theorem exp_rescale (l m m' : EReal) (h1 : l ≤ m) (h2 : m ≤ m') : Ideal.exp (l - m) * Ideal.exp (m - m') = Ideal.exp (l - m') := by
  induction m with
  | bot =>
    obtain rfl : l = ⊥ := le_bot_iff.1 h1
    rw [EReal.bot_sub, EReal.bot_sub]; show (0 : EReal) * _ = 0; rw [zero_mul]
  | top =>
    obtain rfl : m' = ⊤ := top_le_iff.1 h2
    rw [EReal.sub_top, EReal.sub_top]; show _ * (0 : EReal) = 0; rw [mul_zero]
  | coe m =>
    induction m' with
    | bot => exact absurd (le_bot_iff.1 h2) (EReal.coe_ne_bot m)
    | top => rw [EReal.sub_top, EReal.sub_top]; show _ * (0 : EReal) = 0; rw [mul_zero]
    | coe m' =>
      induction l with
      | bot => rw [EReal.bot_sub, EReal.bot_sub]; show (0 : EReal) * _ = 0; rw [zero_mul]
      | top => exact absurd (top_le_iff.1 h1) (EReal.coe_ne_top m)
      | coe l =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]; congr 2; ring

/-- Rescaling a sum of such terms. -/
theorem sum_rescale {ι : Type*} (s : Finset ι) (q : ι → EReal) (m m' : EReal) (h1 : ∀ i ∈ s, q i ≤ m) (h2 : m ≤ m') :
    (∑ i ∈ s, Ideal.exp (q i - m)) * Ideal.exp (m - m') = ∑ i ∈ s, Ideal.exp (q i - m') := by
  classical
  induction s using Finset.induction_on with
  | empty => simp
  | insert a s ha ih =>
    rw [Finset.sum_insert ha, Finset.sum_insert ha,
      EReal.right_distrib_of_nonneg (exp_nonneg _) (Finset.sum_nonneg fun _ _ => exp_nonneg _),
      ih (fun i hi => h1 i (Finset.mem_insert_of_mem hi)), exp_rescale _ _ _ (h1 a (Finset.mem_insert_self _ _)) h2]

/-- The running maximum of the first `n` values. -/
def rmax (q : ℕ → EReal) (n : ℕ) : EReal := (Finset.range n).sup q
/-- The running sum of exponentials, relative to the running maximum. -/
def rsum (q : ℕ → EReal) (n : ℕ) : EReal := ∑ k ∈ Finset.range n, Ideal.exp (q k - rmax q n)

theorem rmax_zero (q : ℕ → EReal) : rmax q 0 = ⊥ := rfl
theorem rsum_zero (q : ℕ → EReal) : rsum q 0 = 0 := rfl

theorem rmax_two (q : ℕ → EReal) (n : ℕ) : rmax q (n + 2) = max (max (rmax q n) (q n)) (q (n + 1)) := by
  unfold rmax
  rw [Finset.range_add_one, Finset.sup_insert, Finset.range_add_one, Finset.sup_insert]
  simp only [sup_comm, sup_left_comm]

theorem rsum_two (q : ℕ → EReal) (n : ℕ) :
    rsum q (n + 2) = rsum q n * Ideal.exp (rmax q n - rmax q (n + 2)) + Ideal.exp (q n - rmax q (n + 2)) + Ideal.exp (q (n + 1) - rmax q (n + 2)) := by
  unfold rsum
  rw [sum_rescale (Finset.range n) q (rmax q n) _ (fun i hi => Finset.le_sup (f := q) hi) (by rw [rmax_two]; exact le_trans (le_max_left _ _) (le_max_left _ _)),
    Finset.sum_range_succ, Finset.sum_range_succ]

/-- A row of 32000 values, lane by lane: the maximum. -/
theorem sup_lanes (z : ℕ → EReal) :
    (Finset.univ : Finset (Fin 128)).sup (fun l => rmax (fun k => z (128 * k + l.val)) 250) = (Finset.univ : Finset (Fin 32000)).sup (fun v => z v.val) := by
  apply le_antisymm
  · refine Finset.sup_le fun l _ => Finset.sup_le fun k hk => ?_
    have hk' := Finset.mem_range.1 hk
    exact Finset.le_sup (f := fun v : Fin 32000 => z v.val) (Finset.mem_univ (⟨128 * k + l.val, by omega⟩ : Fin 32000))
  · refine Finset.sup_le fun v _ => ?_
    have hv := v.isLt
    have h1 : z v.val = (fun k => z (128 * k + v.val % 128)) (v.val / 128) := by
      show z v.val = z (128 * (v.val / 128) + v.val % 128); congr 1; omega
    rw [h1]
    exact le_trans (Finset.le_sup (f := fun k => z (128 * k + v.val % 128)) (Finset.mem_range.2 (by omega : v.val / 128 < 250)))
      (Finset.le_sup (f := fun l : Fin 128 => rmax (fun k => z (128 * k + l.val)) 250) (Finset.mem_univ (⟨v.val % 128, by omega⟩ : Fin 128)))

/-- … and a sum. -/
theorem sum_lanes (f : ℕ → EReal) :
    ∑ l : Fin 128, ∑ k ∈ Finset.range 250, f (128 * k + l.val) = ∑ v : Fin 32000, f v.val := by
  have h : ∀ l : Fin 128, ∑ k ∈ Finset.range 250, f (128 * k + l.val) = ∑ k : Fin 250, f (128 * k.val + l.val) := fun l =>
    (Fin.sum_univ_eq_sum_range (fun k => f (128 * k + l.val)) 250).symm
  rw [Finset.sum_congr rfl fun l _ => h l, Finset.sum_comm, ← Fintype.sum_prod_type' (f := fun (k : Fin 250) (l : Fin 128) => f (128 * k.val + l.val))]
  exact Fintype.sum_equiv (finProdFinEquiv : Fin 250 × Fin 128 ≃ Fin 32000) _ _ (fun p => congrArg f (by
    show 128 * p.1.val + p.2.val = p.2.val + 128 * p.1.val; omega))

/-- The log-sum-exp of a row. -/
def lse (z : ℕ → EReal) : EReal :=
  (Finset.univ : Finset (Fin 32000)).sup (fun v => z v.val)
    + Ideal.log (∑ v : Fin 32000, Ideal.exp (z v.val - (Finset.univ : Finset (Fin 32000)).sup (fun v => z v.val)))

/-- The lanes' maxima and sums, brought together, give the row's log-sum-exp. -/
theorem lse_lanes (z : ℕ → EReal) (M : EReal)
    (hM : M = (Finset.univ : Finset (Fin 128)).sup (fun l => rmax (fun k => z (128 * k + l.val)) 250)) :
    M + Ideal.log (∑ l : Fin 128, rsum (fun k => z (128 * k + l.val)) 250 * Ideal.exp (rmax (fun k => z (128 * k + l.val)) 250 - M)) = lse z := by
  have h : ∀ l : Fin 128, rsum (fun k => z (128 * k + l.val)) 250 * Ideal.exp (rmax (fun k => z (128 * k + l.val)) 250 - M)
      = ∑ k ∈ Finset.range 250, Ideal.exp (z (128 * k + l.val) - M) := fun l =>
    sum_rescale _ (fun k => z (128 * k + l.val)) _ _ (fun i hi => Finset.le_sup (f := fun k => z (128 * k + l.val)) hi)
      (by rw [hM]; exact Finset.le_sup (f := fun l : Fin 128 => rmax (fun k => z (128 * k + l.val)) 250) (Finset.mem_univ l))
  rw [Finset.sum_congr rfl fun l _ => h l, sum_lanes (fun v => Ideal.exp (z v - M)), hM, sup_lanes]
  rfl

/-- The running maximum of nonnegative values, started from zero. -/
def rerr (q : ℕ → EReal) (n : ℕ) : EReal := max 0 (rmax q n)

theorem rerr_zero (q : ℕ → EReal) : rerr q 0 = 0 := max_eq_left bot_le

theorem rerr_two (q : ℕ → EReal) (n : ℕ) : rerr q (n + 2) = max (max (rerr q n) (q n)) (q (n + 1)) := by
  unfold rerr; rw [rmax_two]; simp only [max_assoc]

/-- The lanes' maxima of nonnegative values give the row's. -/
theorem err_lanes (d : ℕ → EReal) (hd : ∀ v, 0 ≤ d v) :
    (Finset.univ : Finset (Fin 128)).sup (fun l => rerr (fun k => d (128 * k + l.val)) 250) = (Finset.univ : Finset (Fin 32000)).sup (fun v => d v.val) := by
  rw [← sup_lanes]
  refine Finset.sup_congr rfl fun l _ => max_eq_right ?_
  exact le_trans (hd (128 * 0 + l.val)) (Finset.le_sup (f := fun k => d (128 * k + l.val)) (Finset.mem_range.2 (by decide : 0 < 250)))

theorem abs_nonneg (x : EReal) : 0 ≤ max x (-x) := by
  rcases le_total 0 x with h | h
  · exact le_trans h (le_max_left _ _)
  · exact le_trans (EReal.neg_nonneg.2 h) (le_max_right _ _)

end Cert.Lse

end
-- ==== Proof.ValuePayloads.lean ====
/- The logits call's vector expressions, read at an index over the extended reals. -/
module

public import proofs.«01_k».proof.Proof.Gen.KernelIdeal.Skeleton
public import proofs.«01_k».proof.Proof.ValueSoftmax
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Idealize.ShloMosaic

/-- The floor of the log probabilities. -/
abbrev floorC : EReal := Ideal.ofBits .f32 0xC2700000#32

theorem negInf : Ideal.ofBits .f32 0xFF800000#32 = (⊥ : EReal) := by
  simp [Ideal.ofBits, Ideal.ieee]

theorem fold_max_eq_sup {ι : Type*} (s : Finset ι) (f : ι → EReal) : Finset.fold max (⊥ : EReal) f s = s.sup f := rfl

theorem pay9_apply (xb : Vec Ideal S384x5120 .bf16) (w : Vec Ideal S256x5120 .bf16) (sc : Vec Ideal S384x128 .f32) (r : Fin 384) (l : Fin 128) :
    k1_pay9 xb w sc (ix2 r l) = (∑ k : Fin 5120, xb (ix2 r k) * w (ix2 ⟨l.val, by omega⟩ k)) * sc (ix2 r l) := by
  pointwise [k1_pay9, k1_pay8]

theorem pay10_apply (xb : Vec Ideal S384x5120 .bf16) (w : Vec Ideal S256x5120 .bf16) (sc : Vec Ideal S384x128 .f32) (r : Fin 384) (l : Fin 128) :
    k1_pay10 xb w sc (ix2 r l) = (∑ k : Fin 5120, xb (ix2 r k) * w (ix2 ⟨128 + l.val, by omega⟩ k)) * sc (ix2 r l) := by
  pointwise [k1_pay10, k1_pay8]

theorem pay11_apply (xb : Vec Ideal S384x5120 .bf16) (w : Vec Ideal S256x5120 .bf16) (sc m : Vec Ideal S384x128 .f32) (y : S384x128.Idx) :
    k1_pay11 xb w sc m y = max (max (m y) (k1_pay9 xb w sc y)) (k1_pay10 xb w sc y) := rfl

theorem pay12_apply (xb : Vec Ideal S384x5120 .bf16) (w : Vec Ideal S256x5120 .bf16) (sc : Vec Ideal S384x128 .f32) (r : Fin 384) (l : Fin 128) :
    k1_pay12 xb w sc (ix3 0 r l) = k1_pay9 xb w sc (ix2 r l) := by
  unfold k1_pay12; pointwise

theorem pay13_apply (xb : Vec Ideal S384x5120 .bf16) (w : Vec Ideal S256x5120 .bf16) (sc : Vec Ideal S384x128 .f32) (r : Fin 384) (l : Fin 128) :
    k1_pay13 xb w sc (ix3 0 r l) = k1_pay10 xb w sc (ix2 r l) := by
  unfold k1_pay13; pointwise

theorem pay14_apply (xb : Vec Ideal S384x5120 .bf16) (w : Vec Ideal S256x5120 .bf16) (sc m : Vec Ideal S384x128 .f32) (y : S384x128.Idx) :
    k1_pay14 xb w sc m y = max (max (m y) (k1_pay9 xb w sc y)) (k1_pay10 xb w sc y) := by
  unfold k1_pay14; rw [shapeCast_self]; rfl

theorem pay15_apply (xb : Vec Ideal S384x5120 .bf16) (w : Vec Ideal S256x5120 .bf16) (sc m s : Vec Ideal S384x128 .f32) (y : S384x128.Idx) :
    k1_pay15 xb w sc m s y = (s y : EReal) * Ideal.exp (m y - k1_pay14 xb w sc m y) + Ideal.exp (k1_pay9 xb w sc y - k1_pay14 xb w sc m y)
      + Ideal.exp (k1_pay10 xb w sc y - k1_pay14 xb w sc m y) := by
  unfold k1_pay15 k1_pay14; rw [shapeCast_self, shapeCast_self]; rfl

theorem pay5_apply (xs : Vec Ideal S1x1x384 .f32) (r : Fin 384) (l : Fin 128) : k1_pay5 xs (ix2 r l) = xs (ix3 0 0 r) := by
  pointwise [k1_pay5]

theorem pay6_apply (y : S384x128.Idx) : k1_pay6 (F := Ideal) y = (⊥ : EReal) := by
  unfold k1_pay6; rw [shapeCast_self]; exact negInf
theorem pay7_apply (y : S384x128.Idx) : k1_pay7 (F := Ideal) y = (0 : EReal) := by
  unfold k1_pay7; rw [shapeCast_self]; exact Ideal.ofBits_zero_f32
theorem pay4_apply (y : S384x128.Idx) : k1_pay4 (F := Ideal) y = (0 : EReal) := by
  unfold k1_pay4; rw [shapeCast_self]; exact Ideal.ofBits_zero_f32

/-- The log-sum-exp of a row from its lanes' maxima and sums. -/
theorem pay1_apply (m s : Vec Ideal S384x128 .f32) (r : Fin 384) (l : Fin 128) :
    k1_pay1 m s m (ix2 r l) = (Finset.univ : Finset (Fin 128)).sup (fun l => m (ix2 r l))
      + Ideal.log (∑ l : Fin 128, s (ix2 r l) * Ideal.exp (m (ix2 r l) - (Finset.univ : Finset (Fin 128)).sup (fun l => m (ix2 r l)))) := by
  pointwise [k1_pay1]
  rw [negInf]; rfl

theorem pay2_apply (m s : Vec Ideal S384x128 .f32) (y : S384x128.Idx) : k1_pay2 m s m y = k1_pay1 m s m y := by
  unfold k1_pay2; rw [shapeCast_self]

theorem pay3_apply (m s : Vec Ideal S384x128 .f32) (r : Fin 384) : k1_pay3 m s m (ix3 0 0 r) = k1_pay1 m s m (ix2 r 0) := by
  unfold k1_pay3; pointwise

theorem pay24_apply (lse : Vec Ideal S384x128 .f32) (a : Vec Ideal S1x384x128 .f32) (r : Fin 384) (l : Fin 128) :
    k1_pay24 lse a (ix2 r l) = max (a (ix3 0 r l) - lse (ix2 r l)) floorC := by
  pointwise [k1_pay24]

theorem pay25_apply (lse : Vec Ideal S384x128 .f32) (a : Vec Ideal S1x384x128 .f32) (r : Fin 384) (l : Fin 128) :
    k1_pay25 lse a (ix2 r l) = max (a (ix3 0 r l) - lse (ix2 r l)) floorC := pay24_apply lse a r l

theorem pay27_apply (lse : Vec Ideal S384x128 .f32) (a : Vec Ideal S1x384x128 .f32) (r : Fin 384) (l : Fin 128) :
    k1_pay27 lse a (ix2 r l) = max (a (ix3 0 r l) - lse (ix2 r l)) floorC := pay24_apply lse a r l

/-- The rounding error of a log probability `c` stored as a code: over the extended reals, that of an exact store. -/
def errOf (c : EReal) : EReal := max (Ideal.exp c - Ideal.exp c) (-(Ideal.exp c - Ideal.exp c))

theorem pay28_apply (lse er : Vec Ideal S384x128 .f32) (a b : Vec Ideal S1x384x128 .f32) (r : Fin 384) (l : Fin 128) :
    k1_pay28 lse er a b (ix2 r l) = max (max (er (ix2 r l)) (errOf (max (a (ix3 0 r l) - lse (ix2 r l)) floorC))) (errOf (max (b (ix3 0 r l) - lse (ix2 r l)) floorC)) := by
  rw [← pay24_apply lse a r l, ← pay24_apply lse b r l]
  unfold k1_pay28; rw [shapeCast_self]; rfl

theorem pay29_apply (er : Vec Ideal S384x128 .f32) (r : Fin 384) : k1_pay29 er (ix3 0 0 r) = (Finset.univ : Finset (Fin 128)).sup (fun l => er (ix2 r l)) := by
  pointwise [k1_pay29]
  rw [negInf]; rfl

end Cert.KernelIdeal.Val

end
-- ==== Proof.ValueState.lean ====
/- What the scratch buffers of the logits call hold before each grid point, given the logits `z i r v` of row `r` of row
   block `i` at vocabulary entry `v`: the blocks of logits already computed, the running maxima and sums of each lane, the
   log-sum-exp of the row block before and its running rounding error. -/
module

public import proofs.«01_k».proof.Proof.IdealLogitsStep
public import proofs.«01_k».proof.Proof.ValuePayloads
public import Idealize.ShloMosaic.Lib.Pipeline.ValueKit
public import Idealize.ShloMosaic.Lib.WritesUnit

@[expose] public section

set_option maxRecDepth 16384

noncomputable section

namespace Cert.KernelIdeal.Val

open Cert.KernelIdeal Cert.KernelIdeal.Gen Cert.Lse Idealize.ShloMosaic

/-- One half of a block of logits, read. -/
theorem slab_apply (L : Vec Ideal S125x384x256 .f32) (j : Fin 125) (o : Fin 2) (r : Fin 384) (l : Fin 128) (q : Fin 256) (hq : q.val = 128 * o.val + l.val) :
    slab L j o (ix3 0 r l) = L (ix3 j r q) := by
  unfold slab
  exact View.ld_unit_apply_of L _ _ _ _ _ (fun a => by
    match a with
    | ⟨0, _⟩ => show j.val = j.val + 0; omega
    | ⟨1, _⟩ => show r.val = 0 + r.val; omega
    | ⟨2, _⟩ => show q.val = 128 * o.val + l.val; exact hq)

/-- A store of half a block, at an element it writes. -/
theorem put_in (L : Vec Ideal S125x384x256 .f32) (j : Fin 125) (o : Fin 2) (a : Vec Ideal S1x384x128 .f32) (r : Fin 384) (l : Fin 128) (q : Fin 256)
    (hq : q.val = 128 * o.val + l.val) : VecWindow.put L ![j.val, 0, 128 * o.val] S1x384x128.size a (ix3 j r q) = a (ix3 0 r l) := by
  have hl := l.isLt
  have hr := r.isLt
  unfold VecWindow.put
  rw [dif_pos (fun b => by
    match b with
    | ⟨0, _⟩ => show j.val ≤ j.val ∧ j.val < j.val + 1; omega
    | ⟨1, _⟩ => show 0 ≤ r.val ∧ r.val < 0 + 384; omega
    | ⟨2, _⟩ => show 128 * o.val ≤ q.val ∧ q.val < 128 * o.val + 128; omega)]
  refine congrArg a (funext fun b => Fin.ext ?_)
  match b with
  | ⟨0, _⟩ => show j.val - j.val = 0; omega
  | ⟨1, _⟩ => show r.val - 0 = r.val; omega
  | ⟨2, _⟩ => show q.val - 128 * o.val = l.val; omega

/-- A store of half a block, at an element it does not write. -/
theorem put_out (L : Vec Ideal S125x384x256 .f32) (j j' : Fin 125) (o : Fin 2) (a : Vec Ideal S1x384x128 .f32) (r : Fin 384) (q : Fin 256)
    (h : j' ≠ j ∨ q.val < 128 * o.val ∨ 128 * o.val + 128 ≤ q.val) :
    VecWindow.put L ![j.val, 0, 128 * o.val] S1x384x128.size a (ix3 j' r q) = L (ix3 j' r q) := by
  unfold VecWindow.put
  rw [dif_neg (fun hh => by
    have h0 : j.val ≤ j'.val ∧ j'.val < j.val + 1 := hh 0
    have h2 : 128 * o.val ≤ q.val ∧ q.val < 128 * o.val + 128 := hh 2
    rcases h with h | h | h
    · exact h (Fin.ext (by omega))
    · omega
    · omega)]

theorem updSlab_other (L : Vec Ideal S125x384x256 .f32) (j j' : Fin 125) (a b : Vec Ideal S1x384x128 .f32) (r : Fin 384) (q : Fin 256) (h : j' ≠ j) :
    updSlab L j a b (ix3 j' r q) = L (ix3 j' r q) := by
  unfold updSlab; rw [put_out _ _ _ _ _ _ _ (Or.inl h), put_out _ _ _ _ _ _ _ (Or.inl h)]

theorem updSlab_lo (L : Vec Ideal S125x384x256 .f32) (j : Fin 125) (a b : Vec Ideal S1x384x128 .f32) (r : Fin 384) (q : Fin 256) (l : Fin 128) (h : q.val = l.val) :
    updSlab L j a b (ix3 j r q) = a (ix3 0 r l) := by
  have hl := l.isLt
  unfold updSlab
  rw [put_out _ _ _ _ _ _ _ (Or.inr (Or.inl (by show q.val < 128 * 1; omega))), put_in _ _ _ _ _ l _ (by show q.val = 128 * 0 + l.val; omega)]

theorem updSlab_hi (L : Vec Ideal S125x384x256 .f32) (j : Fin 125) (a b : Vec Ideal S1x384x128 .f32) (r : Fin 384) (q : Fin 256) (l : Fin 128) (h : q.val = 128 + l.val) :
    updSlab L j a b (ix3 j r q) = b (ix3 0 r l) := by
  unfold updSlab
  rw [put_in _ _ _ _ _ l _ (by show q.val = 128 * 1 + l.val; omega)]

/-- Lane `l` of a row: entries `128 k + l`. -/
def lane (z : ℕ → EReal) (l : Fin 128) : ℕ → EReal := fun k => z (128 * k + l.val)

/-- The code of one entry, before it is stored: its log probability, bounded below. -/
def codeOf (z : ℕ → EReal) (v : ℕ) : EReal := max (z v - lse z) floorC

/-- The error of one entry's code. -/
def rowErr (z : ℕ → EReal) (v : ℕ) : EReal := errOf (codeOf z v)

variable (z : ℕ → Fin 384 → ℕ → EReal) (xbV : ℕ → Vec Ideal S384x5120 .bf16) (scV : ℕ → Vec Ideal S384x128 .f32)

/-- The buffers before point `(i, j)`. -/
structure Inv (i j : ℕ) (st : LSt Ideal) : Prop where
  new : ∀ (j' : Fin 125) (r : Fin 384) (q : Fin 256), j'.val < j → i < 16 → st.L (ix3 j' r q) = z i r (256 * j'.val + q.val)
  old : ∀ (j' : Fin 125) (r : Fin 384) (q : Fin 256), 1 ≤ i → (j ≤ j'.val ∨ 16 ≤ i) → st.L (ix3 j' r q) = z (i - 1) r (256 * j'.val + q.val)
  ins : 1 ≤ j → i < 16 → st.xb = xbV i ∧ st.sc = scV i
  run : 1 ≤ j → i < 16 → ∀ (r : Fin 384) (l : Fin 128), st.mx (ix2 r l) = rmax (lane (z i r) l) (2 * j) ∧ st.sm (ix2 r l) = rsum (lane (z i r) l) (2 * j)
  full : j = 0 → 1 ≤ i → ∀ (r : Fin 384) (l : Fin 128), st.mx (ix2 r l) = rmax (lane (z (i - 1) r) l) 250 ∧ st.sm (ix2 r l) = rsum (lane (z (i - 1) r) l) 250
  out : 1 ≤ j → 1 ≤ i → ∀ (r : Fin 384) (l : Fin 128), st.lse (ix2 r l) = lse (z (i - 1) r) ∧ st.er (ix2 r l) = rerr (lane (rowErr (z (i - 1) r)) l) (2 * j)

/-- The buffers at point `(i, j)` once the row block before is closed and this one's inputs are loaded. -/
structure PInv (i j : ℕ) (st : LSt Ideal) : Prop where
  new : ∀ (j' : Fin 125) (r : Fin 384) (q : Fin 256), j'.val < j → i < 16 → st.L (ix3 j' r q) = z i r (256 * j'.val + q.val)
  old : ∀ (j' : Fin 125) (r : Fin 384) (q : Fin 256), 1 ≤ i → (j ≤ j'.val ∨ 16 ≤ i) → st.L (ix3 j' r q) = z (i - 1) r (256 * j'.val + q.val)
  ins : i < 16 → st.xb = xbV i ∧ st.sc = scV i
  run : i < 16 → ∀ (r : Fin 384) (l : Fin 128), st.mx (ix2 r l) = rmax (lane (z i r) l) (2 * j) ∧ st.sm (ix2 r l) = rsum (lane (z i r) l) (2 * j)
  out : 1 ≤ i → ∀ (r : Fin 384) (l : Fin 128), st.lse (ix2 r l) = lse (z (i - 1) r) ∧ st.er (ix2 r l) = rerr (lane (rowErr (z (i - 1) r)) l) (2 * j)

variable {z xbV scV}

/-- The log-sum-exp of a row block whose running maxima and sums are complete. -/
theorem lse_of_full {zr : ℕ → EReal} (m s : Vec Ideal S384x128 .f32) (r : Fin 384)
    (h : ∀ l : Fin 128, m (ix2 r l) = rmax (lane zr l) 250 ∧ s (ix2 r l) = rsum (lane zr l) 250) (l : Fin 128) : k1_pay1 m s m (ix2 r l) = lse zr := by
  rw [pay1_apply, show (fun l => m (ix2 r l)) = fun l => rmax (lane zr l) 250 from funext fun l => (h l).1]
  refine Eq.trans ?_ (lse_lanes zr _ rfl)
  refine congrArg₂ (· + ·) rfl (congrArg Ideal.log (Finset.sum_congr rfl fun l _ => ?_))
  rw [(h l).1, (h l).2]; rfl

theorem load_L (st : LSt Ideal) (x : Vec Ideal S384x5120 .fp8e4m3) (xs : Vec Ideal S1x1x384 .f32) : (st.load x xs).L = st.L := by dsimp only [LSt.load]
theorem fin_L (st : LSt Ideal) : st.fin.L = st.L := by dsimp only [LSt.fin]

theorem Inv.pre {i : Fin 17} {j : Fin 125} {st : LSt Ideal} (h : Inv z xbV scV i.val j.val st) (x : Vec Ideal S384x5120 .fp8e4m3) (xs : Vec Ideal S1x1x384 .f32)
    (hx : i.val < 16 → XB x = xbV i.val) (hs : i.val < 16 → k1_pay5 xs = scV i.val) : PInv z xbV scV i.val j.val (st.pre x xs i j) := by
  by_cases hj : j.val = 0
  · have hL : (st.pre x xs i j).L = st.L := by
      unfold LSt.pre
      rw [if_pos hj]
      by_cases h1 : i.val < 16
      · rw [if_pos h1, load_L]
        by_cases h2 : 0 < i.val
        · rw [if_pos h2, fin_L]
        · rw [if_neg h2]
      · rw [if_neg h1]
        by_cases h2 : 0 < i.val
        · rw [if_pos h2, fin_L]
        · rw [if_neg h2]
    refine ⟨fun j' r q h1 => by omega, fun j' r q h1 h2 => by rw [hL]; exact h.old j' r q h1 h2, fun hi => ?_, fun hi r l => ?_, fun hi r l => ?_⟩
    · unfold LSt.pre; rw [if_pos hj, if_pos hi]; exact ⟨hx hi, hs hi⟩
    · have e : (st.pre x xs i j).mx = k1_pay6 (F := Ideal) ∧ (st.pre x xs i j).sm = k1_pay7 (F := Ideal) := by
        unfold LSt.pre; rw [if_pos hj, if_pos hi]; exact ⟨rfl, rfl⟩
      rw [e.1, e.2, hj, Nat.mul_zero]
      show k1_pay6 (F := Ideal) (ix2 r l) = rmax _ 0 ∧ k1_pay7 (F := Ideal) (ix2 r l) = rsum _ 0
      rw [rmax_zero, rsum_zero]
      exact ⟨pay6_apply _, pay7_apply _⟩
    · have e : (st.pre x xs i j).lse = k1_pay2 st.mx st.sm st.mx ∧ (st.pre x xs i j).er = k1_pay4 (F := Ideal) := by
        unfold LSt.pre; rw [if_pos hj, if_pos (show 0 < i.val from hi)]; split_ifs <;> exact ⟨rfl, rfl⟩
      rw [e.1, e.2, hj]
      exact ⟨(pay2_apply _ _ _).trans (lse_of_full _ _ r (h.full hj hi r) l), by rw [Nat.mul_zero, rerr_zero]; exact pay4_apply _⟩
  · have e : st.pre x xs i j = st := by unfold LSt.pre; rw [if_neg hj]
    rw [e]
    exact ⟨h.new, h.old, h.ins (by omega), h.run (by omega), h.out (by omega)⟩

/-- The two halves of the block about to be rounded. -/
theorem PInv.halves {i : Fin 17} {j : Fin 125} {st : LSt Ideal} (h : PInv z xbV scV i.val j.val st) (hi : 1 ≤ i.val) (r : Fin 384) (l : Fin 128) :
    slab st.L j 0 (ix3 0 r l) = lane (z (i.val - 1) r) l (2 * j.val) ∧ slab st.L j 1 (ix3 0 r l) = lane (z (i.val - 1) r) l (2 * j.val + 1) := by
  have hl := l.isLt
  constructor
  · rw [slab_apply st.L j 0 r l ⟨l.val, by omega⟩ (by show l.val = 128 * 0 + l.val; omega), h.old j r _ hi (Or.inl (le_refl _))]
    exact congrArg (z (i.val - 1) r) (by show 256 * j.val + l.val = 128 * (2 * j.val) + l.val; omega)
  · rw [slab_apply st.L j 1 r l ⟨128 + l.val, by omega⟩ (by show 128 + l.val = 128 * 1 + l.val; omega), h.old j r _ hi (Or.inl (le_refl _))]
    exact congrArg (z (i.val - 1) r) (by show 256 * j.val + (128 + l.val) = 128 * (2 * j.val + 1) + l.val; omega)

/-- The error after the block is rounded. -/
theorem PInv.emit_er {i : Fin 17} {j : Fin 125} {st : LSt Ideal} (h : PInv z xbV scV i.val j.val st) (hi : 1 ≤ i.val) (r : Fin 384) (l : Fin 128) :
    (st.emit j).er (ix2 r l) = rerr (lane (rowErr (z (i.val - 1) r)) l) (2 * (j.val + 1)) := by
  show k1_pay28 st.lse st.er (slab st.L j 0) (slab st.L j 1) (ix2 r l) = _
  rw [pay28_apply, (h.halves hi r l).1, (h.halves hi r l).2, (h.out hi r l).1, (h.out hi r l).2, show 2 * (j.val + 1) = 2 * j.val + 2 by omega, rerr_two]
  rfl

variable {w : Vec Ideal S256x5120 .bf16}

theorem Inv.post {i : Fin 17} {j : Fin 125} {st : LSt Ideal} (h0 : Inv z xbV scV i.val j.val st) (x : Vec Ideal S384x5120 .fp8e4m3) (xs : Vec Ideal S1x1x384 .f32)
    (hx : i.val < 16 → XB x = xbV i.val) (hs : i.val < 16 → k1_pay5 xs = scV i.val)
    (h9 : i.val < 16 → ∀ (r : Fin 384) (l : Fin 128), k1_pay9 (xbV i.val) w (scV i.val) (ix2 r l) = z i.val r (256 * j.val + l.val))
    (h10 : i.val < 16 → ∀ (r : Fin 384) (l : Fin 128), k1_pay10 (xbV i.val) w (scV i.val) (ix2 r l) = z i.val r (256 * j.val + (128 + l.val))) :
    (j.val < 124 → Inv z xbV scV i.val (j.val + 1) (st.post x xs w i j)) ∧ (j.val = 124 → i.val < 16 → Inv z xbV scV (i.val + 1) 0 (st.post x xs w i j)) := by
  have h := h0.pre x xs hx hs
  have hj := j.isLt
  -- the rounding leaves all but the error alone
  have hm : ∃ p : LSt Ideal, PInv z xbV scV i.val j.val { p with er := (st.pre x xs i j).er } ∧ st.mid x xs i j = p
      ∧ (1 ≤ i.val → ∀ (r : Fin 384) (l : Fin 128), p.lse (ix2 r l) = lse (z (i.val - 1) r) ∧ p.er (ix2 r l) = rerr (lane (rowErr (z (i.val - 1) r)) l) (2 * (j.val + 1))) := by
    refine ⟨_, ?_, rfl, fun hi r l => ?_⟩
    · unfold LSt.mid; split_ifs
      · exact h
      · exact h
    · unfold LSt.mid; rw [if_pos (show 0 < i.val from hi)]
      exact ⟨(h.out hi r l).1, h.emit_er hi r l⟩
  obtain ⟨p, hp, hmid, hout⟩ := hm
  by_cases hi : i.val < 16
  · have e : st.post x xs w i j = p.produce w j := by unfold LSt.post; rw [if_pos hi, hmid]
    have hxb : p.xb = xbV i.val := (hp.ins hi).1
    have hsc : p.sc = scV i.val := (hp.ins hi).2
    have hL1 : ∀ (j' : Fin 125) (r : Fin 384) (q : Fin 256), j'.val < j.val + 1 → (p.produce w j).L (ix3 j' r q) = z i.val r (256 * j'.val + q.val) := by
      intro j' r q hlt
      show updSlab p.L j _ _ _ = _
      by_cases hjj : j' = j
      · subst hjj
        by_cases hq : q.val < 128
        · rw [updSlab_lo _ _ _ _ _ q ⟨q.val, hq⟩ rfl, pay12_apply, hxb, hsc, h9 hi]
        · rw [updSlab_hi _ _ _ _ _ q ⟨q.val - 128, by omega⟩ (by show q.val = 128 + (q.val - 128); omega), pay13_apply, hxb, hsc, h10 hi]
          exact congrArg (z i.val r) (by show 256 * j'.val + (128 + (q.val - 128)) = _; omega)
      · rw [updSlab_other _ _ _ _ _ _ _ hjj]
        exact hp.new j' r q (by have : j'.val ≠ j.val := fun hh => hjj (Fin.ext hh); omega) hi
    have hrun : ∀ (r : Fin 384) (l : Fin 128), (p.produce w j).mx (ix2 r l) = rmax (lane (z i.val r) l) (2 * (j.val + 1))
        ∧ (p.produce w j).sm (ix2 r l) = rsum (lane (z i.val r) l) (2 * (j.val + 1)) := by
      intro r l
      have a9 : k1_pay9 p.xb w p.sc (ix2 r l) = lane (z i.val r) l (2 * j.val) := by
        rw [hxb, hsc, h9 hi]; exact congrArg (z i.val r) (by show _ = 128 * (2 * j.val) + l.val; omega)
      have a10 : k1_pay10 p.xb w p.sc (ix2 r l) = lane (z i.val r) l (2 * j.val + 1) := by
        rw [hxb, hsc, h10 hi]; exact congrArg (z i.val r) (by show _ = 128 * (2 * j.val + 1) + l.val; omega)
      have am : k1_pay14 p.xb w p.sc p.mx (ix2 r l) = rmax (lane (z i.val r) l) (2 * j.val + 2) := by
        rw [pay14_apply, a9, a10, show p.mx (ix2 r l) = _ from (hp.run hi r l).1, rmax_two]
      refine ⟨am, ?_⟩
      show k1_pay15 p.xb w p.sc p.mx p.sm (ix2 r l) = _
      rw [pay15_apply, am, a9, a10, show p.mx (ix2 r l) = _ from (hp.run hi r l).1, show p.sm (ix2 r l) = _ from (hp.run hi r l).2,
        show 2 * (j.val + 1) = 2 * j.val + 2 by omega, rsum_two]
    rw [e]
    refine ⟨fun hj' => ⟨fun j' r q h1 _ => hL1 j' r q h1, fun j' r q h1 h2 => ?_, fun _ _ => ⟨hxb, hsc⟩, fun _ _ r l => hrun r l, fun hh => by omega, fun _ h1 r l => hout h1 r l⟩,
      fun hj' _ => ⟨fun j' r q h1 => by omega, fun j' r q _ _ => hL1 j' r q (by omega), fun hh => by omega, fun hh => by omega, fun _ _ r l => ?_, fun hh => by omega⟩⟩
    · show updSlab p.L j _ _ _ = _
      rw [updSlab_other _ _ _ _ _ _ _ (fun hh => by rw [hh] at h2; omega)]
      exact hp.old j' r q h1 (by omega)
    · have := hrun r l
      rw [hj'] at this
      exact this
  · have e : st.post x xs w i j = p := by unfold LSt.post; rw [if_neg hi, hmid]
    rw [e]
    exact ⟨fun hj' => ⟨fun j' r q _ h1 => absurd h1 hi, fun j' r q h1 _ => hp.old j' r q h1 (Or.inr (by omega)), fun _ h1 => absurd h1 hi, fun _ h1 => absurd h1 hi,
      fun hh => by omega, fun _ h1 r l => hout h1 r l⟩, fun _ h1 => absurd h1 hi⟩

end Cert.KernelIdeal.Val

end
-- ==== Proof.ValueX.lean ====
/- The activations as the logits call lays them out in bf16: column `256 g + 128 t + l` holds 64 times activation
   `256 g + 2 l + t`. -/
module

public import proofs.«01_k».proof.Proof.IdealLoadX
public import proofs.«01_k».proof.Proof.ValueWords
public import Idealize.ShloMosaic.Lib.Pipeline.ValueKit

@[expose] public section

set_option maxRecDepth 16384

noncomputable section

namespace Cert.KernelIdeal.Val

open Cert.KernelIdeal Cert.KernelIdeal.Gen Idealize.ShloMosaic

/-- The lane index before it is reshaped there and back. -/
def gLane (t : BitVec 32) : IVec S384x128 32 :=
  select (cmpi .slt (addi k1_pay30 (broadcast S384x128 t)) (broadcast S384x128 0#32))
      (addi (addi k1_pay30 (broadcast S384x128 t)) (broadcast S384x128 128#32))
      (addi k1_pay30 (broadcast S384x128 t))

theorem gIdx_eq (t : BitVec 32) : gIdx t = gLane t := shapeCast_shapeCast _ _ _

theorem gLane_row (t : BitVec 32) (r : Fin 384) (l : Fin 128) : gLane t (ix2 r l) = gLane t (ix2 0 l) := rfl

theorem gLane_val : ∀ (t : Fin 2) (l : Fin 128), (gLane (BitVec.ofNat 32 t.val) (ix2 0 l)).toNat % 128 = (2 * l.val + t.val) % 128 := by
  decide +kernel

theorem low_row (r : Fin 384) (l : Fin 128) : k1_pay31 (ix2 r l) = k1_pay31 (ix2 0 l) := rfl
theorem low_val : ∀ l : Fin 128, k1_pay31 (ix2 0 l) = if l.val < 64 then 1#1 else 0#1 := by decide +kernel

theorem gather_lane (x : FVec Ideal S384x128 .f32) (t : ℕ) (ht : t < 2) (r : Fin 384) (l l' : Fin 128) (hl : l'.val = (2 * l.val + t) % 128) :
    dynamicGather 1 x (gIdx (BitVec.ofNat 32 t)) (ix2 r l) = x (ix2 r l') := by
  rw [gIdx_eq]
  unfold dynamicGather
  refine congrArg x (funext fun b => ?_)
  match b with
  | ⟨0, _⟩ => rfl
  | ⟨1, _⟩ => exact Fin.ext ((congrArg (fun v : BitVec 32 => v.toNat % 128) (gLane_row _ _ l)).trans ((gLane_val ⟨t, ht⟩ l).trans hl.symm))

/-- The power of two that the activations carry. -/
abbrev shiftC : EReal := Ideal.ofBits .bf16 0x4280#16

theorem xTile_apply (t : ℕ) (ht : t < 2) (a b : Vec Ideal S384x128 .fp8e4m3) (r : Fin 384) (l l' : Fin 128) (hl : l'.val = (2 * l.val + t) % 128) :
    xTile (BitVec.ofNat 32 t) a b (ix2 r l) = (if l.val < 64 then a (ix2 r l') else b (ix2 r l')) * shiftC := by
  unfold xTile
  rw [shapeCast_self, shapeCast_self, shapeCast_self]
  show (Scalar.select (k1_pay31 (ix2 r l)) (dynamicGather 1 (fun y => a y : FVec Ideal S384x128 .f32) _ (ix2 r l)) (dynamicGather 1 (fun y => b y : FVec Ideal S384x128 .f32) _ (ix2 r l)) : EReal) * shiftC = _
  rw [gather_lane _ t ht r l l' hl, gather_lane _ t ht r l l' hl, low_row, low_val]
  by_cases h : l.val < 64
  · rw [if_pos h, if_pos h]; rfl
  · rw [if_neg h, if_neg h]; rfl

/-- One element of the layout. -/
def xbElem (x : S384x5120.Idx → EReal) (y : S384x5120.Idx) : EReal :=
  have hq : (y 1).val < 5120 := (y 1).isLt
  x (ix2 (y 0) ⟨(y 1).val / 256 * 256 + 2 * ((y 1).val % 128) + (y 1).val / 128 % 2, by omega⟩) * shiftC

theorem tile_x (x : Vec Ideal S384x5120 .fp8e4m3) (g t oa ob oo : ℕ) (tw : BitVec 32) (hg : g < 20) (ht : t < 2) (htw : tw = BitVec.ofNat 32 t)
    (ha : oa = 256 * g) (hb : ob = 256 * g + 128) (ho : oo = 256 * g + 128 * t)
    (ia : ∀ a, (![0, oa] : Fin 2 → ℕ) a + S384x128.size a ≤ S384x5120.size a) (ib : ∀ a, (![0, ob] : Fin 2 → ℕ) a + S384x128.size a ≤ S384x5120.size a)
    (io : ∀ a, (![0, oo] : Fin 2 → ℕ) a + S384x128.size a ≤ S384x5120.size a) (y : S384x128.Idx) :
    xTile tw (View.ld x (Rect.unit ![0, oa] S384x128.size ia)) (View.ld x (Rect.unit ![0, ob] S384x128.size ib)) y
      = xbElem x ((Rect.unit (s := S384x5120) ![0, oo] S384x128.size io).emb y) := by
  obtain ⟨r, l, rfl⟩ : ∃ (r : Fin 384) (l : Fin 128), y = ix2 r l := ⟨y 0, y 1, eq_ix2 y⟩
  have hl := l.isLt
  subst htw
  rw [xTile_apply t ht _ _ r l ⟨(2 * l.val + t) % 128, by omega⟩ rfl]
  have hy : ((Rect.unit (s := S384x5120) ![0, oo] S384x128.size io).emb (ix2 r l)) = (ix2 r ⟨oo + l.val, by omega⟩ : S384x5120.Idx) := by
    funext a
    match a with
    | ⟨0, _⟩ => exact Fin.ext (by show 0 + 1 * r.val = r.val; omega)
    | ⟨1, _⟩ => exact Fin.ext (by show oo + 1 * l.val = oo + l.val; omega)
  rw [hy]
  have h1 : (oo + l.val) / 256 = g := by subst ho; omega
  have h2 : (oo + l.val) % 128 = l.val := by subst ho; omega
  have h3 : (oo + l.val) / 128 = 2 * g + t := by subst ho; omega
  have h4 : (2 * g + t) % 2 = t := by omega
  unfold xbElem
  congr 1
  by_cases h : l.val < 64
  · rw [if_pos h]
    exact View.ld_unit_apply_of x _ _ ia _ _ (fun a => by
      match a with
      | ⟨0, _⟩ => show r.val = 0 + r.val; omega
      | ⟨1, _⟩ => show (oo + l.val) / 256 * 256 + 2 * ((oo + l.val) % 128) + (oo + l.val) / 128 % 2 = _; rw [h1, h2, h3, h4]; show _ = oa + (2 * l.val + t) % 128; omega)
  · rw [if_neg h]
    exact View.ld_unit_apply_of x _ _ ib _ _ (fun a => by
      match a with
      | ⟨0, _⟩ => show r.val = 0 + r.val; omega
      | ⟨1, _⟩ => show (oo + l.val) / 256 * 256 + 2 * ((oo + l.val) % 128) + (oo + l.val) / 128 % 2 = _; rw [h1, h2, h3, h4]; show _ = ob + (2 * l.val + t) % 128; omega)

/-- The whole layout. -/
theorem XB_apply (x : Vec Ideal S384x5120 .fp8e4m3) (y : S384x5120.Idx) : XB (F := Ideal) x y = xbElem x y := by
  unfold XB
  refine View.canon_apply_of_pieces (Val := Elt Ideal) (e := .bf16) (xbElem x) (xTiles x) ?_ y (xTiles_cover x y)
  simp only [xTiles, List.forall_mem_cons]
  exact ⟨tile_x x 19 1 _ _ _ _ (by decide) (by decide) rfl rfl rfl rfl _ _ _,
    tile_x x 19 0 _ _ _ _ (by decide) (by decide) rfl rfl rfl rfl _ _ _,
    tile_x x 18 1 _ _ _ _ (by decide) (by decide) rfl rfl rfl rfl _ _ _,
    tile_x x 18 0 _ _ _ _ (by decide) (by decide) rfl rfl rfl rfl _ _ _,
    tile_x x 17 1 _ _ _ _ (by decide) (by decide) rfl rfl rfl rfl _ _ _,
    tile_x x 17 0 _ _ _ _ (by decide) (by decide) rfl rfl rfl rfl _ _ _,
    tile_x x 16 1 _ _ _ _ (by decide) (by decide) rfl rfl rfl rfl _ _ _,
    tile_x x 16 0 _ _ _ _ (by decide) (by decide) rfl rfl rfl rfl _ _ _,
    tile_x x 15 1 _ _ _ _ (by decide) (by decide) rfl rfl rfl rfl _ _ _,
    tile_x x 15 0 _ _ _ _ (by decide) (by decide) rfl rfl rfl rfl _ _ _,
    tile_x x 14 1 _ _ _ _ (by decide) (by decide) rfl rfl rfl rfl _ _ _,
    tile_x x 14 0 _ _ _ _ (by decide) (by decide) rfl rfl rfl rfl _ _ _,
    tile_x x 13 1 _ _ _ _ (by decide) (by decide) rfl rfl rfl rfl _ _ _,
    tile_x x 13 0 _ _ _ _ (by decide) (by decide) rfl rfl rfl rfl _ _ _,
    tile_x x 12 1 _ _ _ _ (by decide) (by decide) rfl rfl rfl rfl _ _ _,
    tile_x x 12 0 _ _ _ _ (by decide) (by decide) rfl rfl rfl rfl _ _ _,
    tile_x x 11 1 _ _ _ _ (by decide) (by decide) rfl rfl rfl rfl _ _ _,
    tile_x x 11 0 _ _ _ _ (by decide) (by decide) rfl rfl rfl rfl _ _ _,
    tile_x x 10 1 _ _ _ _ (by decide) (by decide) rfl rfl rfl rfl _ _ _,
    tile_x x 10 0 _ _ _ _ (by decide) (by decide) rfl rfl rfl rfl _ _ _,
    tile_x x 9 1 _ _ _ _ (by decide) (by decide) rfl rfl rfl rfl _ _ _,
    tile_x x 9 0 _ _ _ _ (by decide) (by decide) rfl rfl rfl rfl _ _ _,
    tile_x x 8 1 _ _ _ _ (by decide) (by decide) rfl rfl rfl rfl _ _ _,
    tile_x x 8 0 _ _ _ _ (by decide) (by decide) rfl rfl rfl rfl _ _ _,
    tile_x x 7 1 _ _ _ _ (by decide) (by decide) rfl rfl rfl rfl _ _ _,
    tile_x x 7 0 _ _ _ _ (by decide) (by decide) rfl rfl rfl rfl _ _ _,
    tile_x x 6 1 _ _ _ _ (by decide) (by decide) rfl rfl rfl rfl _ _ _,
    tile_x x 6 0 _ _ _ _ (by decide) (by decide) rfl rfl rfl rfl _ _ _,
    tile_x x 5 1 _ _ _ _ (by decide) (by decide) rfl rfl rfl rfl _ _ _,
    tile_x x 5 0 _ _ _ _ (by decide) (by decide) rfl rfl rfl rfl _ _ _,
    tile_x x 4 1 _ _ _ _ (by decide) (by decide) rfl rfl rfl rfl _ _ _,
    tile_x x 4 0 _ _ _ _ (by decide) (by decide) rfl rfl rfl rfl _ _ _,
    tile_x x 3 1 _ _ _ _ (by decide) (by decide) rfl rfl rfl rfl _ _ _,
    tile_x x 3 0 _ _ _ _ (by decide) (by decide) rfl rfl rfl rfl _ _ _,
    tile_x x 2 1 _ _ _ _ (by decide) (by decide) rfl rfl rfl rfl _ _ _,
    tile_x x 2 0 _ _ _ _ (by decide) (by decide) rfl rfl rfl rfl _ _ _,
    tile_x x 1 1 _ _ _ _ (by decide) (by decide) rfl rfl rfl rfl _ _ _,
    tile_x x 1 0 _ _ _ _ (by decide) (by decide) rfl rfl rfl rfl _ _ _,
    tile_x x 0 1 _ _ _ _ (by decide) (by decide) rfl rfl rfl rfl _ _ _,
    tile_x x 0 0 _ _ _ _ (by decide) (by decide) rfl rfl rfl rfl _ _ _, fun _ h => absurd h (List.not_mem_nil)⟩

end Cert.KernelIdeal.Val

end
-- ==== Proof.ValueArr1.lean ====
/- The three result arrays of the logits call, an element at a time, from the arrays it reads: activations `a`, their scales
   `s` and decoded weights `w`. -/
module

public import proofs.«01_k».proof.Proof.ValueState
public import proofs.«01_k».proof.Proof.ValueX
public import proofs.«01_k».proof.Proof.IdealLogitsRegion
public import Idealize.ShloMosaic.Lib.Pipeline.ValueKit
public import Idealize.ShloMosaic.Lib.Pipeline.Covers

@[expose] public section

set_option maxRecDepth 16384

noncomputable section

namespace Cert.KernelIdeal.Val

open Cert.KernelIdeal Cert.KernelIdeal.Gen Cert.Lse Idealize.ShloMosaic Idealize.ShloMosaic.TcCoe

section Logits
variable (a : S6144x5120.Idx → EReal) (s : S16x1x384.Idx → EReal) (w : S32000x5120.Idx → EReal)

/-- Row block `i` of the activations, laid out. -/
def xbV (i : ℕ) : Vec Ideal S384x5120 .bf16 := fun y =>
  have h0 : (y 0).val < 384 := (y 0).isLt
  have h1 : (y 1).val < 5120 := (y 1).isLt
  a (ix2 ⟨384 * min i 15 + (y 0).val, by omega⟩ ⟨(y 1).val / 256 * 256 + 2 * ((y 1).val % 128) + (y 1).val / 128 % 2, by omega⟩) * shiftC

/-- Row block `i`'s scales. -/
def scV (i : ℕ) : Vec Ideal S384x128 .f32 := fun y => s (ix3 ⟨min i 15, by omega⟩ 0 (y 0))

/-- The logit of row `r` of row block `i` at entry `v`. -/
def logit (i : ℕ) (r : Fin 384) (v : ℕ) : EReal :=
  (∑ k : Fin 5120, xbV a i (ix2 r k) * w (ix2 ⟨v % 32000, by omega⟩ k)) * s (ix3 ⟨min i 15, by omega⟩ 0 r)

/-- The codes. -/
def codesArr (y : S6144x32000.Idx) : EReal :=
  have h0 : (y 0).val < 6144 := (y 0).isLt
  codeOf (logit a s w ((y 0).val / 384) ⟨(y 0).val % 384, by omega⟩) (y 1).val
/-- The log-sum-exps. -/
def lseArr (y : S16x1x384.Idx) : EReal := lse (logit a s w (y 0).val (y 2))
/-- The largest rounding errors. -/
def errArr (y : S16x1x384.Idx) : EReal := (Finset.univ : Finset (Fin 32000)).sup fun v => rowErr (logit a s w (y 0).val (y 2)) v.val

end Logits

/-- One block of codes, an element at a time. -/
theorem codes_apply {z : ℕ → Fin 384 → ℕ → EReal} {xbV : ℕ → Vec Ideal S384x5120 .bf16} {scV : ℕ → Vec Ideal S384x128 .f32} {i : Fin 17} {j : Fin 125} {st : LSt Ideal}
    (h : PInv z xbV scV i.val j.val st) (hi : 1 ≤ i.val) (y : S384x256.Idx) :
    LSt.codes j st y = codeOf (z (i.val - 1) (y 0)) (256 * j.val + (y 1).val) := by
  unfold LSt.codes
  refine View.canon_apply_of_pieces (Val := Elt Ideal) (e := .fp8e5m2) (fun y : S384x256.Idx => codeOf (z (i.val - 1) (y 0)) (256 * j.val + (y 1).val)) _ ?_ y
    (LSt.two_tiles (F := Ideal) _ _ y)
  simp only [List.forall_mem_cons]
  refine ⟨fun y => ?_, fun y => ?_, fun _ h => absurd h (List.not_mem_nil)⟩
  · obtain ⟨r, l, rfl⟩ : ∃ (r : Fin 384) (l : Fin 128), y = ix2 r l := ⟨y 0, y 1, eq_ix2 y⟩
    have hy : ((Rect.unit (s := S384x256) ![0, 128] S384x128.size inb_S384x256_S384x128_0_128).emb (ix2 r l)) = (ix2 r ⟨128 + l.val, by omega⟩ : S384x256.Idx) := by
      funext a
      match a with
      | ⟨0, _⟩ => exact Fin.ext (by show 0 + 1 * r.val = r.val; omega)
      | ⟨1, _⟩ => exact Fin.ext (by show 128 + 1 * l.val = 128 + l.val; omega)
    show k1_pay27 st.lse (slab st.L j 1) (ix2 r l) = _
    rw [hy, pay27_apply, (h.halves hi r l).2, (h.out hi r l).1]
    show codeOf (z (i.val - 1) r) (128 * (2 * j.val + 1) + l.val) = codeOf (z (i.val - 1) r) (256 * j.val + (128 + l.val))
    congr 1; omega
  · obtain ⟨r, l, rfl⟩ : ∃ (r : Fin 384) (l : Fin 128), y = ix2 r l := ⟨y 0, y 1, eq_ix2 y⟩
    have hy : ((Rect.unit (s := S384x256) ![0, 0] S384x128.size inb_S384x256_S384x128_0_0).emb (ix2 r l)) = (ix2 r ⟨l.val, by omega⟩ : S384x256.Idx) := by
      funext a
      match a with
      | ⟨0, _⟩ => exact Fin.ext (by show 0 + 1 * r.val = r.val; omega)
      | ⟨1, _⟩ => exact Fin.ext (by show 0 + 1 * l.val = l.val; omega)
    show k1_pay25 st.lse (slab st.L j 0) (ix2 r l) = _
    rw [hy, pay25_apply, (h.halves hi r l).1, (h.out hi r l).1]
    show codeOf (z (i.val - 1) r) (128 * (2 * j.val) + l.val) = codeOf (z (i.val - 1) r) (256 * j.val + l.val)
    congr 1; omega

variable (V : (c : Dev nD) → (b : Ref sig .tc) → Buf (Elt Ideal) ((c : Thread nD τ).loc b))

theorem idx1_0 (t : Fin cfg1.N) : (cfg1.win 0).index t = ![min (t.val / 125) 15, 0] :=
  (by decide +kernel : ∀ t : Fin cfg1.N, (cfg1.win 0).index t = ![min (t.val / 125) 15, 0]) t
theorem idx1_1 (t : Fin cfg1.N) : (cfg1.win 1).index t = ![min (t.val / 125) 15, 0, 0] :=
  (by decide +kernel : ∀ t : Fin cfg1.N, (cfg1.win 1).index t = ![min (t.val / 125) 15, 0, 0]) t
theorem idx1_2 (t : Fin cfg1.N) : (cfg1.win 2).index t = ![if 16 ≤ t.val / 125 then 124 else t.val % 125, 0] :=
  (by decide +kernel : ∀ t : Fin cfg1.N, (cfg1.win 2).index t = ![if 16 ≤ t.val / 125 then 124 else t.val % 125, 0]) t
theorem idx1_3 (t : Fin cfg1.N) : (cfg1.win 3).index t = ![t.val / 125 - 1, if t.val / 125 = 0 then 0 else t.val % 125] :=
  (by decide +kernel : ∀ t : Fin cfg1.N, (cfg1.win 3).index t = ![t.val / 125 - 1, if t.val / 125 = 0 then 0 else t.val % 125]) t
theorem idx1_4 (t : Fin cfg1.N) : (cfg1.win 4).index t = ![t.val / 125 - 1, 0, 0] :=
  (by decide +kernel : ∀ t : Fin cfg1.N, (cfg1.win 4).index t = ![t.val / 125 - 1, 0, 0]) t
theorem idx1_5 (t : Fin cfg1.N) : (cfg1.win 5).index t = ![t.val / 125 - 1, 0, 0] :=
  (by decide +kernel : ∀ t : Fin cfg1.N, (cfg1.win 5).index t = ![t.val / 125 - 1, 0, 0]) t

theorem blk1_0 (c : Dev nD) (t : Fin cfg1.N) (r : Fin 384) (k : Fin 5120) (R : Fin 6144) (hR : R.val = 384 * min (t.val / 125) 15 + r.val) :
    iblk1 V c 0 t (ix2 r k) = V c main_v0 (ix2 R k) := by
  blk_ext [iblk1, idx1_0 t]
theorem blk1_1 (c : Dev nD) (t : Fin cfg1.N) (r : Fin 384) (R : Fin 16) (hR : R.val = min (t.val / 125) 15) :
    iblk1 V c 1 t (ix3 0 0 r) = V c main_v1 (ix3 R 0 r) := by
  blk_ext [iblk1, idx1_1 t]
theorem blk1_2 (c : Dev nD) (t : Fin cfg1.N) (ht : t.val / 125 < 16) (r : Fin 256) (k : Fin 5120) (R : Fin 32000) (hR : R.val = 256 * (t.val % 125) + r.val) :
    iblk1 V c 2 t (ix2 r k) = V c main_v3 (ix2 R k) := by
  have e : (cfg1.win 2).index t = ![t.val % 125, 0] := by rw [idx1_2, if_neg (by omega)]
  blk_ext [iblk1, e]

theorem XB_blk (c : Dev nD) (t : Fin cfg1.N) : XB (iblk1 V c 0 t : Vec Ideal S384x5120 .fp8e4m3) = xbV (V c main_v0) (t.val / 125) := by
  funext y
  have h0 : (y 0).val < 384 := (y 0).isLt
  rw [XB_apply]
  unfold xbElem xbV
  exact congrArg (· * shiftC) (blk1_0 V c t (y 0) _ ⟨384 * min (t.val / 125) 15 + (y 0).val, by omega⟩ rfl)

theorem sc_blk (c : Dev nD) (t : Fin cfg1.N) : k1_pay5 (iblk1 V c 1 t : Vec Ideal S1x1x384 .f32) = scV (V c main_v1) (t.val / 125) := by
  funext y
  obtain ⟨r, l, rfl⟩ : ∃ (r : Fin 384) (l : Fin 128), y = ix2 r l := ⟨y 0, y 1, eq_ix2 y⟩
  rw [pay5_apply]
  exact blk1_1 V c t r ⟨min (t.val / 125) 15, by omega⟩ rfl

/-- The logits of the run. -/
abbrev zV (c : Dev nD) : ℕ → Fin 384 → ℕ → EReal := logit (V c main_v0) (V c main_v1) (V c main_v3)

theorem pay9_blk (c : Dev nD) (t : Fin cfg1.N) (ht : t.val / 125 < 16) (r : Fin 384) (l : Fin 128) :
    k1_pay9 (xbV (V c main_v0) (t.val / 125)) (iblk1 V c 2 t) (scV (V c main_v1) (t.val / 125)) (ix2 r l) = zV V c (t.val / 125) r (256 * (t.val % 125) + l.val) := by
  rw [pay9_apply]
  unfold zV logit
  refine congrArg₂ (· * ·) (Finset.sum_congr rfl fun k _ => congrArg₂ (· * ·) rfl ?_) rfl
  exact blk1_2 V c t ht ⟨l.val, by omega⟩ k _ (by show (256 * (t.val % 125) + l.val) % 32000 = 256 * (t.val % 125) + l.val; omega)

theorem pay10_blk (c : Dev nD) (t : Fin cfg1.N) (ht : t.val / 125 < 16) (r : Fin 384) (l : Fin 128) :
    k1_pay10 (xbV (V c main_v0) (t.val / 125)) (iblk1 V c 2 t) (scV (V c main_v1) (t.val / 125)) (ix2 r l) = zV V c (t.val / 125) r (256 * (t.val % 125) + (128 + l.val)) := by
  rw [pay10_apply]
  unfold zV logit
  refine congrArg₂ (· * ·) (Finset.sum_congr rfl fun k _ => congrArg₂ (· * ·) rfl ?_) rfl
  exact blk1_2 V c t ht ⟨128 + l.val, by omega⟩ k _ (by show (256 * (t.val % 125) + (128 + l.val)) % 32000 = 256 * (t.val % 125) + (128 + l.val); omega)

/-- The scratch buffers before every point. -/
theorem inv_at (c : Dev nD) : ∀ n : ℕ, n < 2125 → Inv (zV V c) (xbV (V c main_v0)) (scV (V c main_v1)) (n / 125) (n % 125) (stAt V c n) := by
  intro n
  induction n with
  | zero => intro _; exact ⟨fun _ _ _ h => by omega, fun _ _ _ h => by omega, fun h => by omega, fun h => by omega, fun _ h => by omega, fun h => by omega⟩
  | succ n ih =>
    intro hn
    have h := ih (by omega)
    have e := stAt_succ V c (⟨n, by show n < 2125; omega⟩ : Fin cfg1.N)
    generalize ht : (⟨n, by show n < 2125; omega⟩ : Fin cfg1.N) = t at e
    have htv : t.val = n := by rw [← ht]
    rw [← htv] at h ⊢
    rw [e]
    have h0 := co0 t
    have h1 := co1 t
    rw [← h0, ← h1] at h
    have hp := h.post (w := iblk1 V c 2 t) (iblk1 V c 0 t) (iblk1 V c 1 t) (fun _ => by rw [h0]; exact XB_blk V c t) (fun _ => by rw [h0]; exact sc_blk V c t)
      (fun hi r l => by rw [h0] at hi ⊢; rw [h1]; exact pay9_blk V c t hi r l) (fun hi r l => by rw [h0] at hi ⊢; rw [h1]; exact pay10_blk V c t hi r l)
    by_cases hj : n % 125 = 124
    · have := hp.2 (by rw [h1, htv]; exact hj) (by rw [h0, htv]; omega)
      rw [h0] at this
      rw [show (t.val + 1) / 125 = t.val / 125 + 1 by omega, show (t.val + 1) % 125 = 0 by omega]
      exact this
    · have := hp.1 (by rw [h1, htv]; omega)
      rw [h0, h1] at this
      rw [show (t.val + 1) / 125 = t.val / 125 by omega, show (t.val + 1) % 125 = t.val % 125 + 1 by omega]
      exact this

/-- The scratch buffers at every point, once it has closed and loaded. -/
theorem pinv_at (c : Dev nD) (t : Fin cfg1.N) : PInv (zV V c) (xbV (V c main_v0)) (scV (V c main_v1)) (grid1.coords t 0).val (grid1.coords t 1).val (stPre V c t (stAt V c t.val)) := by
  have h := inv_at V c t.val t.isLt
  have h0 := co0 t
  have h1 := co1 t
  rw [← h0, ← h1] at h
  exact h.pre _ _ (fun _ => by rw [h0]; exact XB_blk V c t) (fun _ => by rw [h0]; exact sc_blk V c t)

theorem outCodes_apply (c : Dev nD) (t : Fin cfg1.N) (ht : 125 ≤ t.val) (r : Fin 384) (q : Fin 256) :
    outCodes V c t (ix2 r q) = codeOf (zV V c (t.val / 125 - 1) r) (256 * (t.val % 125) + q.val) := by
  unfold outCodes
  rw [codes_apply (pinv_at V c t) (by rw [co0]; omega), co0, co1]
  rfl

theorem outLse_apply (c : Dev nD) (t : Fin cfg1.N) (ht : 125 ≤ t.val) (r : Fin 384) : outLse V c t (ix3 0 0 r) = lse (zV V c (t.val / 125 - 1) r) := by
  have hN : t.val < 2125 := t.isLt
  unfold outLse
  rw [pay3_apply]
  have h := (inv_at V c (125 * (t.val / 125)) (by omega)).full (by omega) (by omega) r
  rw [show 125 * (t.val / 125) / 125 = t.val / 125 by omega] at h
  exact lse_of_full _ _ r h 0

theorem outErr_apply (c : Dev nD) (t : Fin cfg1.N) (ht : 125 ≤ t.val) (ht' : t.val % 125 = 124) (r : Fin 384) :
    outErr V c t (ix3 0 0 r) = (Finset.univ : Finset (Fin 32000)).sup fun v => rowErr (zV V c (t.val / 125 - 1) r) v.val := by
  unfold outErr
  rw [pay29_apply, ← err_lanes (rowErr (zV V c (t.val / 125 - 1) r)) (fun v => abs_nonneg _)]
  refine Finset.sup_congr rfl fun l _ => ?_
  unfold stMid LSt.mid
  rw [if_pos (show 0 < (grid1.coords t 0).val by rw [co0]; omega)]
  refine ((pinv_at V c t).emit_er (by rw [co0]; omega) r l).trans ?_
  rw [co0, co1, ht']
  rfl

/-! ## The arrays after the region -/

theorem emb1_3 (t : Fin cfg1.N) (ht : 125 ≤ t.val) (r : Fin 384) (q : Fin 256) (R : Fin 6144) (Q : Fin 32000) (hR : R.val = 384 * (t.val / 125 - 1) + r.val)
    (hQ : Q.val = 256 * (t.val % 125) + q.val) : ((cfg1.win 3).blk t).view.emb (ix2 r q) = (ix2 R Q : S6144x32000.Idx) := by
  have e : (cfg1.win 3).index t = ![t.val / 125 - 1, t.val % 125] := by rw [idx1_3, if_neg (by omega)]
  blk_ext [e]
theorem emb1_4 (t : Fin cfg1.N) (r : Fin 384) (R : Fin 16) (hR : R.val = t.val / 125 - 1) : ((cfg1.win 4).blk t).view.emb (ix3 0 0 r) = (ix3 R 0 r : S16x1x384.Idx) := by
  blk_ext [idx1_4 t]
theorem emb1_5 (t : Fin cfg1.N) (r : Fin 384) (R : Fin 16) (hR : R.val = t.val / 125 - 1) : ((cfg1.win 5).blk t).view.emb (ix3 0 0 r) = (ix3 R 0 r : S16x1x384.Idx) := by
  blk_ext [idx1_5 t]

theorem arr3 (c : Dev nD) : (dat1 V c).arrAt 3 cfg1.N = codesArr (V c main_v0) (V c main_v1) (V c main_v3) := by
  refine (dat1 V c).arrAt_eq_of_covers 3 _ ((cfg1.win 3).covers_of_index_surj rfl (by decide) fun β => ?_) fun t hf y => ?_
  · have b0 : (β 0).val < 16 := (β 0).isLt
    have b1 : (β 1).val < 125 := (β 1).isLt
    refine ⟨⟨125 * ((β 0).val + 1) + (β 1).val, by show _ < 2125; omega⟩, fun a => ?_⟩
    rw [idx1_3]
    match a with
    | ⟨0, _⟩ => show (125 * ((β 0).val + 1) + (β 1).val) / 125 - 1 = (β 0).val; omega
    | ⟨1, _⟩ =>
      show (if (125 * ((β 0).val + 1) + (β 1).val) / 125 = 0 then 0 else (125 * ((β 0).val + 1) + (β 1).val) % 125) = (β 1).val
      rw [if_neg (by omega)]; omega
  · have ht : t.val < 2125 := t.isLt
    rw [flush3, decide_eq_true_eq] at hf
    obtain ⟨r, q, rfl⟩ : ∃ (r : Fin 384) (q : Fin 256), y = ix2 r q := ⟨y 0, y 1, eq_ix2 y⟩
    have hr := r.isLt
    have hq := q.isLt
    refine Eq.trans ?_ (congrArg (codesArr (V c main_v0) (V c main_v1) (V c main_v3)) (emb1_3 t hf r q ⟨384 * (t.val / 125 - 1) + r.val, by omega⟩ ⟨256 * (t.val % 125) + q.val, by omega⟩ rfl rfl).symm)
    show (dat1 V c).after 3 t (ix2 r q) = _
    rw [after1_3, outCodes_apply V c t hf]
    show _ = codeOf (zV V c ((384 * (t.val / 125 - 1) + r.val) / 384) ⟨(384 * (t.val / 125 - 1) + r.val) % 384, _⟩) (256 * (t.val % 125) + q.val)
    have e1 : (384 * (t.val / 125 - 1) + r.val) / 384 = t.val / 125 - 1 := by omega
    have e2 : (⟨(384 * (t.val / 125 - 1) + r.val) % 384, Nat.mod_lt _ (by omega)⟩ : Fin 384) = r := Fin.ext (by show (384 * (t.val / 125 - 1) + r.val) % 384 = r.val; omega)
    rw [e1, e2]

theorem arr4 (c : Dev nD) : (dat1 V c).arrAt 4 cfg1.N = lseArr (V c main_v0) (V c main_v1) (V c main_v3) := by
  refine (dat1 V c).arrAt_eq_of_covers 4 _ ((cfg1.win 4).covers_of_index_surj rfl (by decide) fun β => ?_) fun t hf y => ?_
  · have b0 : (β 0).val < 16 := (β 0).isLt
    have b1 : (β 1).val < 1 := (β 1).isLt
    have b2 : (β 2).val < 1 := (β 2).isLt
    refine ⟨⟨125 * ((β 0).val + 1), by show _ < 2125; omega⟩, fun a => ?_⟩
    rw [idx1_4]
    match a with
    | ⟨0, _⟩ => show (125 * ((β 0).val + 1)) / 125 - 1 = (β 0).val; omega
    | ⟨1, _⟩ => show 0 = (β 1).val; omega
    | ⟨2, _⟩ => show 0 = (β 2).val; omega
  · have ht : t.val < 2125 := t.isLt
    rw [flush4, decide_eq_true_eq] at hf
    obtain ⟨p, q, r, rfl⟩ : ∃ (p : Fin 1) (q : Fin 1) (r : Fin 384), y = ix3 p q r := ⟨y 0, y 1, y 2, eq_ix3 y⟩
    obtain rfl : p = 0 := Subsingleton.elim _ _
    obtain rfl : q = 0 := Subsingleton.elim _ _
    refine Eq.trans ?_ (congrArg (lseArr (V c main_v0) (V c main_v1) (V c main_v3)) (emb1_4 t r ⟨t.val / 125 - 1, by omega⟩ rfl).symm)
    show (dat1 V c).after 4 t (ix3 0 0 r) = _
    rw [after1_4, outLse_apply V c t hf.1]
    rfl

theorem arr5 (c : Dev nD) : (dat1 V c).arrAt 5 cfg1.N = errArr (V c main_v0) (V c main_v1) (V c main_v3) := by
  refine (dat1 V c).arrAt_eq_of_covers 5 _ ((cfg1.win 5).covers_of_index_surj rfl (by decide) fun β => ?_) fun t hf y => ?_
  · have b0 : (β 0).val < 16 := (β 0).isLt
    have b1 : (β 1).val < 1 := (β 1).isLt
    have b2 : (β 2).val < 1 := (β 2).isLt
    refine ⟨⟨125 * ((β 0).val + 1), by show _ < 2125; omega⟩, fun a => ?_⟩
    rw [idx1_5]
    match a with
    | ⟨0, _⟩ => show (125 * ((β 0).val + 1)) / 125 - 1 = (β 0).val; omega
    | ⟨1, _⟩ => show 0 = (β 1).val; omega
    | ⟨2, _⟩ => show 0 = (β 2).val; omega
  · have ht : t.val < 2125 := t.isLt
    rw [flush5, decide_eq_true_eq] at hf
    obtain ⟨p, q, r, rfl⟩ : ∃ (p : Fin 1) (q : Fin 1) (r : Fin 384), y = ix3 p q r := ⟨y 0, y 1, y 2, eq_ix3 y⟩
    obtain rfl : p = 0 := Subsingleton.elim _ _
    obtain rfl : q = 0 := Subsingleton.elim _ _
    refine Eq.trans ?_ (congrArg (errArr (V c main_v0) (V c main_v1) (V c main_v3)) (emb1_5 t r ⟨t.val / 125 - 1, by omega⟩ rfl).symm)
    show (dat1 V c).after 5 t (ix3 0 0 r) = _
    rw [after1_5, outErr_apply V c t hf.1 hf.2]
    rfl

end Cert.KernelIdeal.Val

end
-- ==== Proof.ValueNumbers.lean ====
/- The numbers behind the weights: a four-bit code's value as the reference selects it and as the kernel reads it off an
   eight-bit float, and a block scale as a power of two and as the upper bits of a bf16. -/
module

public import proofs.«01_k».proof.Proof.ValueWords
public import proofs.«01_k».proof.Proof.ValueX
public import Idealize.ShloMosaic.Lib.Pointwise

@[expose] public section

set_option maxRecDepth 16384

noncomputable section

namespace Cert.KernelIdeal.Val

open Idealize.ShloMosaic

/-- Nibble `t` of a byte: the low one, then the high one. -/
def nib (b : BitVec 8) (t : Fin 2) : BitVec 32 :=
  if h : t.val < 1 then IntOp.andi (BitVec.setWidth 32 b) 15#32 else IntOp.shrsi ArithUnit.vector (BitVec.setWidth 32 b) 4#32

/-- Whether a code has the bit. -/
def bit (n m : BitVec 32) : BitVec 1 := IntOp.cmpi .ne (IntOp.andi n m) 0#32

/-- The magnitude of a code, as the reference selects it. -/
def mag (n : BitVec 32) : EReal :=
  Scalar.select (bit n 4#32)
    (Scalar.select (bit n 2#32) (Scalar.select (bit n 1#32) (Ideal.ofBits .f32 0x40C00000#32 : EReal) (Ideal.ofBits .f32 0x40800000#32))
      (Scalar.select (bit n 1#32) (Ideal.ofBits .f32 0x40400000#32) (Ideal.ofBits .f32 0x40000000#32)))
    (Scalar.select (bit n 2#32) (Scalar.select (bit n 1#32) (Ideal.ofBits .f32 0x3FC00000#32 : EReal) (Ideal.ofBits .f32 0x3F800000#32))
      (Scalar.select (bit n 1#32) (Ideal.ofBits .f32 0x3F000000#32) (Ideal.ofBits .f32 0x00000000#32)))

/-- The value of a code, as the reference selects it. -/
def codeVal (n : BitVec 32) : EReal := Scalar.select (bit n 8#32) (0 - mag n) (mag n)

/-- The kernel's byte for a code. -/
def nb (n : BitVec 32) : BitVec 8 := ((n.setWidth 8 <<< 4) &&& 0x80#8) ||| ((n.setWidth 8 <<< 2) &&& 0x1C#8)

theorem nb_of_byte (b : BitVec 8) (t : Fin 2) : (if t.val = 0 then lo8 else hi8) b = nb (nib b t) := by
  have h : ∀ (b : Fin 256) (t : Fin 2), (if t.val = 0 then lo8 else hi8) (BitVec.ofFin b) = nb (nib (BitVec.ofFin b) t) := by decide +kernel
  exact h b.toFin t

theorem nib_lt (b : BitVec 8) (t : Fin 2) : ∃ n : Fin 16, nib b t = BitVec.ofNat 32 n.val := by
  have h : ∀ (b : Fin 256) (t : Fin 2), ∃ n : Fin 16, nib (BitVec.ofFin b) t = BitVec.ofNat 32 n.val := by decide +kernel
  exact h b.toFin t

/-- The sixteen values. -/
def table : Fin 16 → ℝ := ![0, 1/2, 1, 3/2, 2, 3, 4, 6, 0, -1/2, -1, -3/2, -2, -3, -4, -6]

theorem shiftC_val : shiftC = ((64 : ℝ) : EReal) := by
  simp [shiftC, Ideal.ofBits, Ideal.ieee]; norm_num; rw [← EReal.coe_mul]; congr 1; norm_num

theorem c6 : Ideal.ofBits .f32 0x40C00000#32 = ((6 : ℝ) : EReal) := by simp [Ideal.ofBits, Ideal.ieee]; norm_num; rw [← EReal.coe_mul]; congr 1; norm_num
theorem c4 : Ideal.ofBits .f32 0x40800000#32 = ((4 : ℝ) : EReal) := by simp [Ideal.ofBits, Ideal.ieee]; norm_num; rw [← EReal.coe_mul]; congr 1; norm_num
theorem c3 : Ideal.ofBits .f32 0x40400000#32 = ((3 : ℝ) : EReal) := by simp [Ideal.ofBits, Ideal.ieee]; norm_num; rw [← EReal.coe_mul]; congr 1; norm_num
theorem c2 : Ideal.ofBits .f32 0x40000000#32 = ((2 : ℝ) : EReal) := by simp [Ideal.ofBits, Ideal.ieee]; norm_num; rw [← EReal.coe_mul]; congr 1; norm_num
theorem c32 : Ideal.ofBits .f32 0x3FC00000#32 = ((3/2 : ℝ) : EReal) := by simp [Ideal.ofBits, Ideal.ieee]; norm_num; rw [← EReal.coe_mul]; congr 1; norm_num
theorem c1 : Ideal.ofBits .f32 0x3F800000#32 = ((1 : ℝ) : EReal) := by simp [Ideal.ofBits, Ideal.ieee]; norm_num; rw [← EReal.coe_mul, ← EReal.coe_one]; congr 1; norm_num
theorem c12 : Ideal.ofBits .f32 0x3F000000#32 = ((1/2 : ℝ) : EReal) := by simp [Ideal.ofBits, Ideal.ieee]; norm_num; rw [← EReal.coe_mul]; congr 1; norm_num
theorem c0 : Ideal.ofBits .f32 0x00000000#32 = ((0 : ℝ) : EReal) := by simp [Ideal.ofBits, Ideal.ieee]

theorem codeVal_table (n : Fin 16) : codeVal (BitVec.ofNat 32 n.val) = (table n : EReal) := by
  unfold codeVal mag
  rw [c6, c4, c3, c2, c32, c1, c12, c0]
  fin_cases n <;> simp [table, Scalar.select, bit, IntOp.cmpi, IntOp.andi] <;> norm_num [← EReal.coe_neg]

theorem nb_table (n : Fin 16) : Ideal.ofBits .fp8e4m3 (nb (BitVec.ofNat 32 n.val)) = ((table n / 64 : ℝ) : EReal) := by
  fin_cases n <;> simp [table, nb, Ideal.ofBits, Ideal.e4m3fn] <;> norm_num <;> rw [← EReal.coe_mul] <;> (try rw [← EReal.coe_neg]) <;> congr 1 <;> norm_num

/-- The kernel's float for a code, times the activations' power of two, is the reference's value. -/
theorem code_eq (b : BitVec 8) (t : Fin 2) : shiftC * Ideal.ofBits .fp8e4m3 ((if t.val = 0 then lo8 else hi8) b) = codeVal (nib b t) := by
  obtain ⟨n, hn⟩ := nib_lt b t
  rw [nb_of_byte, hn, codeVal_table, nb_table, shiftC_val, ← EReal.coe_mul]
  congr 1; ring

/-- The reference's block scale: two to the exponent less 127. -/
def scaleVal (e : BitVec 8) : EReal := Ideal.exp2 ((((IntOp.subi (BitVec.setWidth 32 e) 127#32).toInt : ℝ)) : EReal)

theorem bf16_bits : ∀ e : Fin 256, let b := (BitVec.ofFin e : BitVec 8).setWidth 16 <<< 7
    ((b.extractLsb' (8 + 7) 1 == 1#1) = false) ∧ (b.extractLsb' 7 8).toNat = e.val ∧ (b.extractLsb' 0 7).toNat = 0
      ∧ (IntOp.subi (BitVec.setWidth 32 (BitVec.ofFin e : BitVec 8)) 127#32).toInt = (e.val : ℤ) - 127 := by decide +kernel

theorem scale_eq (e : BitVec 8) (h1 : 1 ≤ e.toNat) (h2 : e.toNat ≤ 254) : Ideal.ofBits .bf16 (e.setWidth 16 <<< 7) = scaleVal e := by
  obtain ⟨a1, a2, a3, a4⟩ := bf16_bits e.toFin
  have a2' : (BitVec.extractLsb' 7 8 (e.setWidth 16 <<< 7)).toNat = e.toNat := a2
  have a4' : (IntOp.subi (BitVec.setWidth 32 e) 127#32).toInt = (e.toNat : ℤ) - 127 := a4
  show Ideal.ieee 8 7 (e.setWidth 16 <<< 7) = _
  unfold Ideal.ieee scaleVal
  rw [a4']
  dsimp only
  rw [a2', if_neg (by omega), if_neg (by omega)]
  refine congrArg (fun r : ℝ => (r : EReal)) ?_
  have a1' : (BitVec.extractLsb' (8 + 7) 1 (e.setWidth 16 <<< 7) == 1#1) = false := a1
  have a3' : (BitVec.extractLsb' 0 7 (e.setWidth 16 <<< 7)).toNat = 0 := a3
  rw [a1', a3']
  show _ = (2 : ℝ) ^ ((((e.toNat : ℤ) - 127 : ℤ)) : ℝ)
  rw [Real.rpow_intCast, show ((e.toNat : ℤ) - 127) = 7 + ((e.toNat : ℤ) - (2 ^ (8 - 1) - 1) - 7) by norm_num, zpow_add₀ (by norm_num)]
  norm_num

end Cert.KernelIdeal.Val

end
-- ==== Proof.ValueRef.lean ====
/- The reference's results, an element at a time. -/
module

public import proofs.«01_k».proof.Proof.Gen.ReferenceIdeal.Value
public import proofs.«01_k».proof.Proof.ValueNumbers
public import proofs.«01_k».proof.Proof.ValueState
public import Idealize.ShloMosaic.Lib.Pipeline.ValueKit
public import Idealize.ShloMosaic.Lib.Pointwise

@[expose] public section

set_option maxRecDepth 16384

noncomputable section

namespace Cert.ReferenceIdeal.Val

open Cert.ReferenceIdeal Cert.ReferenceIdeal.Gen Idealize.ShloMosaic
open Cert.Lse
open Cert.KernelIdeal.Val (nib bit mag codeVal scaleVal codeOf rowErr errOf floorC negInf)

section Bits
variable (w : Vec Ideal S32000x2560 .i8) (t : Fin 2) (v : Fin 32000) (k : Fin 2560)

theorem pay3_apply : k0_pay3 (F := Ideal) w (ix3 t v k) = nib (w (ix2 v k)) t := by
  pointwise [k0_pay3]
  rfl
theorem pay4_apply : k0_pay4 (F := Ideal) w (ix3 t v k) = bit (nib (w (ix2 v k)) t) 1#32 := by
  rw [← pay3_apply w t v k]; rfl
theorem pay5_apply : k0_pay5 (F := Ideal) w (ix3 t v k) = bit (nib (w (ix2 v k)) t) 2#32 := by
  rw [← pay3_apply w t v k]; rfl
theorem pay6_apply : k0_pay6 (F := Ideal) w (ix3 t v k) = bit (nib (w (ix2 v k)) t) 4#32 := by
  rw [← pay3_apply w t v k]; rfl
theorem pay7_apply : k0_pay7 (F := Ideal) w (ix3 t v k) = bit (nib (w (ix2 v k)) t) 8#32 := by
  rw [← pay3_apply w t v k]; rfl
theorem pay8_apply : k0_pay8 (F := Ideal) w (ix3 t v k)
    = Scalar.select (bit (nib (w (ix2 v k)) t) 2#32)
        (Scalar.select (bit (nib (w (ix2 v k)) t) 1#32) (Ideal.ofBits .f32 0x3FC00000#32 : EReal) (Ideal.ofBits .f32 0x3F800000#32))
        (Scalar.select (bit (nib (w (ix2 v k)) t) 1#32) (Ideal.ofBits .f32 0x3F000000#32) (Ideal.ofBits .f32 0x00000000#32)) := by
  rw [← pay5_apply w t v k, ← pay4_apply w t v k]; rfl

end Bits

theorem pay2_apply (e : Vec Ideal S32000x160 .i8) (v : Fin 32000) (g : Fin 160) : k0_pay2 (F := Ideal) e (ix2 v g) = scaleVal (e (ix2 v g)) := rfl

variable (x : Vec Ideal S12x512x5120 .fp8e4m3) (xs : Vec Ideal S12x512 .f32) (w : Vec Ideal S32000x2560 .i8) (e : Vec Ideal S32000x160 .i8)

/-- The reference's logit of token `(b, s)` at entry `v`. -/
def refLogit (b : Fin 12) (s : Fin 512) (v : Fin 32000) : EReal :=
  (∑ k : Fin 2560, ∑ t : Fin 2, x (ix3 b s ⟨k.val * 2 + t.val, by omega⟩) * (codeVal (nib (w (ix2 v k)) t) * scaleVal (e (ix2 v ⟨k.val / 16, by omega⟩)))) * xs (ix2 b s)

section Reductions
variable (Q : FVec Ideal S12x512x32000 .f32) (M : FVec Ideal S12x512 .f32) (b : Fin 12) (s : Fin 512)

theorem max_row : multiReduction .maximumf [2] S12x512 Q 0xFF800000#32 reduces_S12x512x32000_S12x512 (.inl rfl) rfl (ix2 b s)
    = Finset.fold max (Ideal.ofBits .f32 0xFF800000#32) (fun v : Fin 32000 => Q (ix3 b s v)) Finset.univ := by
  pointwise
theorem sum_row : multiReduction .add [2] S12x512 Q 0x00000000#32 reduces_S12x512x32000_S12x512 (.inl rfl) rfl (ix2 b s) = ∑ v : Fin 32000, (Q (ix3 b s v) : EReal) := by
  pointwise
theorem over_row (v : Fin 32000) :
    broadcastTo S12x512x32000 (shapeCast S12x512x1 M shapeCasts_S12x512_S12x512x1) broadcasts_S12x512x1_S12x512x32000 (ix3 b s v) = M (ix2 b s) := by
  pointwise
theorem and_back : shapeCast S12x512 (shapeCast S12x512x1 M shapeCasts_S12x512_S12x512x1) shapeCasts_S12x512x1_S12x512 (ix2 b s) = M (ix2 b s) := by
  pointwise

theorem add_log (A B : FVec Ideal S12x512 .f32) (y : S12x512.Idx) : addf A (log B) y = (A y : EReal) + Ideal.log (B y) := rfl
theorem exp_sub (A B : FVec Ideal S12x512x32000 .f32) (y : S12x512x32000.Idx) : exp (subf A B) y = Ideal.exp ((A y : EReal) - B y) := rfl

end Reductions

section Generic
variable (v6 : FVec Ideal S32000x160 .bf16) (v19 v23 v27 v31 : IVec S2x32000x2560 1) (v38 : FVec Ideal S2x32000x2560 .f32) (c10 c11 : Ideal .f32)

/-- The logits, from the bits of the codes and the scales. -/
theorem pay9_gen (b : Fin 12) (s : Fin 512) (v : Fin 32000) :
    k0_pay9 v6 v19 v23 v27 v31 v38 c10 c11 x xs (ix3 b s v)
      = (∑ k : Fin 2560, ∑ t : Fin 2, x (ix3 b s ⟨k.val * 2 + t.val, by omega⟩) *
          (Scalar.select (v31 (ix3 t v k))
              (0 - Scalar.select (v27 (ix3 t v k)) (Scalar.select (v23 (ix3 t v k)) (Scalar.select (v19 (ix3 t v k)) c10 c11)
                  (Scalar.select (v19 (ix3 t v k)) (Ideal.ofBits .f32 0x40400000#32) (Ideal.ofBits .f32 0x40000000#32))) (v38 (ix3 t v k)) : EReal)
              (Scalar.select (v27 (ix3 t v k)) (Scalar.select (v23 (ix3 t v k)) (Scalar.select (v19 (ix3 t v k)) c10 c11)
                  (Scalar.select (v19 (ix3 t v k)) (Ideal.ofBits .f32 0x40400000#32) (Ideal.ofBits .f32 0x40000000#32))) (v38 (ix3 t v k)))
            * v6 (ix2 v ⟨k.val / 16, by omega⟩))) * xs (ix2 b s) := by
  pointwise [k0_pay9]

variable {b : Fin 12} {s : Fin 512} {z : ℕ → EReal} (hz : ∀ v : Fin 32000, k0_pay9 v6 v19 v23 v27 v31 v38 c10 c11 x xs (ix3 b s v) = z v.val)
include hz

/-- The log-sum-exp. -/
theorem pay10_gen : k0_pay10 v6 v19 v23 v27 v31 v38 c10 c11 x xs (ix2 b s) = lse z := by
  unfold k0_pay10
  generalize k0_pay9 v6 v19 v23 v27 v31 v38 c10 c11 x xs = Q at hz ⊢
  have hm : multiReduction .maximumf [2] S12x512 Q 0xFF800000#32 reduces_S12x512x32000_S12x512 (.inl rfl) rfl (ix2 b s)
      = (Finset.univ : Finset (Fin 32000)).sup (fun v => z v.val) := by
    rw [max_row, negInf]
    exact Finset.fold_congr fun v _ => hz v
  dsimp only
  rw [add_log, and_back, sum_row, hm]
  rw [lse]
  refine congrArg (HAdd.hAdd _) (congrArg Ideal.log ?_)
  refine Finset.sum_congr rfl fun v _ => ?_
  rw [exp_sub, over_row, hm, hz]

theorem pay11_gen (v : Fin 32000) : k0_pay11 v6 v19 v23 v27 v31 v38 c10 c11 x xs (ix3 b s v) = codeOf z v.val := by
  pointwise [k0_pay11]
  rw [pay10_gen x xs v6 v19 v23 v27 v31 v38 c10 c11 hz, hz]
  rfl

theorem pay1_gen : k0_pay1 (k0_pay11 v6 v19 v23 v27 v31 v38 c10 c11 x xs) (k0_pay12 v6 v19 v23 v27 v31 v38 c10 c11 x xs) (ix2 b s)
    = (Finset.univ : Finset (Fin 32000)).sup fun v => rowErr z v.val := by
  have hX := pay11_gen x xs v6 v19 v23 v27 v31 v38 c10 c11 hz
  have hY : ∀ v : Fin 32000, k0_pay12 v6 v19 v23 v27 v31 v38 c10 c11 x xs (ix3 b s v) = codeOf z v.val := hX
  generalize k0_pay12 v6 v19 v23 v27 v31 v38 c10 c11 x xs = Y at hY ⊢
  generalize k0_pay11 v6 v19 v23 v27 v31 v38 c10 c11 x xs = X at hX ⊢
  pointwise [k0_pay1]
  simp only [hX, hY, negInf]
  exact Cert.KernelIdeal.Val.fold_max_eq_sup _ _

end Generic

/-- The reference's logits. -/
theorem pay9_apply (b : Fin 12) (s : Fin 512) (v : Fin 32000) :
    k0_pay9 (k0_pay2 e) (k0_pay4 w) (k0_pay5 w) (k0_pay6 w) (k0_pay7 w) (k0_pay8 w) (Scalar.ofBits .f32 0x40C00000#32) (Scalar.ofBits .f32 0x40800000#32) x xs (ix3 b s v)
      = refLogit x xs w e b s v := by
  rw [pay9_gen]
  unfold refLogit
  refine congrArg₂ (· * ·) (Finset.sum_congr rfl fun k _ => Finset.sum_congr rfl fun t _ => ?_) rfl
  rw [pay4_apply, pay5_apply, pay6_apply, pay7_apply, pay8_apply, pay2_apply]
  rfl

section Results
variable {x xs w e} {b : Fin 12} {s : Fin 512} {z : ℕ → EReal} (hz : ∀ v : Fin 32000, refLogit x xs w e b s v = z v.val)
include hz

theorem G4_apply (v : Fin 32000) : Value.G4 x xs w e (ix3 b s v) = codeOf z v.val := by
  have h2 : View.ld w r0_1 = w := View.ld_unit_zero Value.hz2 _ w
  have h3 : View.ld e r0_0 = e := View.ld_unit_zero Value.hz3 _ e
  unfold Value.G4 k0_pay13 k0_pay14 k0_pay15 k0_pay16 k0_pay17 k0_pay18
  rw [h2, h3]
  exact pay11_gen x xs _ _ _ _ _ _ _ _ (fun v => (pay9_apply x xs w e b s v).trans (hz v)) v

theorem G5_apply : Value.G5 x xs w e (ix2 b s) = lse z := by
  have h2 : View.ld w r0_1 = w := View.ld_unit_zero Value.hz2 _ w
  have h3 : View.ld e r0_0 = e := View.ld_unit_zero Value.hz3 _ e
  unfold Value.G5 k0_pay13 k0_pay14 k0_pay15 k0_pay16 k0_pay17 k0_pay18
  rw [h2, h3]
  exact pay10_gen x xs _ _ _ _ _ _ _ _ (fun v => (pay9_apply x xs w e b s v).trans (hz v))

theorem G6_apply : Value.G6 x xs w e (ix2 b s) = (Finset.univ : Finset (Fin 32000)).sup fun v => rowErr z v.val := by
  have h2 : View.ld w r0_1 = w := View.ld_unit_zero Value.hz2 _ w
  have h3 : View.ld e r0_0 = e := View.ld_unit_zero Value.hz3 _ e
  unfold Value.G6 k0_pay13 k0_pay14 k0_pay15 k0_pay16 k0_pay17 k0_pay18
  rw [h2, h3]
  exact pay1_gen x xs _ _ _ _ _ _ _ _ (fun v => (pay9_apply x xs w e b s v).trans (hz v))

end Results

end Cert.ReferenceIdeal.Val

end
-- ==== Proof.ValueEq.lean ====
/- The two programs' logits are equal: the kernel's contraction over its own order of the 5120 products, with the power of
   two moved between activations and codes, is the reference's double contraction over bytes and their two nibbles. -/
module

public import proofs.«01_k».proof.Proof.ValueArr0
public import proofs.«01_k».proof.Proof.ValueArr1
public import proofs.«01_k».proof.Proof.ValueRef

@[expose] public section

set_option maxRecDepth 16384

noncomputable section

namespace Cert.KernelIdeal.Val

open Cert.KernelIdeal Cert.KernelIdeal.Gen Cert.Lse Idealize.ShloMosaic
open Cert.ReferenceIdeal.Val (refLogit)

/-- Column `k` of the kernel's layout is nibble `k / 128 % 2` of byte `k / 256 * 128 + k % 128`. -/
def split : Fin 5120 ≃ Fin 2560 × Fin 2 where
  toFun k := (⟨k.val / 256 * 128 + k.val % 128, by omega⟩, ⟨k.val / 128 % 2, by omega⟩)
  invFun p := ⟨p.1.val / 128 * 256 + 128 * p.2.val + p.1.val % 128, by omega⟩
  left_inv k := Fin.ext (by
    show (k.val / 256 * 128 + k.val % 128) / 128 * 256 + 128 * (k.val / 128 % 2) + (k.val / 256 * 128 + k.val % 128) % 128 = k.val
    omega)
  right_inv p := Prod.ext
    (Fin.ext (by
      show (p.1.val / 128 * 256 + 128 * p.2.val + p.1.val % 128) / 256 * 128 + (p.1.val / 128 * 256 + 128 * p.2.val + p.1.val % 128) % 128 = p.1.val
      omega))
    (Fin.ext (by
      show (p.1.val / 128 * 256 + 128 * p.2.val + p.1.val % 128) / 128 % 2 = p.2.val
      omega))

/-- A sum over the columns is the sum over bytes and nibbles. -/
theorem sum_split (f : Fin 5120 → EReal) (g : Fin 2560 → Fin 2 → EReal) (h : ∀ k, f k = g (split k).1 (split k).2) :
    ∑ k : Fin 5120, f k = ∑ k : Fin 2560, ∑ t : Fin 2, g k t :=
  (Fintype.sum_equiv split f (fun p => g p.1 p.2) h).trans (Fintype.sum_prod_type' g)

variable (x : Vec Ideal S12x512x5120 .fp8e4m3) (xs : Vec Ideal S12x512 .f32) (wc : S32000x2560.Idx → BitVec 8) (ex : S32000x160.Idx → BitVec 8)
variable (a : S6144x5120.Idx → EReal) (s : S16x1x384.Idx → EReal) (exP : S32000x256.Idx → BitVec 8)

/-- The kernel's logit of token `T = 512 b + q` is the reference's. -/
theorem logit_eq (ha : ∀ (b : Fin 12) (q : Fin 512) (R : Fin 6144) (k : Fin 5120), R.val = 512 * b.val + q.val → a (ix2 R k) = x (ix3 b q k))
    (hs : ∀ (b : Fin 12) (q : Fin 512) (i : Fin 16) (r : Fin 384), 384 * i.val + r.val = 512 * b.val + q.val → s (ix3 i 0 r) = xs (ix2 b q))
    (he : ∀ (v : Fin 32000) (g : Fin 160) (g' : Fin 256), g'.val = g.val → exP (ix2 v g') = ex (ix2 v g))
    (hn : ∀ (v : Fin 32000) (g : Fin 160), 1 ≤ (ex (ix2 v g)).toNat ∧ (ex (ix2 v g)).toNat ≤ 254)
    (b : Fin 12) (q : Fin 512) (i : ℕ) (r : Fin 384) (hT : 384 * i + r.val = 512 * b.val + q.val) (v : Fin 32000) :
    refLogit x xs wc ex b q v = logit a s (decArr wc exP) i r v.val := by
  have hb := b.isLt
  have hq := q.isLt
  have hr := r.isLt
  have hi : i < 16 := by omega
  unfold refLogit logit
  have hv : (⟨v.val % 32000, Nat.mod_lt _ (by omega)⟩ : Fin 32000) = v := Fin.ext (Nat.mod_eq_of_lt v.isLt)
  refine (congrArg₂ (· * ·) (sum_split _ _ fun k => ?_) (hs b q ⟨min i 15, by omega⟩ r (by show 384 * min i 15 + r.val = _; omega))).symm
  have hk := k.isLt
  rw [hv]
  have h1 : xbV a i (ix2 r k) = x (ix3 b q ⟨(split k).1.val * 2 + (split k).2.val, by omega⟩) * shiftC := by
    unfold xbV
    refine congrArg (· * shiftC) ((ha b q _ _ (by show 384 * min i 15 + r.val = _; omega)).trans (congrArg x ?_))
    refine congrArg (ix3 b q) (Fin.ext ?_)
    show k.val / 256 * 256 + 2 * (k.val % 128) + k.val / 128 % 2 = (k.val / 256 * 128 + k.val % 128) * 2 + k.val / 128 % 2
    omega
  have h2 : decArr wc exP (ix2 v k) = Ideal.ofBits .fp8e4m3 ((if (split k).2.val = 0 then lo8 else hi8) (wc (ix2 v (split k).1)))
      * scaleVal (ex (ix2 v ⟨(split k).1.val / 16, by omega⟩)) := by
    unfold decArr
    refine congrArg₂ (· * ·) rfl ?_
    rw [← scale_eq _ (hn v _).1 (hn v _).2]
    exact congrArg (fun e : BitVec 8 => Ideal.ofBits .bf16 (e.setWidth 16 <<< 7)) (he v ⟨(split k).1.val / 16, by omega⟩ _ rfl)
  rw [h1, h2, ← code_eq]
  simp only [mul_assoc]

end Cert.KernelIdeal.Val

end
-- ==== Proof.ValueHost.lean ====
/- What the host operations around the two pallas_calls leave, and so the program's three results from its arguments. -/
module

public import proofs.«01_k».proof.Proof.ValueEq
public import proofs.«01_k».proof.Proof.IdealRun
public import Idealize.ShloMosaic.Lib.KernelVsHost

@[expose] public section

set_option maxRecDepth 16384

noncomputable section

namespace Cert.KernelIdeal.Val

open Cert.KernelIdeal Cert.KernelIdeal.Gen Cert.Lse Idealize.ShloMosaic Idealize.ShloMosaic.TcCoe Idealize.ShloMosaic.StableHlo

variable (m : (ℓ : Loc nD τ sig) → Buf (Elt Ideal) ℓ) (ρ : Dev nD → PrngReg) (c : Dev nD)

/-! ## Before the calls: two reshapes and a padding -/

theorem W1_v0 : W1 m ρ c (Proc.devRef .tc main_v0)
    = shapeCast S6144x5120 (m ((c : Thread nD τ).loc main_arg0) : Vec Ideal S12x512x5120 .fp8e4m3) shapeCasts_S12x512x5120_S6144x5120 := by
  unfold_abbrev_sides; after_results; rfl
theorem W1_v1 : W1 m ρ c (Proc.devRef .tc main_v1)
    = shapeCast S16x1x384 (m ((c : Thread nD τ).loc main_arg1) : Vec Ideal S12x512 .f32) shapeCasts_S12x512_S16x1x384 := by
  unfold_abbrev_sides; after_results; rfl
theorem W2_v2 : W2 m ρ c (Proc.devRef .tc main_v2)
    = pad S32000x256 ![0, 0] ![0, 96] ![0, 0] (W1 m ρ c (Proc.devRef .tc main_arg3) : IVec S32000x160 8)
        (trunci 8 (W1 m ρ c (Proc.devRef .tc main_c) : IVec S_ 32) natLt_8_32) pads_S32000x160_S32000x256_000_0960 h_S_ := by
  unfold W2
  generalize W1 m ρ c = V
  after_results; rfl

theorem V3_v0 : V3 m ρ c main_v0 = shapeCast S6144x5120 (m ((c : Thread nD τ).loc main_arg0) : Vec Ideal S12x512x5120 .fp8e4m3) shapeCasts_S12x512x5120_S6144x5120 :=
  (W3_of m ρ c main_v0 (by decide +kernel)).trans ((W2_of m ρ c main_v0 (by decide +kernel)).trans (W1_v0 m ρ c))
theorem V3_v1 : V3 m ρ c main_v1 = shapeCast S16x1x384 (m ((c : Thread nD τ).loc main_arg1) : Vec Ideal S12x512 .f32) shapeCasts_S12x512_S16x1x384 :=
  (W3_of m ρ c main_v1 (by decide +kernel)).trans ((W2_of m ρ c main_v1 (by decide +kernel)).trans (W1_v1 m ρ c))
theorem V3_v3 : V3 m ρ c main_v3 = decArr (m ((c : Thread nD τ).loc main_arg2)) (V2 m ρ c main_v2) :=
  (W3_arr m ρ c 2).trans ((arr0 (V2 m ρ) c).trans (congrArg (fun w => decArr w (V2 m ρ c main_v2)) (W2_args m ρ c main_arg2 (by decide))))

/-! ## Element by element -/

theorem flat_x (x : S12x512x5120.Idx → EReal) (b : Fin 12) (q : Fin 512) (R : Fin 6144) (k : Fin 5120) (h : R.val = 512 * b.val + q.val) :
    shapeCast S6144x5120 x shapeCasts_S12x512x5120_S6144x5120 (ix2 R k) = x (ix3 b q k) := by
  refine shapeCast_apply _ _ _ _ ?_
  rw [Shape.rowMajor_val_three, Shape.rowMajor_val_two]
  show (b.val * 512 + q.val) * 5120 + k.val = R.val * 5120 + k.val
  omega

theorem flat_s (x : S12x512.Idx → EReal) (b : Fin 12) (q : Fin 512) (i : Fin 16) (r : Fin 384) (h : 384 * i.val + r.val = 512 * b.val + q.val) :
    shapeCast S16x1x384 x shapeCasts_S12x512_S16x1x384 (ix3 i 0 r) = x (ix2 b q) := by
  refine shapeCast_apply _ _ _ _ ?_
  rw [Shape.rowMajor_val_three, Shape.rowMajor_val_two]
  show b.val * 512 + q.val = (i.val * 1 + 0) * 384 + r.val
  omega

theorem v0_apply (b : Fin 12) (q : Fin 512) (R : Fin 6144) (k : Fin 5120) (h : R.val = 512 * b.val + q.val) :
    (V3 m ρ c main_v0 : S6144x5120.Idx → EReal) (ix2 R k) = (m ((c : Thread nD τ).loc main_arg0) : Vec Ideal S12x512x5120 .fp8e4m3) (ix3 b q k) := by
  rw [V3_v0]
  exact flat_x _ b q R k h

theorem v1_apply (b : Fin 12) (q : Fin 512) (i : Fin 16) (r : Fin 384) (h : 384 * i.val + r.val = 512 * b.val + q.val) :
    (V3 m ρ c main_v1 : S16x1x384.Idx → EReal) (ix3 i 0 r) = (m ((c : Thread nD τ).loc main_arg1) : Vec Ideal S12x512 .f32) (ix2 b q) := by
  rw [V3_v1]
  exact flat_s _ b q i r h

theorem v2_apply (v : Fin 32000) (g : Fin 160) (g' : Fin 256) (h : g'.val = g.val) :
    (V2 m ρ c main_v2 : S32000x256.Idx → BitVec 8) (ix2 v g') = (m ((c : Thread nD τ).loc main_arg3) : S32000x160.Idx → BitVec 8) (ix2 v g) := by
  have e : V2 m ρ c main_v2 = _ := W2_v2 m ρ c
  rw [e, W1_args m ρ c main_arg3 (by decide)]
  refine pad_apply_of_inside _ _ _ _ _ _ _ _ _ fun a => ?_
  match a with
  | ⟨0, _⟩ => show v.val = 0 + v.val * (0 + 1); omega
  | ⟨1, _⟩ => show g'.val = 0 + g.val * (0 + 1); omega

/-! ## After the calls: three reshapes -/

theorem W5_v5 : W5 m ρ c (Proc.devRef .tc main_v5)
    = shapeCast S12x512x32000 (codesArr (V3 m ρ c main_v0) (V3 m ρ c main_v1) (V3 m ρ c main_v3) : Vec Ideal S6144x32000 .fp8e5m2) shapeCasts_S6144x32000_S12x512x32000 := by
  rw [← arr3 (V3 m ρ) c, ← W4_arr m ρ c 3]
  unfold W5
  generalize W4 m ρ c = V
  after_results; rfl
theorem W5_v6 : W5 m ρ c (Proc.devRef .tc main_v6)
    = shapeCast S12x512 (lseArr (V3 m ρ c main_v0) (V3 m ρ c main_v1) (V3 m ρ c main_v3) : Vec Ideal S16x1x384 .f32) shapeCasts_S16x1x384_S12x512 := by
  rw [← arr4 (V3 m ρ) c, ← W4_arr m ρ c 4]
  unfold W5
  generalize W4 m ρ c = V
  after_results; rfl
theorem W5_v7 : W5 m ρ c (Proc.devRef .tc main_v7)
    = shapeCast S12x512 (errArr (V3 m ρ c main_v0) (V3 m ρ c main_v1) (V3 m ρ c main_v3) : Vec Ideal S16x1x384 .f32) shapeCasts_S16x1x384_S12x512 := by
  rw [← arr5 (V3 m ρ) c, ← W4_arr m ρ c 5]
  unfold W5
  generalize W4 m ρ c = V
  after_results; rfl

/-! ## The program's results are the reference's -/

section Results
variable (hn : ∀ (v : Fin 32000) (g : Fin 160), 1 ≤ ((m ((c : Thread nD τ).loc main_arg3) : S32000x160.Idx → BitVec 8) (ix2 v g)).toNat
  ∧ ((m ((c : Thread nD τ).loc main_arg3) : S32000x160.Idx → BitVec 8) (ix2 v g)).toNat ≤ 254)
include hn

/-- The reference's logits are those of the kernel's run. -/
theorem ref_logit (b : Fin 12) (q : Fin 512) (i : ℕ) (r : Fin 384) (hT : 384 * i + r.val = 512 * b.val + q.val) (v : Fin 32000) :
    Cert.ReferenceIdeal.Val.refLogit (m ((c : Thread nD τ).loc main_arg0)) (m ((c : Thread nD τ).loc main_arg1)) (m ((c : Thread nD τ).loc main_arg2))
        (m ((c : Thread nD τ).loc main_arg3)) b q v
      = zV (V3 m ρ) c i r v.val := by
  unfold zV
  rw [V3_v3]
  exact logit_eq _ _ _ _ _ _ _ (v0_apply m ρ c) (v1_apply m ρ c) (v2_apply m ρ c) hn b q i r hT v

theorem codes_eq : (W5 m ρ c (Proc.devRef .tc main_v5) : S12x512x32000.Idx → EReal)
    = Cert.ReferenceIdeal.Value.G4 (F := Ideal) (m ((c : Thread nD τ).loc main_arg0)) (m ((c : Thread nD τ).loc main_arg1)) (m ((c : Thread nD τ).loc main_arg2))
        (m ((c : Thread nD τ).loc main_arg3)) := by
  rw [W5_v5]
  funext y
  obtain ⟨b, q, v, rfl⟩ : ∃ (b : Fin 12) (q : Fin 512) (v : Fin 32000), y = ix3 b q v := ⟨y 0, y 1, y 2, eq_ix3 y⟩
  have hb := b.isLt
  have hq := q.isLt
  refine Eq.trans ?_ (Cert.ReferenceIdeal.Val.G4_apply
    (ref_logit m ρ c hn b q ((512 * b.val + q.val) / 384) ⟨(512 * b.val + q.val) % 384, by omega⟩ (by show 384 * _ + _ % 384 = _; omega)) v).symm
  refine (shapeCast_apply _ _ _ (ix2 ⟨512 * b.val + q.val, by omega⟩ v : S6144x32000.Idx) ?_).trans rfl
  rw [Shape.rowMajor_val_three, Shape.rowMajor_val_two]
  show (512 * b.val + q.val) * 32000 + v.val = (b.val * 512 + q.val) * 32000 + v.val
  omega

theorem lse_eq : (W5 m ρ c (Proc.devRef .tc main_v6) : S12x512.Idx → EReal)
    = Cert.ReferenceIdeal.Value.G5 (F := Ideal) (m ((c : Thread nD τ).loc main_arg0)) (m ((c : Thread nD τ).loc main_arg1)) (m ((c : Thread nD τ).loc main_arg2))
        (m ((c : Thread nD τ).loc main_arg3)) := by
  rw [W5_v6]
  funext y
  obtain ⟨b, q, rfl⟩ : ∃ (b : Fin 12) (q : Fin 512), y = ix2 b q := ⟨y 0, y 1, eq_ix2 y⟩
  have hb := b.isLt
  have hq := q.isLt
  refine Eq.trans ?_ (Cert.ReferenceIdeal.Val.G5_apply
    (ref_logit m ρ c hn b q ((512 * b.val + q.val) / 384) ⟨(512 * b.val + q.val) % 384, by omega⟩ (by show 384 * _ + _ % 384 = _; omega))).symm
  refine (shapeCast_apply _ _ _ (ix3 ⟨(512 * b.val + q.val) / 384, by omega⟩ 0 ⟨(512 * b.val + q.val) % 384, by omega⟩ : S16x1x384.Idx) ?_).trans rfl
  rw [Shape.rowMajor_val_three, Shape.rowMajor_val_two]
  show ((512 * b.val + q.val) / 384 * 1 + 0) * 384 + (512 * b.val + q.val) % 384 = b.val * 512 + q.val
  omega

theorem err_eq : (W5 m ρ c (Proc.devRef .tc main_v7) : S12x512.Idx → EReal)
    = Cert.ReferenceIdeal.Value.G6 (F := Ideal) (m ((c : Thread nD τ).loc main_arg0)) (m ((c : Thread nD τ).loc main_arg1)) (m ((c : Thread nD τ).loc main_arg2))
        (m ((c : Thread nD τ).loc main_arg3)) := by
  rw [W5_v7]
  funext y
  obtain ⟨b, q, rfl⟩ : ∃ (b : Fin 12) (q : Fin 512), y = ix2 b q := ⟨y 0, y 1, eq_ix2 y⟩
  have hb := b.isLt
  have hq := q.isLt
  refine Eq.trans ?_ (Cert.ReferenceIdeal.Val.G6_apply
    (ref_logit m ρ c hn b q ((512 * b.val + q.val) / 384) ⟨(512 * b.val + q.val) % 384, by omega⟩ (by show 384 * _ + _ % 384 = _; omega))).symm
  refine (shapeCast_apply _ _ _ (ix3 ⟨(512 * b.val + q.val) / 384, by omega⟩ 0 ⟨(512 * b.val + q.val) % 384, by omega⟩ : S16x1x384.Idx) ?_).trans rfl
  rw [Shape.rowMajor_val_three, Shape.rowMajor_val_two]
  show ((512 * b.val + q.val) / 384 * 1 + 0) * 384 + (512 * b.val + q.val) % 384 = b.val * 512 + q.val
  omega

end Results

end Cert.KernelIdeal.Val

end
-- ==== Proof.ValuePre.lean ====
/- What the precondition says of one block exponent. -/
module

public import proofs.«01_k».proof.Pre_block_scales_are_normal
public import Idealize.ShloMosaic.Lib.Pointwise

@[expose] public section

set_option maxRecDepth 16384

noncomputable section

namespace Cert.KernelIdeal.Val

open Idealize.ShloMosaic

theorem byte_between (e : BitVec 8) (h : IntOp.andi (IntOp.cmpi .uge e 1#8) (IntOp.cmpi .ule e 254#8) = 1#1) : 1 ≤ e.toNat ∧ e.toNat ≤ 254 := by
  have hh : ∀ e : Fin 256, IntOp.andi (IntOp.cmpi .uge (BitVec.ofFin e) 1#8) (IntOp.cmpi .ule (BitVec.ofFin e) 254#8) = 1#1
      → 1 ≤ e.val ∧ e.val ≤ 254 := by decide +kernel
  exact hh e.toFin h

/-- Under the precondition every block exponent is between 1 and 254. -/
theorem scales_between [Cert.Pre_block_scales_are_normal.Facts] (x : FVec Ideal Cert.Pre_block_scales_are_normal.S12x512x5120 .fp8e4m3)
    (xs : FVec Ideal Cert.Pre_block_scales_are_normal.S12x512 .f32) (wc : IVec Cert.Pre_block_scales_are_normal.S32000x2560 8)
    (ex : IVec Cert.Pre_block_scales_are_normal.S32000x160 8) (h : Cert.Pre_block_scales_are_normal.fn x xs wc ex = fun _ => 1#1)
    (v : Fin 32000) (g : Fin 160) : 1 ≤ (ex (ix2 v g)).toNat ∧ (ex (ix2 v g)).toNat ≤ 254 :=
  byte_between _ (congrFun h (ix2 v g))

end Cert.KernelIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_block_scales_are_normal
public import proofs.«01_k».proof.Proof.RoundedRun
public import proofs.«01_k».proof.Proof.IdealRun
public import proofs.«01_k».proof.Proof.ValueHost
public import proofs.«01_k».proof.Proof.ValuePre
public import Idealize.ShloMosaic.Adequacy
public import Idealize.ShloMosaic.Init

@[expose] public section

noncomputable section

namespace Cert.Proof

open Idealize.ShloMosaic Idealize.SL.Sem Cert.Kernel

/-- The ideal kernel and the reference end with equal codes, log-sum-exps and errors. -/
theorem algebraic : Cert.algebraic_KernelIdeal_ReferenceIdeal_pre_block_scales_are_normal (hKernelIdeal := Cert.KernelIdeal.Gen.facts)
    (hReferenceIdeal := Cert.ReferenceIdeal.Gen.facts) (hPre_block_scales_are_normal := Cert.Pre_block_scales_are_normal.Gen.facts) := by
  intro m g m' g' hpre hagree
  have hn := fun c : Dev Cert.KernelIdeal.nD => Cert.KernelIdeal.Val.scales_between (ex := m ((c.tc : Thread Cert.KernelIdeal.nD Cert.KernelIdeal.τ).loc Cert.KernelIdeal.main_arg3)) _ _ _ (hpre c)
  refine ⟨fun c => Cert.KernelIdeal.Gen.W5 m g c (Proc.devRef .tc Cert.KernelIdeal.main_v5), fun c => Cert.KernelIdeal.Gen.W5 m g c (Proc.devRef .tc Cert.KernelIdeal.main_v6),
    fun c => Cert.KernelIdeal.Gen.W5 m g c (Proc.devRef .tc Cert.KernelIdeal.main_v7), ?_, ?_⟩
  · exact (θ_run _ _ _).mono (fun r h c =>
      ⟨h.1 c _ (Cert.KernelIdeal.Gen.mem_uc Cert.KernelIdeal.main_v5 (by decide)),
       h.1 c _ (Cert.KernelIdeal.Gen.mem_uc Cert.KernelIdeal.main_v6 (by decide)),
       h.1 c _ (Cert.KernelIdeal.Gen.mem_uc Cert.KernelIdeal.main_v7 (by decide)),
       (h.1 c _ (Cert.KernelIdeal.Gen.mem_uc Cert.KernelIdeal.main_arg0 (by decide))).trans (Cert.KernelIdeal.Gen.W5_main_arg0 m g c),
       (h.1 c _ (Cert.KernelIdeal.Gen.mem_uc Cert.KernelIdeal.main_arg1 (by decide))).trans (Cert.KernelIdeal.Gen.W5_main_arg1 m g c),
       (h.1 c _ (Cert.KernelIdeal.Gen.mem_uc Cert.KernelIdeal.main_arg2 (by decide))).trans (Cert.KernelIdeal.Gen.W5_main_arg2 m g c),
       (h.1 c _ (Cert.KernelIdeal.Gen.mem_uc Cert.KernelIdeal.main_arg3 (by decide))).trans (Cert.KernelIdeal.Gen.W5_main_arg3 m g c)⟩)
      (Cert.KernelIdeal.Gen.run_all m g)
  · refine (θ_run _ _ _).mono (fun r h c => ?_) (Cert.ReferenceIdeal.Value.run m' g')
    obtain ⟨h0, h1, h2, ha⟩ := h c
    obtain ⟨e0, e1, e2, e3⟩ := hagree c
    refine ⟨h0.trans ?_, h1.trans ?_, h2.trans ?_, ha⟩
    · rw [e0, e1, e2, e3]; exact (Cert.KernelIdeal.Val.codes_eq m g c (hn c)).symm
    · rw [e0, e1, e2, e3]; exact (Cert.KernelIdeal.Val.lse_eq m g c (hn c)).symm
    · rw [e0, e1, e2, e3]; exact (Cert.KernelIdeal.Val.err_eq m g c (hn c)).symm

theorem claim : Cert.Claim :=
  ⟨Cert.Kernel.Gen.facts, Cert.KernelIdeal.Gen.facts, Cert.ReferenceIdeal.Gen.facts, Cert.Pre_block_scales_are_normal.Gen.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    algebraic⟩

end Cert.Proof

end
